-- ==== Defs.lean ====
def Pre_Kernel [hPre_tokens_in_vocab : Cert.Pre_tokens_in_vocab.Facts] (m : (ℓ : Loc Cert.Kernel.nD Cert.Kernel.τ Cert.Kernel.sig) → Buf (Elt Bits) ℓ) : Prop :=
  ∀ c : Dev Cert.Kernel.nD,
    (Cert.Pre_tokens_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_tokens_in_vocab : Cert.Pre_tokens_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocab [hPre_tokens_in_vocab : Cert.Pre_tokens_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_tokens_in_vocab : Cert.Pre_tokens_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tokens_in_vocab [hReferenceIdeal : Cert.ReferenceIdeal.Facts] [hPre_tokens_in_vocab : Cert.Pre_tokens_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tokens_in_vocab : Cert.Pre_tokens_in_vocab.Facts),
    quiescent_Kernel (hKernel := hKernel) (hPre_tokens_in_vocab := hPre_tokens_in_vocab)
    ∧ quiescent_KernelIdeal (hKernelIdeal := hKernelIdeal) (hPre_tokens_in_vocab := hPre_tokens_in_vocab)
    ∧ quiescent_ReferenceIdeal (hReferenceIdeal := hReferenceIdeal)
    ∧ quiescent_ReferenceIdeal_pre_tokens_in_vocab (hReferenceIdeal := hReferenceIdeal) (hPre_tokens_in_vocab := hPre_tokens_in_vocab)
    ∧ preserves_Kernel_KernelIdeal
    ∧ algebraic_KernelIdeal_ReferenceIdeal (hKernelIdeal := hKernelIdeal) (hReferenceIdeal := hReferenceIdeal) (hPre_tokens_in_vocab := hPre_tokens_in_vocab)
-- ==== Pre_tokens_in_vocab.lean ====
abbrev S200x1024 : Shape := ⟨2, ![200, 1024]⟩
abbrev S100000x128 : Shape := ⟨2, ![100000, 128]⟩
abbrev S512x128 : Shape := ⟨2, ![512, 128]⟩
abbrev S512 : Shape := ⟨1, ![512]⟩
abbrev S_ : Shape := ⟨0, ![]⟩

class Facts : Prop where
  bcast_S_S200x1024 : S_.BroadcastsInDim S200x1024 (![] : Fin 0 → Fin S200x1024.rank)
  reducesTo_S200x1024_S_d0_1 : S200x1024.ReducesTo [0, 1] S_
  h_S_ : 0 < S_.numel

variable [Facts]

def fn {F : FTy → Type} [FloatOps F] (main_arg0 : IVec S200x1024 32) (main_arg1 : FVec F S100000x128 .f32) (main_arg2 : FVec F S512x128 .f32) (main_arg3 : FVec F S512x128 .f32) (main_arg4 : FVec F S512 .f32) (main_arg5 : FVec F S512 .f32) (main_arg6 : FVec F S512x128 .f32) (main_arg7 : FVec F S512x128 .f32) (main_arg8 : FVec F S512 .f32) (main_arg9 : FVec F S512 .f32) : IVec S_ 1 :=
  let main_c : IVec S_ 32 := constantI S_ 32 0#32
  let main_v0 : IVec S200x1024 32 := broadcastInDim S200x1024 ![] bcast_S_S200x1024 main_c
  let main_v1 : IVec S200x1024 1 := cmpi .sge main_arg0 main_v0
  let main_c_0 : IVec S_ 32 := constantI S_ 32 100000#32
  let main_v2 : IVec S200x1024 32 := broadcastInDim S200x1024 ![] bcast_S_S200x1024 main_c_0
  let main_v3 : IVec S200x1024 1 := cmpi .slt main_arg0 main_v2
  let main_v4 : IVec S200x1024 1 := andi main_v1 main_v3
  let main_c_1 : IVec S_ 1 := constantI S_ 1 1#1
  let main_v5 : IVec S_ 1 := (fun x v => Host.reduce IntOp.andi x v reducesTo_S200x1024_S_d0_1 h_S_) main_v4 main_c_1
  main_v5
-- ==== Kernel.lean ====
abbrev S200x1024 : Shape := ⟨2, ![200, 1024]⟩
abbrev S100000x128 : Shape := ⟨2, ![100000, 128]⟩
abbrev S512x128 : Shape := ⟨2, ![512, 128]⟩
abbrev S512 : Shape := ⟨1, ![512]⟩
abbrev S48x1024 : Shape := ⟨2, ![48, 1024]⟩
abbrev S96x1024 : Shape := ⟨2, ![96, 1024]⟩
abbrev S98304 : Shape := ⟨1, ![98304]⟩
abbrev S104x1024 : Shape := ⟨2, ![104, 1024]⟩
abbrev S106496 : Shape := ⟨1, ![106496]⟩
abbrev S32x24x128 : Shape := ⟨3, ![32, 24, 128]⟩
abbrev S98304x128 : Shape := ⟨2, ![98304, 128]⟩
abbrev S24x128 : Shape := ⟨2, ![24, 128]⟩
abbrev S128x128 : Shape := ⟨2, ![128, 128]⟩
abbrev S_ : Shape := ⟨0, ![]⟩
abbrev S1x24x128 : Shape := ⟨3, ![1, 24, 128]⟩
abbrev S1x128 : Shape := ⟨2, ![1, 128]⟩
abbrev S128 : Shape := ⟨1, ![128]⟩
abbrev S96x1024x128 : Shape := ⟨3, ![96, 1024, 128]⟩
abbrev S32x26x128 : Shape := ⟨3, ![32, 26, 128]⟩
abbrev S106496x128 : Shape := ⟨2, ![106496, 128]⟩
abbrev S26x128 : Shape := ⟨2, ![26, 128]⟩
abbrev S1x26x128 : Shape := ⟨3, ![1, 26, 128]⟩
abbrev S104x1024x128 : Shape := ⟨3, ![104, 1024, 128]⟩
abbrev S1x512 : Shape := ⟨2, ![1, 512]⟩
abbrev S128x512 : Shape := ⟨2, ![128, 512]⟩
abbrev S256x512 : Shape := ⟨2, ![256, 512]⟩
abbrev S1024x128 : Shape := ⟨2, ![1024, 128]⟩
abbrev S8x1024x128 : Shape := ⟨3, ![8, 1024, 128]⟩
abbrev S1024x256 : Shape := ⟨2, ![1024, 256]⟩
abbrev S1x1024x128 : Shape := ⟨3, ![1, 1024, 128]⟩
abbrev S1024x512 : Shape := ⟨2, ![1024, 512]⟩

abbrev nBuf : Table → Nat
  | .hbm => 66
  | .local .tc .vmem => 60
  | .local .scVector .vmem => 6
  | _ => 0

abbrev bufTy : (tb : Table) → Fin (nBuf tb) → BufTy
  | .hbm, ⟨0, _⟩ => ⟨S200x1024, .i32⟩
  | .hbm, ⟨1, _⟩ => ⟨S100000x128, .f32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S512x128, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S48x1024, .i32⟩
  | .hbm, ⟨11, _⟩ => ⟨S48x1024, .i32⟩
  | .hbm, ⟨12, _⟩ => ⟨S96x1024, .i32⟩
  | .hbm, ⟨13, _⟩ => ⟨S98304, .i32⟩
  | .hbm, ⟨14, _⟩ => ⟨S104x1024, .i32⟩
  | .hbm, ⟨15, _⟩ => ⟨S106496, .i32⟩
  | .hbm, ⟨16, _⟩ => ⟨S32x24x128, .i32⟩
  | .hbm, ⟨17, _⟩ => ⟨S98304x128, .f32⟩
  | .hbm, ⟨18, _⟩ => ⟨S96x1024x128, .f32⟩
  | .hbm, ⟨19, _⟩ => ⟨S32x26x128, .i32⟩
  | .hbm, ⟨20, _⟩ => ⟨S106496x128, .f32⟩
  | .hbm, ⟨21, _⟩ => ⟨S104x1024x128, .f32⟩
  | .hbm, ⟨22, _⟩ => ⟨S_, .f32⟩
  | .hbm, ⟨23, _⟩ => ⟨S1x128, .f32⟩
  | .hbm, ⟨24, _⟩ => ⟨S_, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x512, .f32⟩
  | .hbm, ⟨31, _⟩ => ⟨S128x512, .f32⟩
  | .hbm, ⟨32, _⟩ => ⟨S128x512, .f32⟩
  | .hbm, ⟨33, _⟩ => ⟨S256x512, .f32⟩
  | .hbm, ⟨34, _⟩ => ⟨S256x512, .f32⟩
  | .hbm, ⟨35, _⟩ => ⟨S256x512, .f32⟩
  | .hbm, ⟨36, _⟩ => ⟨S256x512, .bf16⟩
  | .hbm, ⟨37, _⟩ => ⟨S512, .f32⟩
  | .hbm, ⟨38, _⟩ => ⟨S1x512, .f32⟩
  | .hbm, ⟨39, _⟩ => ⟨S1x512, .f32⟩
  | .hbm, ⟨40, _⟩ => ⟨S1x512, .bf16⟩
  | .hbm, ⟨41, _⟩ => ⟨S128x512, .f32⟩
  | .hbm, ⟨42, _⟩ => ⟨S128x512, .f32⟩
  | .hbm, ⟨43, _⟩ => ⟨S256x512, .f32⟩
  | .hbm, ⟨44, _⟩ => ⟨S256x512, .f32⟩
  | .hbm, ⟨45, _⟩ => ⟨S256x512, .f32⟩
  | .hbm, ⟨46, _⟩ => ⟨S256x512, .bf16⟩
  | .hbm, ⟨47, _⟩ => ⟨S512, .f32⟩
  | .hbm, ⟨48, _⟩ => ⟨S1x512, .f32⟩
  | .hbm, ⟨49, _⟩ => ⟨S1x512, .f32⟩
  | .hbm, ⟨50, _⟩ => ⟨S1x512, .bf16⟩
  | .hbm, ⟨51, _⟩ => ⟨S_, .f32⟩
  | .hbm, ⟨52, _⟩ => ⟨S1024x128, .f32⟩
  | .hbm, ⟨53, _⟩ => ⟨S1024x128, .f32⟩
  | .hbm, ⟨54, _⟩ => ⟨S1024x128, .f32⟩
  | .hbm, ⟨55, _⟩ => ⟨S1024x128, .f32⟩
  | .hbm, ⟨56, _⟩ => ⟨S1024x128, .f32⟩
  | .hbm, ⟨57, _⟩ => ⟨S1024x128, .f32⟩
  | .hbm, ⟨58, _⟩ => ⟨S1024x128, .f32⟩
  | .hbm, ⟨59, _⟩ => ⟨S1024x128, .f32⟩
  | .hbm, ⟨60, _⟩ => ⟨S1024x128, .f32⟩
  | .hbm, ⟨61, _⟩ => ⟨S1024x128, .f32⟩
  | .hbm, ⟨62, _⟩ => ⟨S1024x128, .f32⟩
  | .hbm, ⟨63, _⟩ => ⟨S1024x128, .f32⟩
  | .hbm, ⟨64, _⟩ => ⟨S1024x128, .f32⟩
  | .hbm, ⟨65, _⟩ => ⟨S1024x256, .f32⟩
  | .local .tc .vmem, ⟨0, _⟩ => ⟨S8x1024x128, .f32⟩
  | .local .tc .vmem, ⟨1, _⟩ => ⟨S8x1024x128, .f32⟩
  | .local .tc .vmem, ⟨2, _⟩ => ⟨S8x1024x128, .f32⟩
  | .local .tc .vmem, ⟨3, _⟩ => ⟨S8x1024x128, .f32⟩
  | .local .tc .vmem, ⟨4, _⟩ => ⟨S256x512, .bf16⟩
  | .local .tc .vmem, ⟨5, _⟩ => ⟨S1x512, .bf16⟩
  | .local .tc .vmem, ⟨6, _⟩ => ⟨S256x512, .bf16⟩
  | .local .tc .vmem, ⟨7, _⟩ => ⟨S1x512, .bf16⟩
  | .local .tc .vmem, ⟨8, _⟩ => ⟨S1024x128, .f32⟩
  | .local .tc .vmem, ⟨9, _⟩ => ⟨S1024x128, .f32⟩
  | .local .tc .vmem, ⟨10, _⟩ => ⟨S1024x128, .f32⟩
  | .local .tc .vmem, ⟨11, _⟩ => ⟨S1024x128, .f32⟩
  | .local .tc .vmem, ⟨12, _⟩ => ⟨S1024x128, .f32⟩
  | .local .tc .vmem, ⟨13, _⟩ => ⟨S1024x128, .f32⟩
  | .local .tc .vmem, ⟨14, _⟩ => ⟨S1024x128, .f32⟩
  | .local .tc .vmem, ⟨15, _⟩ => ⟨S1024x128, .f32⟩
  | .local .tc .vmem, ⟨16, _⟩ => ⟨S1024x256, .bf16⟩
  | .local .tc .vmem, ⟨17, _⟩ => ⟨S1024x128, .f32⟩
  | .local .tc .vmem, ⟨18, _⟩ => ⟨S1024x256, .bf16⟩
  | .local .tc .vmem, ⟨19, _⟩ => ⟨S1024x128, .f32⟩
  | .local .tc .vmem, ⟨20, _⟩ => ⟨S8x1024x128, .f32⟩
  | .local .tc .vmem, ⟨21, _⟩ => ⟨S8x1024x128, .f32⟩
  | .local .tc .vmem, ⟨22, _⟩ => ⟨S8x1024x128, .f32⟩
  | .local .tc .vmem, ⟨23, _⟩ => ⟨S8x1024x128, .f32⟩
  | .local .tc .vmem, ⟨24, _⟩ => ⟨S256x512, .bf16⟩
  | .local .tc .vmem, ⟨25, _⟩ => ⟨S1x512, .bf16⟩
  | .local .tc .vmem, ⟨26, _⟩ => ⟨S256x512, .bf16⟩
  | .local .tc .vmem, ⟨27, _⟩ => ⟨S1x512, .bf16⟩
  | .local .tc .vmem, ⟨28, _⟩ => ⟨S1024x128, .f32⟩
  | .local .tc .vmem, ⟨29, _⟩ => ⟨S1024x128, .f32⟩
  | .local .tc .vmem, ⟨30, _⟩ => ⟨S1024x128, .f32⟩
  | .local .tc .vmem, ⟨31, _⟩ => ⟨S1024x128, .f32⟩
  | .local .tc .vmem, ⟨32, _⟩ => ⟨S1024x128, .f32⟩
  | .local .tc .vmem, ⟨33, _⟩ => ⟨S1024x128, .f32⟩
  | .local .tc .vmem, ⟨34, _⟩ => ⟨S1024x128, .f32⟩
  | .local .tc .vmem, ⟨35, _⟩ => ⟨S1024x128, .f32⟩
  | .local .tc .vmem, ⟨36, _⟩ => ⟨S1024x256, .bf16⟩
  | .local .tc .vmem, ⟨37, _⟩ => ⟨S1024x128, .f32⟩
  | .local .tc .vmem, ⟨38, _⟩ => ⟨S1024x256, .bf16⟩
  | .local .tc .vmem, ⟨39, _⟩ => ⟨S1024x128, .f32⟩
  | .local .tc .vmem, ⟨40, _⟩ => ⟨S8x1024x128, .f32⟩
  | .local .tc .vmem, ⟨41, _⟩ => ⟨S8x1024x128, .f32⟩
  | .local .tc .vmem, ⟨42, _⟩ => ⟨S8x1024x128, .f32⟩
  | .local .tc .vmem, ⟨43, _⟩ => ⟨S8x1024x128, .f32⟩
  | .local .tc .vmem, ⟨44, _⟩ => ⟨S256x512, .bf16⟩
  | .local .tc .vmem, ⟨45, _⟩ => ⟨S1x512, .bf16⟩
  | .local .tc .vmem, ⟨46, _⟩ => ⟨S256x512, .bf16⟩
  | .local .tc .vmem, ⟨47, _⟩ => ⟨S1x512, .bf16⟩
  | .local .tc .vmem, ⟨48, _⟩ => ⟨S1024x128, .f32⟩
  | .local .tc .vmem, ⟨49, _⟩ => ⟨S1024x128, .f32⟩
  | .local .tc .vmem, ⟨50, _⟩ => ⟨S1024x128, .f32⟩
  | .local .tc .vmem, ⟨51, _⟩ => ⟨S1024x128, .f32⟩
  | .local .tc .vmem, ⟨52, _⟩ => ⟨S1024x128, .f32⟩
  | .local .tc .vmem, ⟨53, _⟩ => ⟨S1024x128, .f32⟩
  | .local .tc .vmem, ⟨54, _⟩ => ⟨S1024x128, .f32⟩
  | .local .tc .vmem, ⟨55, _⟩ => ⟨S1024x128, .f32⟩
  | .local .tc .vmem, ⟨56, _⟩ => ⟨S1024x256, .bf16⟩
  | .local .tc .vmem, ⟨57, _⟩ => ⟨S1024x128, .f32⟩
  | .local .tc .vmem, ⟨58, _⟩ => ⟨S1024x256, .bf16⟩
  | .local .tc .vmem, ⟨59, _⟩ => ⟨S1024x128, .f32⟩
  | .local .scVector .vmem, ⟨0, _⟩ => ⟨S24x128, .i32⟩
  | .local .scVector .vmem, ⟨1, _⟩ => ⟨S128x128, .f32⟩
  | .local .scVector .vmem, ⟨2, _⟩ => ⟨S128x128, .f32⟩
  | .local .scVector .vmem, ⟨3, _⟩ => ⟨S26x128, .i32⟩
  | .local .scVector .vmem, ⟨4, _⟩ => ⟨S128x128, .f32⟩
  | .local .scVector .vmem, ⟨5, _⟩ => ⟨S128x128, .f32⟩
  | _, _ => ⟨S200x1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 58 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTables nBuf rfl bufTy 4 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38_0 : Ref sig .tc := ⟨.hbm, 53, rfl⟩
abbrev main_v38_1 : Ref sig .tc := ⟨.hbm, 54, rfl⟩
abbrev main_v38_2 : Ref sig .tc := ⟨.hbm, 55, rfl⟩
abbrev main_v38_3 : Ref sig .tc := ⟨.hbm, 56, rfl⟩
abbrev main_v39_0 : Ref sig .tc := ⟨.hbm, 57, rfl⟩
abbrev main_v39_1 : Ref sig .tc := ⟨.hbm, 58, rfl⟩
abbrev main_v39_2 : Ref sig .tc := ⟨.hbm, 59, rfl⟩
abbrev main_v39_3 : Ref sig .tc := ⟨.hbm, 60, rfl⟩
abbrev main_v40_0 : Ref sig .tc := ⟨.hbm, 61, rfl⟩
abbrev main_v40_1 : Ref sig .tc := ⟨.hbm, 62, rfl⟩
abbrev main_v40_2 : Ref sig .tc := ⟨.hbm, 63, rfl⟩
abbrev main_v40_3 : Ref sig .tc := ⟨.hbm, 64, rfl⟩
abbrev main_v41 : Ref sig .tc := ⟨.hbm, 65, rfl⟩
abbrev main_arg1_scv : Ref sig .scVector := ⟨.hbm, 1, rfl⟩
abbrev main_v6_scv : Ref sig .scVector := ⟨.hbm, 16, rfl⟩
abbrev main_v7_scv : Ref sig .scVector := ⟨.hbm, 17, rfl⟩
abbrev main_v9_scv : Ref sig .scVector := ⟨.hbm, 19, rfl⟩
abbrev main_v10_scv : Ref sig .scVector := ⟨.hbm, 20, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg5_0 : Ref sig .tc := ⟨.vmem, 7, rfl⟩
abbrev cc2_stg6_0 : Ref sig .tc := ⟨.vmem, 8, rfl⟩
abbrev cc2_stg7_0 : Ref sig .tc := ⟨.vmem, 9, rfl⟩
abbrev cc2_stg8_0 : Ref sig .tc := ⟨.vmem, 10, rfl⟩
abbrev cc2_stg9_0 : Ref sig .tc := ⟨.vmem, 11, rfl⟩
abbrev cc2_stg10_0 : Ref sig .tc := ⟨.vmem, 12, rfl⟩
abbrev cc2_stg11_0 : Ref sig .tc := ⟨.vmem, 13, rfl⟩
abbrev cc2_stg12_0 : Ref sig .tc := ⟨.vmem, 14, rfl⟩
abbrev cc2_stg13_0 : Ref sig .tc := ⟨.vmem, 15, rfl⟩
abbrev cc2_scratch0 : Ref sig .tc := ⟨.vmem, 16, rfl⟩
abbrev cc2_scratch1 : Ref sig .tc := ⟨.vmem, 17, rfl⟩
abbrev cc2_scratch2 : Ref sig .tc := ⟨.vmem, 18, rfl⟩
abbrev cc2_scratch3 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg10_0 : Ref sig .tc := ⟨.vmem, 32, rfl⟩
abbrev cc3_stg11_0 : Ref sig .tc := ⟨.vmem, 33, rfl⟩
abbrev cc3_stg12_0 : Ref sig .tc := ⟨.vmem, 34, rfl⟩
abbrev cc3_stg13_0 : Ref sig .tc := ⟨.vmem, 35, rfl⟩
abbrev cc3_scratch0 : Ref sig .tc := ⟨.vmem, 36, rfl⟩
abbrev cc3_scratch1 : Ref sig .tc := ⟨.vmem, 37, rfl⟩
abbrev cc3_scratch2 : Ref sig .tc := ⟨.vmem, 38, rfl⟩
abbrev cc3_scratch3 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg7_0 : Ref sig .tc := ⟨.vmem, 49, rfl⟩
abbrev cc4_stg8_0 : Ref sig .tc := ⟨.vmem, 50, rfl⟩
abbrev cc4_stg9_0 : Ref sig .tc := ⟨.vmem, 51, rfl⟩
abbrev cc4_stg10_0 : Ref sig .tc := ⟨.vmem, 52, rfl⟩
abbrev cc4_stg11_0 : Ref sig .tc := ⟨.vmem, 53, rfl⟩
abbrev cc4_stg12_0 : Ref sig .tc := ⟨.vmem, 54, rfl⟩
abbrev cc4_stg13_0 : Ref sig .tc := ⟨.vmem, 55, rfl⟩
abbrev cc4_scratch0 : Ref sig .tc := ⟨.vmem, 56, rfl⟩
abbrev cc4_scratch1 : Ref sig .tc := ⟨.vmem, 57, rfl⟩
abbrev cc4_scratch2 : Ref sig .tc := ⟨.vmem, 58, rfl⟩
abbrev cc4_scratch3 : Ref sig .tc := ⟨.vmem, 59, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem10_0 : DmaSem sig := 22
abbrev cc2_sem11_0 : DmaSem sig := 23
abbrev cc2_sem12_0 : DmaSem sig := 24
abbrev cc2_sem13_0 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem10_0 : DmaSem sig := 38
abbrev cc3_sem11_0 : DmaSem sig := 39
abbrev cc3_sem12_0 : DmaSem sig := 40
abbrev cc3_sem13_0 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem8_0 : DmaSem sig := 52
abbrev cc4_sem9_0 : DmaSem sig := 53
abbrev cc4_sem10_0 : DmaSem sig := 54
abbrev cc4_sem11_0 : DmaSem sig := 55
abbrev cc4_sem12_0 : DmaSem sig := 56
abbrev cc4_sem13_0 : DmaSem sig := 57
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14_r0 : BitVec 32 := 0#32
  let c0_i32_15_r0 : BitVec 32 := 0#32
  ![v1.toNat, 0, 0]
@[reducible] def k0_t1_loop : Scf.Loop 32 :=
  let c0_i32_7 : BitVec 32 := 0#32
  let c12_i32 : BitVec 32 := 12#32
  let v9 : BitVec 32 := Scalar.addi c0_i32_7 c12_i32
  let c1_i32_8 : BitVec 32 := 1#32
  ⟨c0_i32_7, v9, c1_i32_8⟩
def k0_off2 (k0_t1 : Fin k0_t1_loop.trips) (c0_i32_15 : BitVec 32) : Fin 2 → Nat :=
  let c0_i32_7 : BitVec 32 := 0#32
  let c1_i32_8 : BitVec 32 := 1#32
  let arg12 : BitVec 32 := Scf.iv c0_i32_7 c1_i32_8 k0_t1
  let c2_i32_14 : BitVec 32 := 2#32
  let v16 : BitVec 32 := Scalar.muli arg12 c2_i32_14
  let v17 : BitVec 32 := Scalar.addi v16 c0_i32_15
  let c0_i32_16 : BitVec 32 := 0#32
  ![v17.toNat, 0]
def k0_off3 (i : grid0.Coords) (k0_t1 : Fin k0_t1_loop.trips) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let c0_i32_7 : BitVec 32 := 0#32
  let c1_i32_8 : BitVec 32 := 1#32
  let arg12 : BitVec 32 := Scf.iv c0_i32_7 c1_i32_8 k0_t1
  let c2_i32_14 : BitVec 32 := 2#32
  let v16 : BitVec 32 := Scalar.muli arg12 c2_i32_14
  let v17 : BitVec 32 := Scalar.addi v16 c0_i32_15
  let c128_i32 : BitVec 32 := 128#32
  let v21 : BitVec 32 := Scalar.muli v17 c128_i32
  let v22 : BitVec 32 := Scalar.addi v2 v21
  let c0_i32_19 : BitVec 32 := 0#32
  ![v22.toNat, 0]
def k0_cond1 (k0_t1 : Fin k0_t1_loop.trips) : BitVec 1 :=
  let c0_i32_7 : BitVec 32 := 0#32
  let c1_i32_8 : BitVec 32 := 1#32
  let arg12 : BitVec 32 := Scf.iv c0_i32_7 c1_i32_8 k0_t1
  let c2_i32_14 : BitVec 32 := 2#32
  let v16 : BitVec 32 := Scalar.muli arg12 c2_i32_14
  let c0_i32_28 : BitVec 32 := 0#32
  let v33 : BitVec 32 := Scalar.addi v16 c0_i32_28
  let c2_i32_29 : BitVec 32 := 2#32
  let v34 : BitVec 32 := Scalar.addi v33 c2_i32_29
  let c24_i32 : BitVec 32 := 24#32
  let v35 : BitVec 1 := Scalar.cmpi .slt v34 c24_i32
  let v36 : BitVec 32 := Scalar.extui v35
  let c0_i32_30 : BitVec 32 := 0#32
  let v37 : BitVec 1 := Scalar.cmpi .ne v36 c0_i32_30
  v37

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let c0_i32_7 : BitVec 32 := 0#32
  let c1_i32_8 : BitVec 32 := 1#32
  let arg12 : BitVec 32 := Scf.iv c0_i32_7 c1_i32_8 k0_t1
  let c2_i32_14 : BitVec 32 := 2#32
  let v16 : BitVec 32 := Scalar.muli arg12 c2_i32_14
  let c0_i32_28 : BitVec 32 := 0#32
  let v33 : BitVec 32 := Scalar.addi v16 c0_i32_28
  let c2_i32_29 : BitVec 32 := 2#32
  let v34 : BitVec 32 := Scalar.addi v33 c2_i32_29
  let c2_i32_35 : BitVec 32 := 2#32
  let v43 : BitVec 32 := Scalar.subi v34 c2_i32_35
  let c128_i32_36 : BitVec 32 := 128#32
  let v44 : BitVec 32 := Scalar.muli v43 c128_i32_36
  let v45 : BitVec 32 := Scalar.addi v2 v44
  let c0_i32_37 : BitVec 32 := 0#32
  ![v45.toNat, 0]
def k0_off5 (k0_t1 : Fin k0_t1_loop.trips) : Fin 2 → Nat :=
  let c0_i32_7 : BitVec 32 := 0#32
  let c1_i32_8 : BitVec 32 := 1#32
  let arg12 : BitVec 32 := Scf.iv c0_i32_7 c1_i32_8 k0_t1
  let c2_i32_14 : BitVec 32 := 2#32
  let v16 : BitVec 32 := Scalar.muli arg12 c2_i32_14
  let c0_i32_28 : BitVec 32 := 0#32
  let v33 : BitVec 32 := Scalar.addi v16 c0_i32_28
  let c2_i32_29 : BitVec 32 := 2#32
  let v34 : BitVec 32 := Scalar.addi v33 c2_i32_29
  let c0_i32_39 : BitVec 32 := 0#32
  ![v34.toNat, 0]
def k0_cond2 (k0_t1 : Fin k0_t1_loop.trips) : BitVec 1 :=
  let c0_i32_7 : BitVec 32 := 0#32
  let c1_i32_8 : BitVec 32 := 1#32
  let arg12 : BitVec 32 := Scf.iv c0_i32_7 c1_i32_8 k0_t1
  let c2_i32_14 : BitVec 32 := 2#32
  let v16 : BitVec 32 := Scalar.muli arg12 c2_i32_14
  let c1_i32_31 : BitVec 32 := 1#32
  let v38 : BitVec 32 := Scalar.addi v16 c1_i32_31
  let c2_i32_32 : BitVec 32 := 2#32
  let v39 : BitVec 32 := Scalar.addi v38 c2_i32_32
  let c24_i32_33 : BitVec 32 := 24#32
  let v40 : BitVec 1 := Scalar.cmpi .slt v39 c24_i32_33
  let v41 : BitVec 32 := Scalar.extui v40
  let c0_i32_34 : BitVec 32 := 0#32
  let v42 : BitVec 1 := Scalar.cmpi .ne v41 c0_i32_34
  v42

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let c0_i32_7 : BitVec 32 := 0#32
  let c1_i32_8 : BitVec 32 := 1#32
  let arg12 : BitVec 32 := Scf.iv c0_i32_7 c1_i32_8 k0_t1
  let c2_i32_14 : BitVec 32 := 2#32
  let v16 : BitVec 32 := Scalar.muli arg12 c2_i32_14
  let c1_i32_31 : BitVec 32 := 1#32
  let v38 : BitVec 32 := Scalar.addi v16 c1_i32_31
  let c2_i32_32 : BitVec 32 := 2#32
  let v39 : BitVec 32 := Scalar.addi v38 c2_i32_32
  let c2_i32_35 : BitVec 32 := 2#32
  let v43 : BitVec 32 := Scalar.subi v39 c2_i32_35
  let c128_i32_36 : BitVec 32 := 128#32
  let v44 : BitVec 32 := Scalar.muli v43 c128_i32_36
  let v45 : BitVec 32 := Scalar.addi v2 v44
  let c0_i32_37 : BitVec 32 := 0#32
  ![v45.toNat, 0]
def k0_off7 (k0_t1 : Fin k0_t1_loop.trips) : Fin 2 → Nat :=
  let c0_i32_7 : BitVec 32 := 0#32
  let c1_i32_8 : BitVec 32 := 1#32
  let arg12 : BitVec 32 := Scf.iv c0_i32_7 c1_i32_8 k0_t1
  let c2_i32_14 : BitVec 32 := 2#32
  let v16 : BitVec 32 := Scalar.muli arg12 c2_i32_14
  let c1_i32_31 : BitVec 32 := 1#32
  let v38 : BitVec 32 := Scalar.addi v16 c1_i32_31
  let c2_i32_32 : BitVec 32 := 2#32
  let v39 : BitVec 32 := Scalar.addi v38 c2_i32_32
  let c0_i32_39 : BitVec 32 := 0#32
  ![v39.toNat, 0]
def k0_off8 (i : grid0.Coords) (c2816_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let v10 : BitVec 32 := Scalar.addi v2 c2816_i32
  let c0_i32_10 : BitVec 32 := 0#32
  ![v10.toNat, 0]
abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14_r0 : BitVec 32 := 0#32
  let c0_i32_15_r0 : BitVec 32 := 0#32
  ![v1.toNat, 0, 0]
@[reducible] def k1_t1_loop : Scf.Loop 32 :=
  let c0_i32_7 : BitVec 32 := 0#32
  let c13_i32 : BitVec 32 := 13#32
  let v9 : BitVec 32 := Scalar.addi c0_i32_7 c13_i32
  let c1_i32_8 : BitVec 32 := 1#32
  ⟨c0_i32_7, v9, c1_i32_8⟩
def k1_off2 (k1_t1 : Fin k1_t1_loop.trips) (c0_i32_15 : BitVec 32) : Fin 2 → Nat :=
  let c0_i32_7 : BitVec 32 := 0#32
  let c1_i32_8 : BitVec 32 := 1#32
  let arg12 : BitVec 32 := Scf.iv c0_i32_7 c1_i32_8 k1_t1
  let c2_i32_14 : BitVec 32 := 2#32
  let v16 : BitVec 32 := Scalar.muli arg12 c2_i32_14
  let v17 : BitVec 32 := Scalar.addi v16 c0_i32_15
  let c0_i32_16 : BitVec 32 := 0#32
  ![v17.toNat, 0]
def k1_off3 (i : grid1.Coords) (k1_t1 : Fin k1_t1_loop.trips) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  let c0_i32_7 : BitVec 32 := 0#32
  let c1_i32_8 : BitVec 32 := 1#32
  let arg12 : BitVec 32 := Scf.iv c0_i32_7 c1_i32_8 k1_t1
  let c2_i32_14 : BitVec 32 := 2#32
  let v16 : BitVec 32 := Scalar.muli arg12 c2_i32_14
  let v17 : BitVec 32 := Scalar.addi v16 c0_i32_15
  let c128_i32 : BitVec 32 := 128#32
  let v21 : BitVec 32 := Scalar.muli v17 c128_i32
  let v22 : BitVec 32 := Scalar.addi v2 v21
  let c0_i32_19 : BitVec 32 := 0#32
  ![v22.toNat, 0]
def k1_cond1 (k1_t1 : Fin k1_t1_loop.trips) : BitVec 1 :=
  let c0_i32_7 : BitVec 32 := 0#32
  let c1_i32_8 : BitVec 32 := 1#32
  let arg12 : BitVec 32 := Scf.iv c0_i32_7 c1_i32_8 k1_t1
  let c2_i32_14 : BitVec 32 := 2#32
  let v16 : BitVec 32 := Scalar.muli arg12 c2_i32_14
  let c0_i32_28 : BitVec 32 := 0#32
  let v33 : BitVec 32 := Scalar.addi v16 c0_i32_28
  let c2_i32_29 : BitVec 32 := 2#32
  let v34 : BitVec 32 := Scalar.addi v33 c2_i32_29
  let c26_i32 : BitVec 32 := 26#32
  let v35 : BitVec 1 := Scalar.cmpi .slt v34 c26_i32
  let v36 : BitVec 32 := Scalar.extui v35
  let c0_i32_30 : BitVec 32 := 0#32
  let v37 : BitVec 1 := Scalar.cmpi .ne v36 c0_i32_30
  v37

def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  let c0_i32_7 : BitVec 32 := 0#32
  let c1_i32_8 : BitVec 32 := 1#32
  let arg12 : BitVec 32 := Scf.iv c0_i32_7 c1_i32_8 k1_t1
  let c2_i32_14 : BitVec 32 := 2#32
  let v16 : BitVec 32 := Scalar.muli arg12 c2_i32_14
  let c0_i32_28 : BitVec 32 := 0#32
  let v33 : BitVec 32 := Scalar.addi v16 c0_i32_28
  let c2_i32_29 : BitVec 32 := 2#32
  let v34 : BitVec 32 := Scalar.addi v33 c2_i32_29
  let c2_i32_35 : BitVec 32 := 2#32
  let v43 : BitVec 32 := Scalar.subi v34 c2_i32_35
  let c128_i32_36 : BitVec 32 := 128#32
  let v44 : BitVec 32 := Scalar.muli v43 c128_i32_36
  let v45 : BitVec 32 := Scalar.addi v2 v44
  let c0_i32_37 : BitVec 32 := 0#32
  ![v45.toNat, 0]
def k1_off5 (k1_t1 : Fin k1_t1_loop.trips) : Fin 2 → Nat :=
  let c0_i32_7 : BitVec 32 := 0#32
  let c1_i32_8 : BitVec 32 := 1#32
  let arg12 : BitVec 32 := Scf.iv c0_i32_7 c1_i32_8 k1_t1
  let c2_i32_14 : BitVec 32 := 2#32
  let v16 : BitVec 32 := Scalar.muli arg12 c2_i32_14
  let c0_i32_28 : BitVec 32 := 0#32
  let v33 : BitVec 32 := Scalar.addi v16 c0_i32_28
  let c2_i32_29 : BitVec 32 := 2#32
  let v34 : BitVec 32 := Scalar.addi v33 c2_i32_29
  let c0_i32_39 : BitVec 32 := 0#32
  ![v34.toNat, 0]
def k1_cond2 (k1_t1 : Fin k1_t1_loop.trips) : BitVec 1 :=
  let c0_i32_7 : BitVec 32 := 0#32
  let c1_i32_8 : BitVec 32 := 1#32
  let arg12 : BitVec 32 := Scf.iv c0_i32_7 c1_i32_8 k1_t1
  let c2_i32_14 : BitVec 32 := 2#32
  let v16 : BitVec 32 := Scalar.muli arg12 c2_i32_14
  let c1_i32_31 : BitVec 32 := 1#32
  let v38 : BitVec 32 := Scalar.addi v16 c1_i32_31
  let c2_i32_32 : BitVec 32 := 2#32
  let v39 : BitVec 32 := Scalar.addi v38 c2_i32_32
  let c26_i32_33 : BitVec 32 := 26#32
  let v40 : BitVec 1 := Scalar.cmpi .slt v39 c26_i32_33
  let v41 : BitVec 32 := Scalar.extui v40
  let c0_i32_34 : BitVec 32 := 0#32
  let v42 : BitVec 1 := Scalar.cmpi .ne v41 c0_i32_34
  v42

def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  let c0_i32_7 : BitVec 32 := 0#32
  let c1_i32_8 : BitVec 32 := 1#32
  let arg12 : BitVec 32 := Scf.iv c0_i32_7 c1_i32_8 k1_t1
  let c2_i32_14 : BitVec 32 := 2#32
  let v16 : BitVec 32 := Scalar.muli arg12 c2_i32_14
  let c1_i32_31 : BitVec 32 := 1#32
  let v38 : BitVec 32 := Scalar.addi v16 c1_i32_31
  let c2_i32_32 : BitVec 32 := 2#32
  let v39 : BitVec 32 := Scalar.addi v38 c2_i32_32
  let c2_i32_35 : BitVec 32 := 2#32
  let v43 : BitVec 32 := Scalar.subi v39 c2_i32_35
  let c128_i32_36 : BitVec 32 := 128#32
  let v44 : BitVec 32 := Scalar.muli v43 c128_i32_36
  let v45 : BitVec 32 := Scalar.addi v2 v44
  let c0_i32_37 : BitVec 32 := 0#32
  ![v45.toNat, 0]
def k1_off7 (k1_t1 : Fin k1_t1_loop.trips) : Fin 2 → Nat :=
  let c0_i32_7 : BitVec 32 := 0#32
  let c1_i32_8 : BitVec 32 := 1#32
  let arg12 : BitVec 32 := Scf.iv c0_i32_7 c1_i32_8 k1_t1
  let c2_i32_14 : BitVec 32 := 2#32
  let v16 : BitVec 32 := Scalar.muli arg12 c2_i32_14
  let c1_i32_31 : BitVec 32 := 1#32
  let v38 : BitVec 32 := Scalar.addi v16 c1_i32_31
  let c2_i32_32 : BitVec 32 := 2#32
  let v39 : BitVec 32 := Scalar.addi v38 c2_i32_32
  let c0_i32_39 : BitVec 32 := 0#32
  ![v39.toNat, 0]
def k1_off8 (i : grid1.Coords) (c3072_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  let v10 : BitVec 32 := Scalar.addi v2 c3072_i32
  let c0_i32_10 : BitVec 32 := 0#32
  ![v10.toNat, 0]
abbrev grid2 : Pipeline.Grid := ⟨1, ![6], ![false]⟩

def k2_cond2 (i : grid2.Coords) : BitVec 1 :=
  let arg0 : BitVec 32 := BitVec.ofNat 32 (i 0).val
  let c5_i32 : BitVec 32 := 5#32
  let v819 : BitVec 1 := Scalar.cmpi .eq arg0 c5_i32
  let v820 : BitVec 32 := Scalar.extui v819
  let c0_i32_375 : BitVec 32 := 0#32
  let v821 : BitVec 1 := Scalar.cmpi .ne v820 c0_i32_375
  v821

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c11_i32 : BitVec 32 := 11#32
  let v0 : BitVec 32 := Scalar.subi c11_i32 arg0
  let c0_i32 : BitVec 32 := 0#32
  let c0_i32_0 : BitVec 32 := 0#32
  let c0_i32_1 : BitVec 32 := 0#32
  ![v0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1024x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1024x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1024x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1024x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1024x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev grid3 : Pipeline.Grid := ⟨1, ![13], ![false]⟩

def k3_cond2 (i : grid3.Coords) : BitVec 1 :=
  let arg0 : BitVec 32 := BitVec.ofNat 32 (i 0).val
  let c12_i32 : BitVec 32 := 12#32
  let v819 : BitVec 1 := Scalar.cmpi .eq arg0 c12_i32
  let v820 : BitVec 32 := Scalar.extui v819
  let c0_i32_375 : BitVec 32 := 0#32
  let v821 : BitVec 1 := Scalar.cmpi .ne v820 c0_i32_375
  v821

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  ![v0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S8x1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x512 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x512 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1024x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1024x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1024x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1024x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1024x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev grid4 : Pipeline.Grid := ⟨1, ![6], ![false]⟩

def k4_cond2 (i : grid4.Coords) : BitVec 1 :=
  let arg0 : BitVec 32 := BitVec.ofNat 32 (i 0).val
  let c5_i32 : BitVec 32 := 5#32
  let v819 : BitVec 1 := Scalar.cmpi .eq arg0 c5_i32
  let v820 : BitVec 32 := Scalar.extui v819
  let c0_i32_375 : BitVec 32 := 0#32
  let v821 : BitVec 1 := Scalar.cmpi .ne v820 c0_i32_375
  v821

def cc4_transform_0 (i : grid4.Coords) : Fin 3 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![v0.toNat, c0_i32.toNat, c0_i32_0.toNat]

def cc4_transform_1 (i : grid4.Coords) : Fin 3 → Nat :=
  let arg0 : BitVec 32 := BitVec.ofNat 32 (i 0).val
  let c5_i32 : BitVec 32 := 5#32
  let v0 : BitVec 32 := Scalar.subi c5_i32 arg0
  let c0_i32 : BitVec 32 := 0#32
  let c0_i32_0 : BitVec 32 := 0#32
  let c0_i32_1 : BitVec 32 := 0#32
  ![v0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S8x1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8x1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x512 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x512 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x512 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1024x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1024x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1024x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1024x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1024x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1024x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1024x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1024x128 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S200x1024 : Shape := ⟨2, ![200, 1024]⟩
abbrev S100000x128 : Shape := ⟨2, ![100000, 128]⟩
abbrev S512x128 : Shape := ⟨2, ![512, 128]⟩
abbrev S512 : Shape := ⟨1, ![512]⟩
abbrev S_ : Shape := ⟨0, ![]⟩
abbrev S200x1024x1 : Shape := ⟨3, ![200, 1024, 1]⟩
abbrev S1 : Shape := ⟨1, ![1]⟩
abbrev S1x1x1 : Shape := ⟨3, ![1, 1, 1]⟩
abbrev S200x1024x128 : Shape := ⟨3, ![200, 1024, 128]⟩
abbrev S1024x128 : Shape := ⟨2, ![1024, 128]⟩
abbrev S1x1024x128 : Shape := ⟨3, ![1, 1024, 128]⟩
abbrev S128x512 : Shape := ⟨2, ![128, 512]⟩
abbrev S1024x512 : Shape := ⟨2, ![1024, 512]⟩
abbrev S1x512 : Shape := ⟨2, ![1, 512]⟩
abbrev S1024x256 : Shape := ⟨2, ![1024, 256]⟩

abbrev nBuf : Space → Nat
  | .hbm => 155
  | .vmem => 0
  | .smem => 0
  | _ => 0

abbrev hbmTy0_0 (i : Nat) : BufTy := match i % 128 with
  | 0 => ⟨S200x1024, .i32⟩
  | 1 => ⟨S100000x128, .f32⟩
  | 2 => ⟨S512x128, .f32⟩
  | 3 => ⟨S512x128, .f32⟩
  | 4 => ⟨S512, .f32⟩
  | 5 => ⟨S512, .f32⟩
  | 6 => ⟨S512x128, .f32⟩
  | 7 => ⟨S512x128, .f32⟩
  | 8 => ⟨S512, .f32⟩
  | 9 => ⟨S512, .f32⟩
  | 10 => ⟨S_, .i32⟩
  | 11 => ⟨S200x1024, .i32⟩
  | 12 => ⟨S200x1024, .i1⟩
  | 13 => ⟨S_, .i32⟩
  | 14 => ⟨S200x1024, .i32⟩
  | 15 => ⟨S200x1024, .i32⟩
  | 16 => ⟨S200x1024, .i32⟩
  | 17 => ⟨S200x1024x1, .i32⟩
  | 18 => ⟨S1, .i32⟩
  | 19 => ⟨S_, .i32⟩
  | 20 => ⟨S200x1024x1, .i32⟩
  | 21 => ⟨S200x1024x1, .i1⟩
  | 22 => ⟨S1x1x1, .i32⟩
  | 23 => ⟨S200x1024x1, .i32⟩
  | 24 => ⟨S200x1024x1, .i1⟩
  | 25 => ⟨S200x1024x1, .i1⟩
  | 26 => ⟨S_, .i1⟩
  | 27 => ⟨S200x1024, .i1⟩
  | 28 => ⟨S200x1024x128, .f32⟩
  | 29 => ⟨S200x1024x128, .i1⟩
  | 30 => ⟨S_, .f32⟩
  | 31 => ⟨S200x1024x128, .f32⟩
  | 32 => ⟨S200x1024x128, .f32⟩
  | 33 => ⟨S_, .f32⟩
  | 34 => ⟨S1024x128, .f32⟩
  | 35 => ⟨S200x1024x128, .f32⟩
  | 36 => ⟨S_, .i32⟩
  | 37 => ⟨S200x1024x128, .f32⟩
  | 38 => ⟨S200x1024x128, .f32⟩
  | 39 => ⟨S512x128, .f32⟩
  | 40 => ⟨S512x128, .f32⟩
  | 41 => ⟨S512, .f32⟩
  | 42 => ⟨S512, .f32⟩
  | 43 => ⟨S512x128, .f32⟩
  | 44 => ⟨S512x128, .f32⟩
  | 45 => ⟨S512, .f32⟩
  | 46 => ⟨S512, .f32⟩
  | 47 => ⟨S_, .i32⟩
  | 48 => ⟨S1024x128, .f32⟩
  | 49 => ⟨S1024x128, .f32⟩
  | 50 => ⟨S1024x128, .f32⟩
  | 51 => ⟨S1024x128, .f32⟩
  | 52 => ⟨S_, .i32⟩
  | 53 => ⟨S_, .i1⟩
  | 54 => ⟨S_, .i32⟩
  | 55 => ⟨S_, .i32⟩
  | 56 => ⟨S1x1024x128, .f32⟩
  | 57 => ⟨S1024x128, .f32⟩
  | 58 => ⟨S_, .i32⟩
  | 59 => ⟨S_, .i32⟩
  | 60 => ⟨S1x1024x128, .f32⟩
  | 61 => ⟨S1024x128, .f32⟩
  | 62 => ⟨S128x512, .f32⟩
  | 63 => ⟨S1024x512, .f32⟩
  | 64 => ⟨S128x512, .f32⟩
  | 65 => ⟨S1024x512, .f32⟩
  | 66 => ⟨S1024x512, .f32⟩
  | 67 => ⟨S1x512, .f32⟩
  | 68 => ⟨S1024x512, .f32⟩
  | 69 => ⟨S1024x512, .f32⟩
  | 70 => ⟨S1x512, .f32⟩
  | 71 => ⟨S1024x512, .f32⟩
  | 72 => ⟨S1024x512, .f32⟩
  | 73 => ⟨S1024x128, .f32⟩
  | 74 => ⟨S1024x128, .f32⟩
  | 75 => ⟨S1024x128, .f32⟩
  | 76 => ⟨S1024x128, .f32⟩
  | 77 => ⟨S1024x128, .f32⟩
  | 78 => ⟨S1024x128, .f32⟩
  | 79 => ⟨S_, .f32⟩
  | 80 => ⟨S1024x128, .f32⟩
  | 81 => ⟨S1024x128, .f32⟩
  | 82 => ⟨S_, .f32⟩
  | 83 => ⟨S1024x128, .f32⟩
  | 84 => ⟨S1024x128, .f32⟩
  | 85 => ⟨S1024x128, .f32⟩
  | 86 => ⟨S1024x128, .f32⟩
  | 87 => ⟨S_, .f32⟩
  | 88 => ⟨S1024x128, .f32⟩
  | 89 => ⟨S1024x128, .f32⟩
  | 90 => ⟨S_, .f32⟩
  | 91 => ⟨S1024x128, .f32⟩
  | 92 => ⟨S1024x128, .f32⟩
  | 93 => ⟨S1024x128, .f32⟩
  | 94 => ⟨S1024x128, .f32⟩
  | 95 => ⟨S1024x128, .f32⟩
  | 96 => ⟨S_, .f32⟩
  | 97 => ⟨S1024x128, .f32⟩
  | 98 => ⟨S1024x128, .f32⟩
  | 99 => ⟨S_, .f32⟩
  | 100 => ⟨S1024x128, .f32⟩
  | 101 => ⟨S1024x128, .f32⟩
  | 102 => ⟨S1024x128, .f32⟩
  | 103 => ⟨S1024x128, .f32⟩
  | 104 => ⟨S1024x128, .f32⟩
  | 105 => ⟨S1024x128, .f32⟩
  | 106 => ⟨S1024x128, .f32⟩
  | 107 => ⟨S128x512, .f32⟩
  | 108 => ⟨S1024x512, .f32⟩
  | 109 => ⟨S128x512, .f32⟩
  | 110 => ⟨S1024x512, .f32⟩
  | 111 => ⟨S1024x512, .f32⟩
  | 112 => ⟨S1x512, .f32⟩
  | 113 => ⟨S1024x512, .f32⟩
  | 114 => ⟨S1024x512, .f32⟩
  | 115 => ⟨S1x512, .f32⟩
  | 116 => ⟨S1024x512, .f32⟩
  | 117 => ⟨S1024x512, .f32⟩
  | 118 => ⟨S1024x128, .f32⟩
  | 119 => ⟨S1024x128, .f32⟩
  | 120 => ⟨S1024x128, .f32⟩
  | 121 => ⟨S1024x128, .f32⟩
  | 122 => ⟨S1024x128, .f32⟩
  | 123 => ⟨S1024x128, .f32⟩
  | 124 => ⟨S_, .f32⟩
  | 125 => ⟨S1024x128, .f32⟩
  | 126 => ⟨S1024x128, .f32⟩
  | 127 => ⟨S_, .f32⟩
  | _ => ⟨S200x1024, .i32⟩

abbrev hbmTy0_1 (i : Nat) : BufTy := match i % 128 with
  | 0 => ⟨S1024x128, .f32⟩
  | 1 => ⟨S1024x128, .f32⟩
  | 2 => ⟨S1024x128, .f32⟩
  | 3 => ⟨S1024x128, .f32⟩
  | 4 => ⟨S_, .f32⟩
  | 5 => ⟨S1024x128, .f32⟩
  | 6 => ⟨S1024x128, .f32⟩
  | 7 => ⟨S_, .f32⟩
  | 8 => ⟨S1024x128, .f32⟩
  | 9 => ⟨S1024x128, .f32⟩
  | 10 => ⟨S1024x128, .f32⟩
  | 11 => ⟨S1024x128, .f32⟩
  | 12 => ⟨S1024x128, .f32⟩
  | 13 => ⟨S_, .f32⟩
  | 14 => ⟨S1024x128, .f32⟩
  | 15 => ⟨S1024x128, .f32⟩
  | 16 => ⟨S_, .f32⟩
  | 17 => ⟨S1024x128, .f32⟩
  | 18 => ⟨S1024x128, .f32⟩
  | 19 => ⟨S1024x128, .f32⟩
  | 20 => ⟨S1024x128, .f32⟩
  | 21 => ⟨S1024x128, .f32⟩
  | 22 => ⟨S1024x128, .f32⟩
  | 23 => ⟨S1024x128, .f32⟩
  | 24 => ⟨S_, .i32⟩
  | 25 => ⟨S_, .i32⟩
  | 26 => ⟨S1024x256, .f32⟩
  | _ => ⟨S200x1024, .i32⟩

abbrev hbmTy (i : Nat) : BufTy := match i / 128 with
  | 0 => hbmTy0_0 i
  | 1 => hbmTy0_1 i
  | _ => ⟨S200x1024, .i32⟩

abbrev bufTy : (tb : Table) → Fin (tcTables nBuf tb) → BufTy
  | .hbm, ⟨i, _⟩ => hbmTy i
  | _, _ => ⟨S200x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_cst : Ref sig .tc := ⟨.hbm, 33, rfl⟩
abbrev main_v1 : Ref sig .tc := ⟨.hbm, 34, rfl⟩
abbrev main_v2 : Ref sig .tc := ⟨.hbm, 35, rfl⟩
abbrev main_c : Ref sig .tc := ⟨.hbm, 36, rfl⟩
abbrev main_v3_0 : Ref sig .tc := ⟨.hbm, 37, rfl⟩
abbrev main_v3_1 : Ref sig .tc := ⟨.hbm, 38, rfl⟩
abbrev main_v3_2 : Ref sig .tc := ⟨.hbm, 39, rfl⟩
abbrev main_v3_3 : Ref sig .tc := ⟨.hbm, 40, rfl⟩
abbrev main_v3_4 : Ref sig .tc := ⟨.hbm, 41, rfl⟩
abbrev main_v3_5 : Ref sig .tc := ⟨.hbm, 42, rfl⟩
abbrev main_v3_6 : Ref sig .tc := ⟨.hbm, 43, rfl⟩
abbrev main_v3_7 : Ref sig .tc := ⟨.hbm, 44, rfl⟩
abbrev main_v3_8 : Ref sig .tc := ⟨.hbm, 45, rfl⟩
abbrev main_v3_9 : Ref sig .tc := ⟨.hbm, 46, rfl⟩
abbrev main_v3_10 : Ref sig .tc := ⟨.hbm, 47, rfl⟩
abbrev main_v3_11 : Ref sig .tc := ⟨.hbm, 48, rfl⟩
abbrev main_v3_12 : Ref sig .tc := ⟨.hbm, 49, rfl⟩
abbrev main_v3_13 : Ref sig .tc := ⟨.hbm, 50, rfl⟩
abbrev main_v3_14 : Ref sig .tc := ⟨.hbm, 51, rfl⟩
abbrev main_while0c_c_14 : Ref sig .tc := ⟨.hbm, 52, rfl⟩
abbrev main_while0c_v5 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_v0 : Ref sig .tc := ⟨.hbm, 56, rfl⟩
abbrev main_while0b_v5 : Ref sig .tc := ⟨.hbm, 57, rfl⟩
abbrev main_while0b_call2_c : Ref sig .tc := ⟨.hbm, 58, rfl⟩
abbrev main_while0b_call2_c_0 : Ref sig .tc := ⟨.hbm, 59, rfl⟩
abbrev main_while0b_call2_v0 : Ref sig .tc := ⟨.hbm, 60, rfl⟩
abbrev main_while0b_v6 : Ref sig .tc := ⟨.hbm, 61, rfl⟩
abbrev main_while0b_v7 : Ref sig .tc := ⟨.hbm, 62, rfl⟩
abbrev main_while0b_v8 : Ref sig .tc := ⟨.hbm, 63, rfl⟩
abbrev main_while0b_v9 : Ref sig .tc := ⟨.hbm, 64, rfl⟩
abbrev main_while0b_v10 : Ref sig .tc := ⟨.hbm, 65, rfl⟩
abbrev main_while0b_v11 : Ref sig .tc := ⟨.hbm, 66, rfl⟩
abbrev main_while0b_v12 : Ref sig .tc := ⟨.hbm, 67, rfl⟩
abbrev main_while0b_v13 : Ref sig .tc := ⟨.hbm, 68, rfl⟩
abbrev main_while0b_v14 : Ref sig .tc := ⟨.hbm, 69, rfl⟩
abbrev main_while0b_v15 : Ref sig .tc := ⟨.hbm, 70, rfl⟩
abbrev main_while0b_v16 : Ref sig .tc := ⟨.hbm, 71, rfl⟩
abbrev main_while0b_v17 : Ref sig .tc := ⟨.hbm, 72, rfl⟩
abbrev main_while0b_v18 : Ref sig .tc := ⟨.hbm, 73, rfl⟩
abbrev main_while0b_v19 : Ref sig .tc := ⟨.hbm, 74, rfl⟩
abbrev main_while0b_v20 : Ref sig .tc := ⟨.hbm, 75, rfl⟩
abbrev main_while0b_v21 : Ref sig .tc := ⟨.hbm, 76, rfl⟩
abbrev main_while0b_v22 : Ref sig .tc := ⟨.hbm, 77, rfl⟩
abbrev main_while0b_v23 : Ref sig .tc := ⟨.hbm, 78, rfl⟩
abbrev main_while0b_cst_14 : Ref sig .tc := ⟨.hbm, 79, rfl⟩
abbrev main_while0b_v24 : Ref sig .tc := ⟨.hbm, 80, rfl⟩
abbrev main_while0b_v25 : Ref sig .tc := ⟨.hbm, 81, rfl⟩
abbrev main_while0b_cst_15 : Ref sig .tc := ⟨.hbm, 82, rfl⟩
abbrev main_while0b_v26 : Ref sig .tc := ⟨.hbm, 83, rfl⟩
abbrev main_while0b_v27 : Ref sig .tc := ⟨.hbm, 84, rfl⟩
abbrev main_while0b_v28 : Ref sig .tc := ⟨.hbm, 85, rfl⟩
abbrev main_while0b_v29 : Ref sig .tc := ⟨.hbm, 86, rfl⟩
abbrev main_while0b_cst_16 : Ref sig .tc := ⟨.hbm, 87, rfl⟩
abbrev main_while0b_v30 : Ref sig .tc := ⟨.hbm, 88, rfl⟩
abbrev main_while0b_v31 : Ref sig .tc := ⟨.hbm, 89, rfl⟩
abbrev main_while0b_cst_17 : Ref sig .tc := ⟨.hbm, 90, rfl⟩
abbrev main_while0b_v32 : Ref sig .tc := ⟨.hbm, 91, rfl⟩
abbrev main_while0b_v33 : Ref sig .tc := ⟨.hbm, 92, rfl⟩
abbrev main_while0b_v34 : Ref sig .tc := ⟨.hbm, 93, rfl⟩
abbrev main_while0b_v35 : Ref sig .tc := ⟨.hbm, 94, rfl⟩
abbrev main_while0b_v36 : Ref sig .tc := ⟨.hbm, 95, rfl⟩
abbrev main_while0b_cst_18 : Ref sig .tc := ⟨.hbm, 96, rfl⟩
abbrev main_while0b_v37 : Ref sig .tc := ⟨.hbm, 97, rfl⟩
abbrev main_while0b_v38 : Ref sig .tc := ⟨.hbm, 98, rfl⟩
abbrev main_while0b_cst_19 : Ref sig .tc := ⟨.hbm, 99, rfl⟩
abbrev main_while0b_v39 : Ref sig .tc := ⟨.hbm, 100, rfl⟩
abbrev main_while0b_v40 : Ref sig .tc := ⟨.hbm, 101, rfl⟩
abbrev main_while0b_v41 : Ref sig .tc := ⟨.hbm, 102, rfl⟩
abbrev main_while0b_v42 : Ref sig .tc := ⟨.hbm, 103, rfl⟩
abbrev main_while0b_v43 : Ref sig .tc := ⟨.hbm, 104, rfl⟩
abbrev main_while0b_v44 : Ref sig .tc := ⟨.hbm, 105, rfl⟩
abbrev main_while0b_v45 : Ref sig .tc := ⟨.hbm, 106, rfl⟩
abbrev main_while0b_v46 : Ref sig .tc := ⟨.hbm, 107, rfl⟩
abbrev main_while0b_v47 : Ref sig .tc := ⟨.hbm, 108, rfl⟩
abbrev main_while0b_v48 : Ref sig .tc := ⟨.hbm, 109, rfl⟩
abbrev main_while0b_v49 : Ref sig .tc := ⟨.hbm, 110, rfl⟩
abbrev main_while0b_v50 : Ref sig .tc := ⟨.hbm, 111, rfl⟩
abbrev main_while0b_v51 : Ref sig .tc := ⟨.hbm, 112, rfl⟩
abbrev main_while0b_v52 : Ref sig .tc := ⟨.hbm, 113, rfl⟩
abbrev main_while0b_v53 : Ref sig .tc := ⟨.hbm, 114, rfl⟩
abbrev main_while0b_v54 : Ref sig .tc := ⟨.hbm, 115, rfl⟩
abbrev main_while0b_v55 : Ref sig .tc := ⟨.hbm, 116, rfl⟩
abbrev main_while0b_v56 : Ref sig .tc := ⟨.hbm, 117, rfl⟩
abbrev main_while0b_v57 : Ref sig .tc := ⟨.hbm, 118, rfl⟩
abbrev main_while0b_v58 : Ref sig .tc := ⟨.hbm, 119, rfl⟩
abbrev main_while0b_v59 : Ref sig .tc := ⟨.hbm, 120, rfl⟩
abbrev main_while0b_v60 : Ref sig .tc := ⟨.hbm, 121, rfl⟩
abbrev main_while0b_v61 : Ref sig .tc := ⟨.hbm, 122, rfl⟩
abbrev main_while0b_v62 : Ref sig .tc := ⟨.hbm, 123, rfl⟩
abbrev main_while0b_cst_20 : Ref sig .tc := ⟨.hbm, 124, rfl⟩
abbrev main_while0b_v63 : Ref sig .tc := ⟨.hbm, 125, rfl⟩
abbrev main_while0b_v64 : Ref sig .tc := ⟨.hbm, 126, rfl⟩
abbrev main_while0b_cst_21 : Ref sig .tc := ⟨.hbm, 127, rfl⟩
abbrev main_while0b_v65 : Ref sig .tc := ⟨.hbm, 128, rfl⟩
abbrev main_while0b_v66 : Ref sig .tc := ⟨.hbm, 129, rfl⟩
abbrev main_while0b_v67 : Ref sig .tc := ⟨.hbm, 130, rfl⟩
abbrev main_while0b_v68 : Ref sig .tc := ⟨.hbm, 131, rfl⟩
abbrev main_while0b_cst_22 : Ref sig .tc := ⟨.hbm, 132, rfl⟩
abbrev main_while0b_v69 : Ref sig .tc := ⟨.hbm, 133, rfl⟩
abbrev main_while0b_v70 : Ref sig .tc := ⟨.hbm, 134, rfl⟩
abbrev main_while0b_cst_23 : Ref sig .tc := ⟨.hbm, 135, rfl⟩
abbrev main_while0b_v71 : Ref sig .tc := ⟨.hbm, 136, rfl⟩
abbrev main_while0b_v72 : Ref sig .tc := ⟨.hbm, 137, rfl⟩
abbrev main_while0b_v73 : Ref sig .tc := ⟨.hbm, 138, rfl⟩
abbrev main_while0b_v74 : Ref sig .tc := ⟨.hbm, 139, rfl⟩
abbrev main_while0b_v75 : Ref sig .tc := ⟨.hbm, 140, rfl⟩
abbrev main_while0b_cst_24 : Ref sig .tc := ⟨.hbm, 141, rfl⟩
abbrev main_while0b_v76 : Ref sig .tc := ⟨.hbm, 142, rfl⟩
abbrev main_while0b_v77 : Ref sig .tc := ⟨.hbm, 143, rfl⟩
abbrev main_while0b_cst_25 : Ref sig .tc := ⟨.hbm, 144, rfl⟩
abbrev main_while0b_v78 : Ref sig .tc := ⟨.hbm, 145, rfl⟩
abbrev main_while0b_v79 : Ref sig .tc := ⟨.hbm, 146, rfl⟩
abbrev main_while0b_v80 : Ref sig .tc := ⟨.hbm, 147, rfl⟩
abbrev main_while0b_v81 : Ref sig .tc := ⟨.hbm, 148, rfl⟩
abbrev main_while0b_v82 : Ref sig .tc := ⟨.hbm, 149, rfl⟩
abbrev main_while0b_v83 : Ref sig .tc := ⟨.hbm, 150, rfl⟩
abbrev main_while0b_v84 : Ref sig .tc := ⟨.hbm, 151, rfl⟩
abbrev main_while0b_c_26 : Ref sig .tc := ⟨.hbm, 152, rfl⟩
abbrev main_while0b_v85 : Ref sig .tc := ⟨.hbm, 153, rfl⟩
abbrev main_v4 : Ref sig .tc := ⟨.hbm, 154, rfl⟩

abbrev nD : Nat := 1
abbrev τ : Topo := Topo.v7x

variable {F : FTy → Type} [FloatOps F]

abbrev main_while0_count : Scf.Loop 32 := ⟨0#32, 200#32, 1#32⟩
-- ==== Proof.Setup.lean ====
/- The program as the launch theorems see it, and the resource algebra its proof runs over.

   The program has two SparseCore calls and three TensorCore pipelines in one `@main`. The algebra has a copy of the
   rounds library for the handshakes between the TensorCore and the SparseCores, one for the pipelines' staging
   cells, and the counters that local copies take their tokens from. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.RegionsLoop
public import Idealize.ShloMosaic.Lib.Tactic
public import Idealize.ShloMosaic.Lib.Transfers
public import proofs.«01_k».proof.Proof.Gen.KernelIdeal
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.Sem
open Idealize.ShloMosaic.Rounds

variable {F : FTy → Type} [FloatOps F]

abbrev ΛP : Labels := Pipeline.Sig Λ₀ (Fin 3) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UP : Type := URounds (GSem nD τ sig) Unit
abbrev UU : Type := UH × (UP × Counters)

local notation "𝕄" => MT nD τ Cert.KernelIdeal.sig (HIx 2) (Elt F) ℕ UU ℕ

abbrev EH : Emb UH (MT nD τ Cert.KernelIdeal.sig (HIx 2) (Elt F) ℕ UU ℕ) := embL
/-- The pipelines' rounds library: the left half of the right factor. -/
def EP : Emb UP (MT nD τ Cert.KernelIdeal.sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance

/-- No pipeline takes a prefetched table. -/
abbrev adm (p : Fin 3) : (pcfgs (F := F) p).Adm := (cfgs p).toPCfg_adm

end Cert.Proof
-- ==== Proof.Gather.lean ====
/- The gather task of one vector subcore, as a program over any output of `R` rows and any index list of `m` rows.

   A task fetches its rows of the index array, then streams the table's rows in chunks of 128: two row buffers take
   turns, each chunk gathered on the buffer's gather semaphore and copied out on its output semaphore while the other
   buffer's gather is in flight. This module holds the four steps a chunk goes through (start the gather, turn it
   into a copy out, wait for the copy and start the next gather, wait for the last copy), each with the value it
   carries: the chunk's rows of the output are the table's rows that the list names. -/
module

public import proofs.«01_k».proof.Proof.Setup
public import Idealize.ShloMosaic.Lib.SparseCore.FromWhole

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ Cert.KernelIdeal.sig (HIx 2) (Elt F) ℕ UU ℕ

namespace Gather

section Steps

variable (d : Dev nD) (cc : Fin τ.nSC) (ii : Fin τ.nSub)

/-- The credit of one chunk: a row buffer's. -/
abbrev credit (r : Memref sig .scVector .vmem S128x128 .f32) : ℕ := r.view.dmaCredit

/-- What the task still owes, with the waits it has recorded beyond `W`. -/
def debt (O : CellTallies nD τ sig (HIx 2)) (W : Waits sig (HIx 2)) : sProp (MT nD τ Cert.KernelIdeal.sig (HIx 2) (Elt F) ℕ UU ℕ) :=
  iprop(∃ W', ⌜∀ p ∈ W', p ∈ W ∨ p.2 = none⌝ ∗ owes (V d cc ii) O W')

variable (tab : Memref sig .scVector .hbm S100000x128 .f32) (fs : Buf (Elt F) (tab.view.loc (V d cc ii)))
variable (lst : Loc nD τ sig) (fl : Buf (Elt F) lst)
variable (out : Loc nD τ sig) (fo : Buf (Elt F) out)

/-- What a gather's completion hands over: the row buffer at the chunk's rows `p`, the shares of table and list. -/
def fetched (r : Memref sig .scVector .vmem S128x128 .f32) (q qo : PosShare TreeShare) (p : S128x128.Idx → Elt F .f32) :
    sProp (MT nD τ Cert.KernelIdeal.sig (HIx 2) (Elt F) ℕ UU ℕ) :=
  iprop((∃ f, ⌜r.view.read (Elt F) f = p⌝ ∗ (r.view.loc (V d cc ii) ↦{fullShare} f)) ∗ (tab.view.loc (V d cc ii) ↦{q} fs) ∗ (lst ↦{qo} fl))

/-- What a copy out hands over: the elements `I` of the output at their final contents, the row buffer. -/
def written (r : Memref sig .scVector .vmem S128x128 .f32) (I : Finset (Idx out)) : sProp (MT nD τ Cert.KernelIdeal.sig (HIx 2) (Elt F) ℕ UU ℕ) :=
  iprop((out ↦[I]{fullShare} fo) ∗ ∃ f, (r.view.loc (V d cc ii) ↦{fullShare} f))

/-- A gather of chunk `p` in flight on `g`. -/
abbrev gathering (r : Memref sig .scVector .vmem S128x128 .f32) (g : DmaSem sig) (q qo : PosShare TreeShare) (p : S128x128.Idx → Elt F .f32) :
    sProp (MT nD τ Cert.KernelIdeal.sig (HIx 2) (Elt F) ℕ UU ℕ) :=
  Transfers.Flight countersEmb (V d cc ii) (.dma g) (default : HIx 2) (credit r) (fetched d cc ii tab fs lst fl r q qo p)

/-- A copy out of the elements `I` in flight on `s`. -/
abbrev writing (r : Memref sig .scVector .vmem S128x128 .f32) (s : DmaSem sig) (I : Finset (Idx out)) :
    sProp (MT nD τ Cert.KernelIdeal.sig (HIx 2) (Elt F) ℕ UU ℕ) :=
  Transfers.Flight countersEmb (V d cc ii) (.dma s) (default : HIx 2) (credit r) (written d cc ii out fo r I)

variable {O : CellTallies nD τ sig (HIx 2)} {W : Waits sig (HIx 2)}
variable {Q : PUnit → sProp (MT nD τ Cert.KernelIdeal.sig (HIx 2) (Elt F) ℕ UU ℕ)}

theorem debt_insert {W' : Waits sig (HIx 2)} (h : ∀ p ∈ W', p ∈ W ∨ p.2 = none) (sm : SemLoc sig) :
    (owes (V d cc ii) O (insert (sm, (default : HIx 2)) W') : sProp 𝕄) ⊢ iprop(∃ W'', ⌜∀ p ∈ W'', p ∈ W ∨ p.2 = none⌝ ∗ owes (V d cc ii) O W'') := by
  iintro H
  iexists _; isplitr
  swap; · iexact H
  ipureintro; intro p hp
  rcases Finset.mem_insert.mp hp with hp | hp
  · exact .inr (hp ▸ rfl)
  · exact h p hp

/-- START: the gather of the chunk that the list's window `offs` names. -/
theorem start {r : Memref sig .scVector .vmem S128x128 .f32} {g : DmaSem sig} {q qo : PosShare TreeShare} {p : S128x128.Idx → Elt F .f32}
    {hg : S100000x128.Gathers 0 S128x128} {offs : Memref sig .scVector .vmem S128 .i32} {hn : S128.numel = S128x128.size hg.axis'}
    {hp : (V d cc ii : Thread nD τ).2.kind = .scVector} {hsrc : tab.view.WordExact} {he : (EltTy.f32).bits = 32} {hsp : Space.hbm = .hbm ∨ Space.hbm = .shared}
    {hr : S100000x128.StreamRows 0} {k : PUnit → Prog (TpuEff nD τ sig (Elt F) Λ₀ (.scVector cc ii)) PUnit}
    (fw : Buf (Elt F) (offs.view.loc (V d cc ii)))
    (hN : ∑ j, (r.slice (S128x128.rowRect hg.axis' j) (S128x128.stride_rowRect hg.axis' j)).view.dmaCredit = credit r)
    (hin : ∀ x, (offs.view.read (Elt F) fw x).toNat < S100000x128.size hg.axis)
    (hval : SparseCore.gatherPayload hg (tab.view.read (Elt F) fs) (SparseCore.rows (offs.view.read (Elt F) fw) hn hin) = p)
    (hl : (offs.view.loc (V d cc ii) ↦{qo} fw : sProp 𝕄) = (lst ↦{qo} fl)) :
    iprop((tab.view.loc (V d cc ii) ↦{q} fs) ∗ (∃ f, r.view.loc (V d cc ii) ↦{fullShare} f) ∗ (lst ↦{qo} fl) ∗ semVal (V d cc ii, SemLoc.dma g) 0)
      ⊢ iprop((gathering d cc ii tab fs lst fl r g q qo p -∗ wp frame (wpE (defs₀ (F := F)) 𝒱₀ (V d cc ii) none) Set.univ (k ⟨⟩) Q)
        -∗ wp frame (wpE (defs₀ (F := F)) 𝒱₀ (V d cc ii) none) Set.univ
            (SparseCore.enqueueIndirectGather hp tab r hg offs hn g hsrc he hsp hr >>= k) Q) := by
  rw [← hl]
  iintro ⟨Ht, ⟨%fd, Hr⟩, Hl, Hv⟩ Hk
  iapply (SparseCore.wp_gatherFromWhole countersEmb 𝒱₀ (V d cc ii) none (default : HIx 2) (credit r) hN (by decide) hin) $$ [Ht Hr Hl Hv]
  · iframe Ht Hr Hl Hv
  iintro Hf
  iapply Hk
  unfold gathering
  iapply (Transfers.Flight_mono countersEmb (V d cc ii) ?_) $$ Hf
  unfold fetched
  rw [← hl]
  iintro ⟨Hr, Ht, Hl⟩
  isplitl [Hr]
  · iexists _; isplitr
    swap; · iexact Hr
    ipureintro
    rw [View.read_write_univ]; exact hval
  iframe Ht Hl

/-- TURN: wait for the gather, start the copy out of its chunk to `dst`. -/
theorem turn {r : Memref sig .scVector .vmem S128x128 .f32} {g s : DmaSem sig} {q qo : PosShare TreeShare} {p : S128x128.Idx → Elt F .f32}
    {tabw : Memref sig .scVector .hbm S100000x128 .f32} {dst : Memref sig .scVector .hbm S128x128 .f32}
    {h1 : tabw.view.WordExact} {h2 : r.view.WordExact} {h3 : r.view.WordExact} {h4 : dst.view.WordExact}
    {h5 : (DmaTarget.here dst : DmaTarget nD τ Cert.KernelIdeal.sig (.scVector cc ii) .hbm S128x128 .f32).Typed .vmem (.dma s)}
    {k : PUnit → Prog (TpuEff nD τ sig (Elt F) Λ₀ (.scVector cc ii)) PUnit}
    (fw f₀ : Buf (Elt F) (dst.view.loc (V d cc ii))) (I : Finset (Idx out)) (f₁ : Buf (Elt F) out)
    (hN : dst.view.amount (.dma s) = credit r) (hN0 : 0 < credit r)
    (hval : dst.view.read (Elt F) fw = p)
    (hw : (dst.view.loc (V d cc ii) ↦[dst.view.set]{fullShare} fw : sProp 𝕄) = (out ↦[I]{fullShare} fo))
    (h₀ : (dst.view.loc (V d cc ii) ↦[dst.view.set]{fullShare} f₀ : sProp 𝕄) = (out ↦[I]{fullShare} f₁)) :
    iprop(Transfers.MayWaits (V d cc ii) (default : HIx 2) O ∗ gathering d cc ii tab fs lst fl r g q qo p ∗ debt d cc ii O W
        ∗ (out ↦[I]{fullShare} f₁) ∗ semVal (V d cc ii, SemLoc.dma s) 0)
      ⊢ iprop((iprop((tab.view.loc (V d cc ii) ↦{q} fs) ∗ (lst ↦{qo} fl) ∗ semVal (V d cc ii, SemLoc.dma g) 0 ∗ debt d cc ii O W
            ∗ writing d cc ii out fo r s I) -∗ wp frame (wpE (defs₀ (F := F)) 𝒱₀ (V d cc ii) none) Set.univ (k ⟨⟩) Q)
        -∗ wp frame (wpE (defs₀ (F := F)) 𝒱₀ (V d cc ii) none) Set.univ
            (SparseCore.waitIndirectGather g tabw r h1 h2 >>= fun _ => Prog.lift (.enqueueDma r (.here dst) (.dma s) h3 h4 h5) >>= k) Q) := by
  rw [← h₀]
  unfold gathering debt
  iintro ⟨#Hmw, Hf, ⟨%W', %hW', HO⟩, Hd, Hs⟩ Hk
  iapply (Transfers.wp_waitLocalO countersEmb 𝒱₀ (V d cc ii) none (default : HIx 2) (rfl : r.view.dmaCredit = credit r)) $$ [Hf HO]
  · isplitl [Hf]; · iexact Hf
    isplitl [HO]; · iexact HO
    iapply (Transfers.MayWaits.elim (SemLoc.dma g)) $$ Hmw
  unfold fetched
  iintro ⟨⟨⟨%f, %hf, Hr⟩, Ht, Hl⟩, Hg, HO⟩
  iapply (Transfers.wp_dmaFromWhole countersEmb 𝒱₀ (V d cc ii) none (default : HIx 2) (credit r) hN hN0 (Finset.Subset.refl _)) $$ [Hr Hd Hs]
  · iframe Hr Hd Hs
  iintro Hf
  iapply Hk
  iframe Ht Hl Hg
  isplitl [HO]
  · iapply (debt_insert (O := O) (W := W) d cc ii hW') $$ HO
  unfold writing
  iapply (Transfers.Flight_mono countersEmb (V d cc ii) ?_) $$ Hf
  unfold written
  rw [← hw]
  iintro ⟨Hd, Hr⟩
  isplitl [Hd]
  · iapply (Entails.of_eq (pointsTo_congr ?_)) $$ Hd
    intro z hz
    obtain ⟨y, -, rfl⟩ := Finset.mem_map.mp hz
    have e := congrFun hval y
    rw [View.read_apply] at e
    have hr : r.view.read (Elt F) f y = p y := congrFun hf y
    rw [View.write_emb_of_mem _ _ (Finset.mem_univ y)]
    refine cast_eq_iff_heq.mpr ?_
    show HEq (r.view.read (Elt F) f y) _
    rw [hr, ← e]
    exact cast_heq _ _
  · iexists _; iexact Hr

/-- FINISH: wait for a copy out. -/
theorem finish {r : Memref sig .scVector .vmem S128x128 .f32} {s : DmaSem sig} {dstw : Memref sig .scVector .hbm S128x128 .f32}
    {h1 : r.view.WordExact} {h2 : dstw.view.WordExact} {k : PUnit → Prog (TpuEff nD τ sig (Elt F) Λ₀ (.scVector cc ii)) PUnit}
    (I : Finset (Idx out)) (hN : dstw.view.dmaCredit = credit r) :
    iprop(Transfers.MayWaits (V d cc ii) (default : HIx 2) O ∗ writing d cc ii out fo r s I ∗ debt d cc ii O W)
      ⊢ iprop((iprop((out ↦[I]{fullShare} fo) ∗ (∃ f, r.view.loc (V d cc ii) ↦{fullShare} f) ∗ semVal (V d cc ii, SemLoc.dma s) 0 ∗ debt d cc ii O W)
            -∗ wp frame (wpE (defs₀ (F := F)) 𝒱₀ (V d cc ii) none) Set.univ (k ⟨⟩) Q)
        -∗ wp frame (wpE (defs₀ (F := F)) 𝒱₀ (V d cc ii) none) Set.univ
            (Prog.lift (.waitDma2 s r dstw h1 h2) >>= k) Q) := by
  unfold writing debt
  iintro ⟨#Hmw, Hf, ⟨%W', %hW', HO⟩⟩ Hk
  iapply (Transfers.wp_waitLocalO countersEmb 𝒱₀ (V d cc ii) none (default : HIx 2) hN) $$ [Hf HO]
  · isplitl [Hf]; · iexact Hf
    isplitl [HO]; · iexact HO
    iapply (Transfers.MayWaits.elim (SemLoc.dma s)) $$ Hmw
  unfold written
  iintro ⟨⟨Hd, Hr⟩, Hs, HO⟩
  iapply Hk
  iframe Hd Hr Hs
  iapply (debt_insert (O := O) (W := W) d cc ii hW') $$ HO

end Steps

end Gather

end Cert.Proof
-- ==== Proof.GatherRun.lean ====
/- The gather task's run: the fetch of its list, the first two gathers, the counted loop, the last two waits.

   `Task` is what one subcore's program is made of (its buffers, semaphores and the places it computes), `Task.prog`
   that program, and `Task.Good` what the places come to. The run (`Task.run`) starts from the task's rows of the
   output at any contents and ends with them at the rows of the table that the list names. -/
module

public import proofs.«01_k».proof.Proof.Gather
public import Idealize.ShloMosaic.Lib.Pointwise.Index
public import Idealize.ShloMosaic.Lib.Scf

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ Cert.KernelIdeal.sig (HIx 2) (Elt F) ℕ UU ℕ

namespace Gather

/-- `n` rows of 128 lanes. -/
abbrev Rows (n : ℕ) : Shape := ⟨2, ![n, 128]⟩

/-- Rows `a` to `b` (the last excluded), as indices. -/
def span (R a b : ℕ) : Finset (Rows R).Idx := Finset.univ.filter fun x => a ≤ (x 0).val ∧ (x 0).val < b

theorem mem_span {R a b : ℕ} {x : (Rows R).Idx} : x ∈ span R a b ↔ a ≤ (x 0).val ∧ (x 0).val < b := by
  simp [span]

theorem span_union {R a b c : ℕ} (h : a ≤ b) (h' : b ≤ c) : span R a c = span R a b ∪ span R b c := by
  ext x; simp only [Finset.mem_union, mem_span]; omega

theorem span_disjoint {R a b c : ℕ} : Disjoint (span R a b) (span R b c) := by
  rw [Finset.disjoint_left]; intro x h h'; rw [mem_span] at h h'; omega

theorem span_self {R a : ℕ} : span R a a = ∅ := by
  ext x; simp only [mem_span, Finset.notMem_empty, iff_false]; omega

/-- A window of 128 rows that starts at row `o` is the span of those rows. -/
theorem window_eq_span {R o : ℕ} (off : Fin 2 → ℕ) (h : off = ![o, 0]) (inb : ∀ a, off a + S128x128.size a ≤ (Rows R).size a) :
    (Rect.unit (s := Rows R) off S128x128.size inb).set = span R o (o + 128) := by
  subst h
  ext x
  rw [Rect.mem_set_unit, mem_span]
  constructor
  · intro h; exact h 0
  · intro h a
    match a with
    | 0 => exact h
    | 1 => exact ⟨Nat.zero_le _, by have := (x 1).isLt; simpa using this⟩

/-- The parts of one subcore's program. -/
structure Task (m R : ℕ) where
  L : Scf.Loop 32
  ok : L.OK
  tab : Memref sig .scVector .hbm S100000x128 .f32
  row : Memref sig .scVector .hbm (Rows m) .i32
  row_exact : row.view.WordExact
  lst : Memref sig .scVector .vmem (Rows m) .i32
  lst_whole : lst.IsWhole
  out : Memref sig .scVector .hbm (Rows R) .f32
  r0 : Memref sig .scVector .vmem S128x128 .f32
  r0_whole : r0.IsWhole
  r1 : Memref sig .scVector .vmem S128x128 .f32
  r1_whole : r1.IsWhole
  g0 : DmaSem sig
  g1 : DmaSem sig
  s0 : DmaSem sig
  s1 : DmaSem sig
  sf : DmaSem sig
  more0 : Fin L.trips → BitVec 1
  more1 : Fin L.trips → BitVec 1
  list0 : Fin 2 → ℕ
  list0_inb : ∀ a, list0 a + S1x128.size a ≤ (Rows m).size a
  list1 : Fin 2 → ℕ
  list1_inb : ∀ a, list1 a + S1x128.size a ≤ (Rows m).size a
  out0 : Fin L.trips → Fin 2 → ℕ
  out0_inb : ∀ t a, out0 t a + S128x128.size a ≤ (Rows R).size a
  out1 : Fin L.trips → Fin 2 → ℕ
  out1_inb : ∀ t a, out1 t a + S128x128.size a ≤ (Rows R).size a
  back0 : Fin L.trips → Fin 2 → ℕ
  back0_inb : ∀ t, more0 t = 1#1 → ∀ a, back0 t a + S128x128.size a ≤ (Rows R).size a
  back1 : Fin L.trips → Fin 2 → ℕ
  back1_inb : ∀ t, more1 t = 1#1 → ∀ a, back1 t a + S128x128.size a ≤ (Rows R).size a
  next0 : Fin L.trips → Fin 2 → ℕ
  next0_inb : ∀ t, more0 t = 1#1 → ∀ a, next0 t a + S1x128.size a ≤ (Rows m).size a
  next1 : Fin L.trips → Fin 2 → ℕ
  next1_inb : ∀ t, more1 t = 1#1 → ∀ a, next1 t a + S1x128.size a ≤ (Rows m).size a
  last0 : Fin 2 → ℕ
  last0_inb : ∀ a, last0 a + S128x128.size a ≤ (Rows R).size a
  last1 : Fin 2 → ℕ
  last1_inb : ∀ a, last1 a + S128x128.size a ≤ (Rows R).size a

namespace Task

variable {m R : ℕ} (A : Task m R)

/-- The table as the streams name it. -/
abbrev tabW : Memref sig .scVector .hbm S100000x128 .f32 :=
  A.tab.slice (Rect.unit (s := S100000x128) ![0, 0] S100000x128.size inb_S100000x128_S100000x128_0_0) (fun _ => rfl)

/-- A window of 128 rows of the output. -/
abbrev win (off : Fin 2 → ℕ) (inb : ∀ a, off a + S128x128.size a ≤ (Rows R).size a) : Memref sig .scVector .hbm S128x128 .f32 :=
  A.out.slice (Rect.unit (s := Rows R) off S128x128.size inb) (fun _ => rfl)

/-- A row of the list. -/
abbrev names (off : Fin 2 → ℕ) (inb : ∀ a, off a + S1x128.size a ≤ (Rows m).size a) : Memref sig .scVector .vmem S128 .i32 :=
  (A.lst.slice (Rect.unit (s := Rows m) off S1x128.size inb) (fun _ => rfl)).squeeze S128 squeezes_S1x128_S128

variable {cc : Fin τ.nSC} {ii : Fin τ.nSub}

/-- One trip of the loop. -/
def trip : Fin A.L.trips → Unit → Prog (TpuEff nD τ sig (Elt F) Λ₀ (.scVector cc ii)) Unit :=
  fun t _ => do
    SparseCore.waitIndirectGather A.g0 A.tabW A.r0 (View.wordExact_bits rfl) A.r0_whole.wordExact
    Prog.lift (.enqueueDma A.r0 (.here (A.win (A.out0 t) (A.out0_inb t))) (.dma A.s0) A.r0_whole.wordExact (View.wordExact_bits rfl) ⟨Or.inl rfl, trivial⟩)
    SparseCore.waitIndirectGather A.g1 A.tabW A.r1 (View.wordExact_bits rfl) A.r1_whole.wordExact
    Prog.lift (.enqueueDma A.r1 (.here (A.win (A.out1 t) (A.out1_inb t))) (.dma A.s1) A.r1_whole.wordExact (View.wordExact_bits rfl) ⟨Or.inl rfl, trivial⟩)
    if h : A.more0 t = 1#1 then do
      Prog.lift (.waitDma2 A.s0 A.r0 (A.win (A.back0 t) (A.back0_inb t h)) A.r0_whole.wordExact (View.wordExact_bits rfl))
      SparseCore.enqueueIndirectGather rfl A.tabW A.r0 gathers_S100000x128_S128x128 (A.names (A.next0 t) (A.next0_inb t h)) rfl A.g0 (View.wordExact_bits rfl) rfl (Or.inl rfl)
      pure ⟨⟩
    else do
      pure ⟨⟩
    if h : A.more1 t = 1#1 then do
      Prog.lift (.waitDma2 A.s1 A.r1 (A.win (A.back1 t) (A.back1_inb t h)) A.r1_whole.wordExact (View.wordExact_bits rfl))
      SparseCore.enqueueIndirectGather rfl A.tabW A.r1 gathers_S100000x128_S128x128 (A.names (A.next1 t) (A.next1_inb t h)) rfl A.g1 (View.wordExact_bits rfl) rfl (Or.inl rfl)
      pure ⟨⟩
    else do
      pure ⟨⟩
    pure ⟨⟩

/-- The task but for its last wait. -/
def most : Prog (TpuEff nD τ sig (Elt F) Λ₀ (.scVector cc ii)) PUnit := do
  Prog.lift (.enqueueDma A.row (.here A.lst) (.dma A.sf) A.row_exact A.lst_whole.wordExact ⟨Or.inl rfl, trivial⟩)
  Prog.lift (.waitDma2 A.sf A.row A.lst A.row_exact A.lst_whole.wordExact)
  SparseCore.enqueueIndirectGather rfl A.tabW A.r0 gathers_S100000x128_S128x128 (A.names A.list0 A.list0_inb) rfl A.g0 (View.wordExact_bits rfl) rfl (Or.inl rfl)
  SparseCore.enqueueIndirectGather rfl A.tabW A.r1 gathers_S100000x128_S128x128 (A.names A.list1 A.list1_inb) rfl A.g1 (View.wordExact_bits rfl) rfl (Or.inl rfl)
  Scf.Loop.for A.L A.ok ⟨⟩ A.trip
  Prog.lift (.waitDma2 A.s0 A.r0 (A.win A.last0 A.last0_inb) A.r0_whole.wordExact (View.wordExact_bits rfl))
  pure ⟨⟩

/-- The task. -/
def prog : Prog (TpuEff nD τ sig (Elt F) Λ₀ (.scVector cc ii)) PUnit := do
  A.most
  Prog.lift (.waitDma2 A.s1 A.r1 (A.win A.last1 A.last1_inb) A.r1_whole.wordExact (View.wordExact_bits rfl))
  pure ⟨⟩

/-- What the places a task computes come to: the output's rows begin at `base`, two chunks to a trip. -/
structure Good (base : ℕ) : Prop where
  trips : 2 * A.L.trips = m
  pos : 0 < A.L.trips
  more0 : ∀ t, A.more0 t = 1#1 ↔ t.val + 1 < A.L.trips
  more1 : ∀ t, A.more1 t = 1#1 ↔ t.val + 1 < A.L.trips
  list0 : A.list0 = ![0, 0]
  list1 : A.list1 = ![1, 0]
  out0 : ∀ t, A.out0 t = ![base + 128 * (2 * t.val), 0]
  out1 : ∀ t, A.out1 t = ![base + 128 * (2 * t.val + 1), 0]
  next0 : ∀ t, A.next0 t = ![2 * t.val + 2, 0]
  next1 : ∀ t, A.next1 t = ![2 * t.val + 3, 0]
  credit0 : ∀ off inb, (A.win off inb).view.dmaCredit = credit A.r0
  credit1 : ∀ off inb, (A.win off inb).view.dmaCredit = credit A.r1
  sum0 : ∀ hg : S100000x128.Gathers 0 S128x128,
    ∑ j, (A.r0.slice (S128x128.rowRect hg.axis' j) (S128x128.stride_rowRect hg.axis' j)).view.dmaCredit = credit A.r0
  sum1 : ∀ hg : S100000x128.Gathers 0 S128x128,
    ∑ j, (A.r1.slice (S128x128.rowRect hg.axis' j) (S128x128.stride_rowRect hg.axis' j)).view.dmaCredit = credit A.r1
  pos0 : 0 < credit A.r0
  pos1 : 0 < credit A.r1
  posl : 0 < A.lst.view.dmaCredit

/-! ## The value -/

section Value

variable [NeZero m]

/-- Chunk `n`'s rows: the table's rows `t` that row `n` of the list `w` names. -/
def chunkOf (t : S100000x128.Idx → Elt F .f32) (w : (Rows m).Idx → Elt F .i32) (n : ℕ) : S128x128.Idx → Elt F .f32 := fun y =>
  t (ix2 (n0 := 100000) (n1 := 128) ⟨(w (ix2 (Fin.ofNat m n) (y 0))).toNat % 100000, Nat.mod_lt _ (by decide)⟩ (y 1))

theorem names_read {n : ℕ} (hn : n < m) (off : Fin 2 → ℕ) (ho : off = ![n, 0])
    (inb : ∀ a, off a + S1x128.size a ≤ (Rows m).size a) (f : A.lst.view.ty.Contents (Elt F)) (x : S128.Idx) :
    (A.names off inb).view.read (Elt F) f x = A.lst.view.read (Elt F) f (ix2 (Fin.ofNat m n) (x 0)) := by
  subst ho
  have e : (A.names ![n, 0] inb).view.read (Elt F) f x
      = A.lst.view.read (Elt F) f ((Rect.unit (s := Rows m) ![n, 0] S1x128.size inb).emb
          (Shape.reshapeEquiv (s := S1x128) (s' := S128) squeezes_S1x128_S128.numel_eq x)) := by
    rw [View.read_apply, View.read_apply]; rfl
  rw [e]
  congr 1
  have h1 : Shape.reshapeEquiv (s := S1x128) (s' := S128) squeezes_S1x128_S128.numel_eq x = Fin.cons ⟨0, Nat.one_pos⟩ x :=
    Shape.reshapeEquiv_cons_one _ x
  rw [h1]
  funext a
  match a with
  | 0 =>
    apply Fin.ext
    show n + 1 * 0 = n % m
    rw [Nat.mod_eq_of_lt hn]; rfl
  | 1 =>
    apply Fin.ext
    show 0 + 1 * (x 0).val = (x 0).val
    omega

theorem rows_at {o z : ℕ} (w : S128.Idx → Elt F .i32) (hn : S128.numel = o) (h : ∀ x, (w x).toNat < z) (k : Fin o) (y : S128.Idx) (hy : (y 0).val = k.val) :
    (SparseCore.rows (F := F) w hn h k).val = (w y).toNat := by
  show (w _).toNat = _
  congr 2
  apply S128.rowMajor.injective
  rw [Equiv.apply_symm_apply]
  apply Fin.ext
  rw [Shape.rowMajor_val_one]
  exact hy.symm

/-- The payload of the gather of chunk `n`. -/
theorem payload_eq {n : ℕ} (hn : n < m) (off : Fin 2 → ℕ) (ho : off = ![n, 0])
    (inb : ∀ a, off a + S1x128.size a ≤ (Rows m).size a) (f : A.lst.view.ty.Contents (Elt F)) (w : (Rows m).Idx → Elt F .i32)
    (hw : A.lst.view.read (Elt F) f = w) (t : S100000x128.Idx → Elt F .f32) (hg : S100000x128.Gathers 0 S128x128)
    (hnum : S128.numel = S128x128.size hg.axis')
    (hin : ∀ x, ((A.names off inb).view.read (Elt F) f x).toNat < S100000x128.size hg.axis) :
    SparseCore.gatherPayload hg t (SparseCore.rows ((A.names off inb).view.read (Elt F) f) hnum hin) = chunkOf t w n := by
  funext y
  show t _ = t _
  congr 1
  funext b
  match b with
  | 0 =>
    apply Fin.ext
    have e := Shape.Gathers.idx_axis hg (SparseCore.rows ((A.names off inb).view.read (Elt F) f) hnum hin) y
    refine (congrArg Fin.val e).trans ?_
    refine (rows_at (F := F) _ _ _ _ (ix1 (y 0 : Fin 128)) rfl).trans ?_
    rw [A.names_read hn off ho inb f, hw]
    show _ = _ % 100000
    have h := hin (ix1 (y 0 : Fin 128))
    rw [A.names_read hn off ho inb f, hw] at h
    exact (Nat.mod_eq_of_lt h).symm
  | 1 =>
    apply Fin.ext
    exact Shape.Gathers.idx_of_ne hg _ y 1 (by decide)

end Value

end Task

end Gather

end Cert.Proof
-- ==== Proof.GatherLoop.lean ====
/- The gather task's loop and whole run. -/
module

public import proofs.«01_k».proof.Proof.GatherRun

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ Cert.KernelIdeal.sig (HIx 2) (Elt F) ℕ UU ℕ

namespace Gather

/-- A share dealt into a remainder and two tokens. -/
theorem two_tokens (ℓ : Loc nD τ sig) (f : Buf (Elt F) ℓ) (q : PosShare TreeShare) :
    (ℓ ↦{q} f : sProp 𝕄) ⊣⊢ iprop((ℓ ↦{Transfers.shareDrop q 2} f) ∗ (ℓ ↦{Transfers.shareTokN q 0} f) ∗ (ℓ ↦{Transfers.shareTokN q 1} f)) := by
  have h : (ℓ ↦{q} f : sProp 𝕄) ⊣⊢ iprop((ℓ ↦{Transfers.shareDrop q 2} f) ∗ bigSep (Finset.range 2) (fun i => ℓ ↦{Transfers.shareTokN q i} f)) :=
    Transfers.pointsTo_toks_range (ℓ := ℓ) (S := Finset.univ) (f := f) q 2
  rw [show Finset.range 2 = {0, 1} by decide, SparseCore.bigSep_insert' (by decide), bigSep_singleton] at h
  exact h

namespace Task

variable {m R : ℕ} [NeZero m] (A : Task m R) (d : Dev nD) (cc : Fin τ.nSC) (ii : Fin τ.nSub) (base : ℕ)

/-- The output's rows `base + a` to `base + b` of the task, as elements of the output's buffer. -/
abbrev part (a b : ℕ) : Finset (Idx (A.out.view.loc (V d cc ii))) := (span R (base + 128 * a) (base + 128 * b)).map A.out.view.emb

theorem part_split (f : Buf (Elt F) (A.out.view.loc (V d cc ii))) {a b c : ℕ} (h : a ≤ b) (h' : b ≤ c) :
    (A.out.view.loc (V d cc ii) ↦[A.part d cc ii base a c]{fullShare} f : sProp 𝕄)
      ⊣⊢ iprop((A.out.view.loc (V d cc ii) ↦[A.part d cc ii base a b]{fullShare} f) ∗ (A.out.view.loc (V d cc ii) ↦[A.part d cc ii base b c]{fullShare} f)) := by
  have e : A.part d cc ii base a c = A.part d cc ii base a b ∪ A.part d cc ii base b c := by
    unfold part
    rw [← Finset.map_union, ← span_union (by omega) (by omega)]
  rw [e]
  exact pointsTo_union ((Finset.disjoint_map _).mpr span_disjoint)

theorem part_self (f f' : Buf (Elt F) (A.out.view.loc (V d cc ii))) (a : ℕ) :
    (A.out.view.loc (V d cc ii) ↦[A.part d cc ii base a a]{fullShare} f : sProp 𝕄) = A.out.view.loc (V d cc ii) ↦[A.part d cc ii base a a]{fullShare} f' :=
  pointsTo_congr fun z hz => by
    obtain ⟨y, hy, -⟩ := Finset.mem_map.mp hz
    rw [span_self] at hy; exact absurd hy (Finset.notMem_empty _)

theorem win_set (off : Fin 2 → ℕ) (n : ℕ) (h : off = ![base + 128 * n, 0]) (inb : ∀ a, off a + S128x128.size a ≤ (Rows R).size a) :
    (A.win off inb).view.set = A.part d cc ii base n (n + 1) := by
  show (A.out.view.slice (Rect.unit (s := Rows R) off S128x128.size inb)).set = _
  rw [View.set_slice, window_eq_span off h inb]
  rfl

theorem win_pts (off : Fin 2 → ℕ) (n : ℕ) (h : off = ![base + 128 * n, 0]) (inb : ∀ a, off a + S128x128.size a ≤ (Rows R).size a)
    (f : Buf (Elt F) (A.out.view.loc (V d cc ii))) :
    ((A.win off inb).view.loc (V d cc ii) ↦[(A.win off inb).view.set]{fullShare} f : sProp 𝕄)
      = A.out.view.loc (V d cc ii) ↦[A.part d cc ii base n (n + 1)]{fullShare} f := by
  rw [A.win_set d cc ii base off n h inb]

variable (O : CellTallies nD τ sig (HIx 2)) (W : Waits sig (HIx 2))
variable (fs : Buf (Elt F) (A.tabW.view.loc (V d cc ii))) (fl : Buf (Elt F) (A.lst.view.loc (V d cc ii)))
variable (w : (Rows m).Idx → Elt F .i32)
variable (fo f₁ : Buf (Elt F) (A.out.view.loc (V d cc ii)))
variable (q0 q1 h0 h1 : PosShare TreeShare)

/-- The chunk of the table that row `n` of the list names. -/
abbrev chunkN (n : ℕ) : S128x128.Idx → Elt F .f32 :=
  chunkOf (A.tabW.view.read (Elt F) fs) w n

/-- What the run needs of the contents: the list's words are rows of the table, and `fo` is what the chunks write. -/
structure Holds : Prop where
  inb : ∀ j, (w j).toNat < 100000
  val : ∀ n < m, ∀ off inb, off = ![base + 128 * n, 0] → (A.win off inb).view.read (Elt F) fo = A.chunkN d cc ii fs w n

/-- Between trips, before trip `t`: chunks `2t` and `2t+1` are being gathered, those before are written. -/
def flying (t : ℕ) : sProp (MT nD τ Cert.KernelIdeal.sig (HIx 2) (Elt F) ℕ UU ℕ) :=
  iprop(debt d cc ii O W
    ∗ (A.out.view.loc (V d cc ii) ↦[A.part d cc ii base 0 (2 * t)]{fullShare} fo)
    ∗ (A.out.view.loc (V d cc ii) ↦[A.part d cc ii base (2 * t) m]{fullShare} f₁)
    ∗ gathering d cc ii A.tabW fs (A.lst.view.loc (V d cc ii)) fl A.r0 A.g0 q0 h0 (A.chunkN d cc ii fs w (2 * t))
    ∗ gathering d cc ii A.tabW fs (A.lst.view.loc (V d cc ii)) fl A.r1 A.g1 q1 h1 (A.chunkN d cc ii fs w (2 * t + 1))
    ∗ semVal (V d cc ii, SemLoc.dma A.s0) 0 ∗ semVal (V d cc ii, SemLoc.dma A.s1) 0)

/-- After the last trip: its two chunks are being written. -/
abbrev landing (t : ℕ) : sProp (MT nD τ Cert.KernelIdeal.sig (HIx 2) (Elt F) ℕ UU ℕ) :=
  iprop(debt d cc ii O W
    ∗ (A.out.view.loc (V d cc ii) ↦[A.part d cc ii base 0 (2 * t)]{fullShare} fo)
    ∗ writing d cc ii (A.out.view.loc (V d cc ii)) fo A.r0 A.s0 (A.part d cc ii base (2 * t) (2 * t + 1))
    ∗ writing d cc ii (A.out.view.loc (V d cc ii)) fo A.r1 A.s1 (A.part d cc ii base (2 * t + 1) (2 * t + 2))
    ∗ (A.tabW.view.loc (V d cc ii) ↦{q0} fs) ∗ (A.tabW.view.loc (V d cc ii) ↦{q1} fs)
    ∗ (A.lst.view.loc (V d cc ii) ↦{h0} fl) ∗ (A.lst.view.loc (V d cc ii) ↦{h1} fl)
    ∗ semVal (V d cc ii, SemLoc.dma A.g0) 0 ∗ semVal (V d cc ii, SemLoc.dma A.g1) 0)

/-- The loop's invariant. -/
def inv (t : ℕ) : sProp (MT nD τ Cert.KernelIdeal.sig (HIx 2) (Elt F) ℕ UU ℕ) :=
  if t < A.L.trips then A.flying d cc ii base O W fs fl w fo f₁ q0 q1 h0 h1 t else A.landing d cc ii base O W fs fl fo q0 q1 h0 h1 (t - 1)

variable {A d cc ii base O W fs fl w fo f₁ q0 q1 h0 h1}

theorem names_lt (hfl : A.lst.view.read (Elt F) fl = w) (H : A.Holds d cc ii base fs w fo) {n : ℕ} (hn : n < m) (off : Fin 2 → ℕ) (ho : off = ![n, 0])
    (inb : ∀ a, off a + S1x128.size a ≤ (Rows m).size a) (x : S128.Idx) :
    ((A.names off inb).view.read (Elt F) fl x).toNat < S100000x128.size gathers_S100000x128_S128x128.axis := by
  rw [A.names_read hn off ho inb, hfl]; exact H.inb _

/-- One trip. -/
theorem trip_run (hfl : A.lst.view.read (Elt F) fl = w) (G : A.Good base) (H : A.Holds d cc ii base fs w fo) (t : Fin A.L.trips) :
    iprop(Transfers.MayWaits (V d cc ii) (default : HIx 2) O ∗ A.flying d cc ii base O W fs fl w fo f₁ q0 q1 h0 h1 t.val)
      ⊢ wp frame (wpE (defs₀ (F := F)) 𝒱₀ (V d cc ii) none) Set.univ (A.trip t ())
          fun _ => iprop(Transfers.MayWaits (V d cc ii) (default : HIx 2) O ∗ A.inv d cc ii base O W fs fl w fo f₁ q0 q1 h0 h1 (t.val + 1)) := by
  have ht := t.isLt
  have hm := G.trips
  unfold trip flying
  iintro ⟨#Hmw, HO, Hdone, Htodo, Hf0, Hf1, Hs0, Hs1⟩
  ihave Htodo := (A.part_split d cc ii base f₁ (a := 2 * t.val) (b := 2 * t.val + 1) (c := m) (by omega) (by omega)).1 $$ Htodo
  icases Htodo with ⟨Hc0, Htodo⟩
  ihave Htodo := (A.part_split d cc ii base f₁ (a := 2 * t.val + 1) (b := 2 * t.val + 2) (c := m) (by omega) (by omega)).1 $$ Htodo
  icases Htodo with ⟨Hc1, Htodo⟩
  iapply (turn (O := O) (W := W) d cc ii A.tabW fs (A.lst.view.loc (V d cc ii)) fl (A.out.view.loc (V d cc ii)) fo
      (dst := A.win (A.out0 t) (A.out0_inb t)) fo f₁ (A.part d cc ii base (2 * t.val) (2 * t.val + 1)) f₁
      (G.credit0 _ _) G.pos0 (H.val (2 * t.val) (by omega) _ _ (G.out0 t))
      (A.win_pts d cc ii base _ (2 * t.val) (G.out0 t) _ fo) (A.win_pts d cc ii base _ (2 * t.val) (G.out0 t) _ f₁)) $$ [Hf0 HO Hc0 Hs0]
  · isplitr; · iexact Hmw
    iframe Hf0 HO Hc0 Hs0
  iintro ⟨Ht0, Hl0, Hg0, HO, Hw0⟩
  iapply (turn (O := O) (W := W) d cc ii A.tabW fs (A.lst.view.loc (V d cc ii)) fl (A.out.view.loc (V d cc ii)) fo
      (dst := A.win (A.out1 t) (A.out1_inb t)) fo f₁ (A.part d cc ii base (2 * t.val + 1) (2 * t.val + 2)) f₁
      (G.credit1 _ _) G.pos1 (H.val (2 * t.val + 1) (by omega) _ _ (G.out1 t))
      (A.win_pts d cc ii base _ (2 * t.val + 1) (G.out1 t) _ fo) (A.win_pts d cc ii base _ (2 * t.val + 1) (G.out1 t) _ f₁)) $$ [Hf1 HO Hc1 Hs1]
  · isplitr; · iexact Hmw
    iframe Hf1 HO Hc1 Hs1
  iintro ⟨Ht1, Hl1, Hg1, HO, Hw1⟩
  by_cases hlt : t.val + 1 < A.L.trips
  · have hA : A.more0 t = 1#1 := (G.more0 t).mpr hlt
    have hB : A.more1 t = 1#1 := (G.more1 t).mpr hlt
    simp only [dif_pos hA, dif_pos hB]
    iapply (finish (O := O) (W := W) d cc ii (A.out.view.loc (V d cc ii)) fo (A.part d cc ii base (2 * t.val) (2 * t.val + 1)) (G.credit0 _ _)) $$ [Hw0 HO]
    · isplitr; · iexact Hmw
      iframe Hw0 HO
    iintro ⟨Hc0, Hr0, Hs0, HO⟩
    iapply (start (hg := gathers_S100000x128_S128x128) d cc ii A.tabW fs (A.lst.view.loc (V d cc ii)) fl (offs := A.names (A.next0 t) (A.next0_inb t hA)) fl (G.sum0 _)
        (names_lt hfl H (n := 2 * t.val + 2) (by omega) _ (G.next0 t) _)
        (A.payload_eq (n := 2 * t.val + 2) (by omega) _ (G.next0 t) _ fl _ hfl _ _ _ _) rfl) $$ [Ht0 Hr0 Hl0 Hg0]
    · iframe Ht0 Hr0 Hl0 Hg0
    iintro Hf0
    iapply (finish (O := O) (W := W) d cc ii (A.out.view.loc (V d cc ii)) fo (A.part d cc ii base (2 * t.val + 1) (2 * t.val + 2)) (G.credit1 _ _)) $$ [Hw1 HO]
    · isplitr; · iexact Hmw
      iframe Hw1 HO
    iintro ⟨Hc1, Hr1, Hs1, HO⟩
    iapply (start (hg := gathers_S100000x128_S128x128) d cc ii A.tabW fs (A.lst.view.loc (V d cc ii)) fl (offs := A.names (A.next1 t) (A.next1_inb t hB)) fl (G.sum1 _)
        (names_lt hfl H (n := 2 * t.val + 3) (by omega) _ (G.next1 t) _)
        (A.payload_eq (n := 2 * t.val + 3) (by omega) _ (G.next1 t) _ fl _ hfl _ _ _ _) rfl) $$ [Ht1 Hr1 Hl1 Hg1]
    · iframe Ht1 Hr1 Hl1 Hg1
    iintro Hf1
    sl_step
    isplitr; · iexact Hmw
    unfold inv; rw [if_pos hlt]
    unfold flying
    ihave Hdone := (A.part_split d cc ii base fo (a := 0) (b := 2 * t.val) (c := 2 * t.val + 1) (by omega) (by omega)).2 $$ [Hdone Hc0]
    · iframe Hdone Hc0
    ihave Hdone := (A.part_split d cc ii base fo (a := 0) (b := 2 * t.val + 1) (c := 2 * t.val + 2) (by omega) (by omega)).2 $$ [Hdone Hc1]
    · iframe Hdone Hc1
    rw [show 2 * (t.val + 1) = 2 * t.val + 2 by omega]
    iframe HO Hdone Htodo Hf0 Hf1 Hs0 Hs1
  · have hA : ¬ A.more0 t = 1#1 := fun h => hlt ((G.more0 t).mp h)
    have hB : ¬ A.more1 t = 1#1 := fun h => hlt ((G.more1 t).mp h)
    simp only [dif_neg hA, dif_neg hB]
    have hmt : m = 2 * t.val + 2 := by omega
    sl_step
    isplitr; · iexact Hmw
    unfold inv; rw [if_neg hlt, Nat.add_sub_cancel]
    unfold landing
    iframe HO Hdone Hw0 Hw1 Ht0 Ht1 Hl0 Hl1 Hg0
    have he : A.part d cc ii base (2 * t.val + 2) m = ∅ := by
      have h : span R (base + 128 * (2 * t.val + 2)) (base + 128 * m) = ∅ := by
        have hz : base + 128 * m = base + 128 * (2 * t.val + 2) := by omega
        rw [hz]; exact span_self
      unfold part; rw [h]; rfl
    rw [he, pointsTo_empty]
    iexact Hg1

theorem inv_last : A.inv d cc ii base O W fs fl w fo f₁ q0 q1 h0 h1 A.L.trips ⊢ A.landing d cc ii base O W fs fl fo q0 q1 h0 h1 (A.L.trips - 1) := by
  have hlast : ¬ A.L.trips < A.L.trips := lt_irrefl _
  unfold inv; rw [if_neg hlast]

/-- FETCH: copy the task's list of indices in, and wait for it. -/
theorem fetch {k : PUnit → Prog (TpuEff nD τ sig (Elt F) Λ₀ (.scVector cc ii)) PUnit}
    {Q : PUnit → sProp (MT nD τ Cert.KernelIdeal.sig (HIx 2) (Elt F) ℕ UU ℕ)}
    {x1 x2 x3 x4} {x5 : (DmaTarget.here A.lst : DmaTarget nD τ Cert.KernelIdeal.sig (.scVector cc ii) .vmem (Rows m) .i32).Typed .hbm (.dma A.sf)}
    {fi : Buf (Elt F) (A.row.view.loc (V d cc ii))} {p : PosShare TreeShare} (hw : A.row.view.read (Elt F) fi = w)
    (hl : 0 < A.lst.view.dmaCredit) :
    iprop(Transfers.MayWaits (V d cc ii) (default : HIx 2) O ∗ (A.row.view.loc (V d cc ii) ↦{p} fi)
        ∗ (∃ f, A.lst.view.loc (V d cc ii) ↦{fullShare} f) ∗ semVal (V d cc ii, SemLoc.dma A.sf) 0 ∗ owes (V d cc ii) O W)
      ⊢ iprop((iprop((A.row.view.loc (V d cc ii) ↦{p} fi) ∗ (∃ f, ⌜A.lst.view.read (Elt F) f = w⌝ ∗ A.lst.view.loc (V d cc ii) ↦{fullShare} f)
            ∗ semVal (V d cc ii, SemLoc.dma A.sf) 0 ∗ debt d cc ii O W) -∗ wp frame (wpE (defs₀ (F := F)) 𝒱₀ (V d cc ii) none) Set.univ (k ⟨⟩) Q)
        -∗ wp frame (wpE (defs₀ (F := F)) 𝒱₀ (V d cc ii) none) Set.univ
            (Prog.lift (.enqueueDma A.row (.here A.lst) (.dma A.sf) x1 x2 x5) >>= fun _ => Prog.lift (.waitDma2 A.sf A.row A.lst x3 x4) >>= k) Q) := by
  iintro ⟨#Hmw, Hi, ⟨%fl₀, Hl⟩, Hsf, HO⟩ Hk
  iapply (Transfers.wp_dmaFromWhole countersEmb 𝒱₀ (V d cc ii) none (default : HIx 2) A.lst.view.dmaCredit rfl hl (Finset.subset_univ _)) $$ [Hi Hl Hsf]
  · iframe Hi Hl Hsf
  iintro Hf
  iapply (Transfers.wp_waitLocalO countersEmb 𝒱₀ (V d cc ii) none (default : HIx 2) (rfl : A.lst.view.dmaCredit = _)) $$ [Hf HO]
  · isplitl [Hf]; · iexact Hf
    isplitl [HO]; · iexact HO
    iapply (Transfers.MayWaits.elim (SemLoc.dma A.sf)) $$ Hmw
  iintro ⟨⟨Hl, Hi⟩, Hsf, HO⟩
  ihave HO := (debt_insert (O := O) (W := W) d cc ii (W' := W) (fun p hp => .inl hp) (SemLoc.dma A.sf)) $$ HO
  iapply Hk
  iframe Hi Hsf
  isplitl [Hl]
  · iexists _; isplitr
    swap; · iexact Hl
    ipureintro
    rw [View.read_write_univ]; exact hw
  unfold debt
  iexact HO

set_option maxHeartbeats 1000000 in
/-- THE RUN. -/
theorem run {fi : Buf (Elt F) (A.row.view.loc (V d cc ii))} {p q : PosShare TreeShare} (hw : A.row.view.read (Elt F) fi = w)
    (G : A.Good base) (H : A.Holds d cc ii base fs w fo) :
    iprop(Transfers.MayWaits (V d cc ii) (default : HIx 2) O
        ∗ (A.row.view.loc (V d cc ii) ↦{p} fi) ∗ (A.tabW.view.loc (V d cc ii) ↦{q} fs)
        ∗ (A.out.view.loc (V d cc ii) ↦[A.part d cc ii base 0 m]{fullShare} f₁)
        ∗ ((∃ f, A.lst.view.loc (V d cc ii) ↦{fullShare} f) ∗ (∃ f, A.r0.view.loc (V d cc ii) ↦{fullShare} f) ∗ (∃ f, A.r1.view.loc (V d cc ii) ↦{fullShare} f))
        ∗ (semVal (V d cc ii, SemLoc.dma A.g0) 0 ∗ semVal (V d cc ii, SemLoc.dma A.g1) 0 ∗ semVal (V d cc ii, SemLoc.dma A.s0) 0
          ∗ semVal (V d cc ii, SemLoc.dma A.s1) 0 ∗ semVal (V d cc ii, SemLoc.dma A.sf) 0)
        ∗ owes (V d cc ii) O W)
      ⊢ wp frame (wpE (defs₀ (F := F)) 𝒱₀ (V d cc ii) none) Set.univ A.prog
          fun _ => iprop((A.row.view.loc (V d cc ii) ↦{p} fi) ∗ (A.tabW.view.loc (V d cc ii) ↦{q} fs)
        ∗ (A.out.view.loc (V d cc ii) ↦[A.part d cc ii base 0 m]{fullShare} fo)
        ∗ ((∃ f, A.lst.view.loc (V d cc ii) ↦{fullShare} f) ∗ (∃ f, A.r0.view.loc (V d cc ii) ↦{fullShare} f) ∗ (∃ f, A.r1.view.loc (V d cc ii) ↦{fullShare} f))
        ∗ (semVal (V d cc ii, SemLoc.dma A.g0) 0 ∗ semVal (V d cc ii, SemLoc.dma A.g1) 0 ∗ semVal (V d cc ii, SemLoc.dma A.s0) 0
          ∗ semVal (V d cc ii, SemLoc.dma A.s1) 0 ∗ semVal (V d cc ii, SemLoc.dma A.sf) 0)
        ∗ debt d cc ii O W) := by
  have hm := G.trips
  have hp := G.pos
  unfold prog
  rw [wp_bind]
  unfold most
  iintro ⟨#Hmw, Hi, Ht, Hout, ⟨Hl, Hr0, Hr1⟩, ⟨Hg0, Hg1, Hs0, Hs1, Hsf⟩, HO⟩
  iapply (fetch (A := A) (O := O) (W := W) (w := w) hw G.posl) $$ [Hi Hl Hsf HO]
  · isplitr; · iexact Hmw
    iframe Hi Hl Hsf HO
  iintro ⟨Hi, ⟨%fl, %hfl, Hl⟩, Hsf, HO⟩
  ihave Ht := (two_tokens (A.tabW.view.loc (V d cc ii)) fs q).1 $$ Ht
  ihave Hl := (two_tokens (A.lst.view.loc (V d cc ii)) fl fullShare).1 $$ Hl
  icases Ht with ⟨Ht, Ht0, Ht1⟩
  icases Hl with ⟨Hl, Hl0, Hl1⟩
  iapply (start (hg := gathers_S100000x128_S128x128) d cc ii A.tabW fs (A.lst.view.loc (V d cc ii)) fl (offs := A.names A.list0 A.list0_inb) fl (G.sum0 _)
        (names_lt hfl H (n := 0) (by omega) _ G.list0 _)
        (A.payload_eq (n := 0) (by omega) _ G.list0 _ fl _ hfl _ _ _ _) rfl) $$ [Ht0 Hr0 Hl0 Hg0]
  · iframe Ht0 Hr0 Hl0 Hg0
  iintro Hf0
  iapply (start (hg := gathers_S100000x128_S128x128) d cc ii A.tabW fs (A.lst.view.loc (V d cc ii)) fl (offs := A.names A.list1 A.list1_inb) fl (G.sum1 _)
        (names_lt hfl H (n := 1) (by omega) _ G.list1 _)
        (A.payload_eq (n := 1) (by omega) _ G.list1 _ fl _ hfl _ _ _ _) rfl) $$ [Ht1 Hr1 Hl1 Hg1]
  · iframe Ht1 Hr1 Hl1 Hg1
  iintro Hf1
  iapply (Scf.wp_for_bind _ _ _ _ _ _ _ _ _ (fun t _ => iprop(Transfers.MayWaits (V d cc ii) (default : HIx 2) O
      ∗ A.inv d cc ii base O W fs fl w fo f₁ (Transfers.shareTokN q 0) (Transfers.shareTokN q 1) (Transfers.shareTokN fullShare 0) (Transfers.shareTokN fullShare 1) t)) ?_) $$ [HO Hout Hf0 Hf1 Hs0 Hs1]
  · intro t _
    refine BI.Entails.trans ?_ (trip_run hfl G H t)
    have ht : t.val < A.L.trips := t.isLt
    unfold inv; rw [if_pos ht]
    exact BI.Entails.refl _
  · isplitr; · iexact Hmw
    unfold inv; rw [if_pos hp]; unfold flying
    ihave Hout := (A.part_split d cc ii base f₁ (a := 0) (b := 0) (c := m) (by omega) (by omega)).1 $$ Hout
    icases Hout with ⟨Hn, Hout⟩
    ihave Hn := (Entails.of_eq (A.part_self d cc ii base f₁ fo 0)) $$ Hn
    iframe HO Hf0 Hf1 Hs0 Hs1
    isplitl [Hn]; · iexact Hn
    iexact Hout
  iintro %_ ⟨#Hmw2, Hinv⟩
  ihave Hinv := (inv_last (A := A)) $$ Hinv
  icases Hinv with ⟨HO, Hdone, Hw0, Hw1, Ht0, Ht1, Hl0, Hl1, Hg0, Hg1⟩
  iapply (finish (O := O) (W := W) d cc ii (A.out.view.loc (V d cc ii)) fo _ (G.credit0 _ _)) $$ [Hw0 HO]
  · isplitr; · iexact Hmw
    iframe Hw0 HO
  iintro ⟨Hc0, Hr0, Hs0, HO⟩
  sl_step
  iapply (finish (O := O) (W := W) d cc ii (A.out.view.loc (V d cc ii)) fo _ (G.credit1 _ _)) $$ [Hw1 HO]
  · isplitr; · iexact Hmw
    iframe Hw1 HO
  iintro ⟨Hc1, Hr1, Hs1, HO⟩
  sl_step
  ihave Ht := (two_tokens (A.tabW.view.loc (V d cc ii)) fs q).2 $$ [Ht Ht0 Ht1]
  · iframe Ht Ht0 Ht1
  ihave Hl := (two_tokens (A.lst.view.loc (V d cc ii)) fl fullShare).2 $$ [Hl Hl0 Hl1]
  · iframe Hl Hl0 Hl1
  ihave Hdone := (A.part_split d cc ii base fo (a := 0) (b := 2 * (A.L.trips - 1)) (c := 2 * (A.L.trips - 1) + 1) (by omega) (by omega)).2 $$ [Hdone Hc0]
  · iframe Hdone Hc0
  ihave Hdone := (A.part_split d cc ii base fo (a := 0) (b := 2 * (A.L.trips - 1) + 1) (c := 2 * (A.L.trips - 1) + 2) (by omega) (by omega)).2 $$ [Hdone Hc1]
  · iframe Hdone Hc1
  have hz : 2 * (A.L.trips - 1) + 2 = m := by omega
  have hpart : A.part d cc ii base 0 (2 * (A.L.trips - 1) + 2) = A.part d cc ii base 0 m := congrArg (A.part d cc ii base 0) hz
  rw [hpart]
  iframe Hi Ht Hdone Hr0 Hr1 Hg0 Hg1 Hs0 Hs1 Hsf HO
  iexists fl; iexact Hl

end Task

end Gather

end Cert.Proof
-- ==== Proof.Tasks.lean ====
/- The two gather kernels as tasks.

   Subcore `(c, s)` is worker `w = 2 s + c`. In the first call a worker has 24 chunks of 128 rows, in the second 26. -/
module

public import proofs.«01_k».proof.Proof.GatherLoop
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.Sem

variable {F : FTy → Type} [FloatOps F]

namespace Gather

/-- A gather into a block of 128 rows is credited as one transfer of the block. -/
theorem sum_rows (r : Memref sig .scVector .vmem S128x128 .f32) (hg : S100000x128.Gathers 0 S128x128) :
    ∑ j, (r.slice (S128x128.rowRect hg.axis' j) (S128x128.stride_rowRect hg.axis' j)).view.dmaCredit = credit r :=
  (by decide : ∀ hg : S100000x128.Gathers 0 S128x128, ∑ j, ((Memref.whole cc0_scratch1 : Memref sig .scVector .vmem S128x128 .f32).slice
    (S128x128.rowRect hg.axis' j) (S128x128.stride_rowRect hg.axis' j)).view.dmaCredit = credit (Memref.whole cc0_scratch1)) hg

/-- The first call's task at the coordinates `i`. -/
def task0 (i : grid0.Coords) : Task 24 98304 where
  L := k0_t1_loop
  ok := k0_t1_ok
  tab := Memref.whole main_arg1_scv
  row := ((Memref.whole main_v6_scv : Memref sig .scVector .hbm S32x24x128 .i32).slice
    (Rect.unit (s := S32x24x128) (k0_off1 i) S1x24x128.size (k0_off1_inb i)) (fun _ => rfl)).squeeze S24x128 squeezes_S1x24x128_S24x128
  row_exact := (View.wordExact_bits rfl).reshape _ _
  lst := Memref.whole cc0_scratch0
  lst_whole := Memref.isWhole_whole _
  out := Memref.whole main_v7_scv
  r0 := Memref.whole cc0_scratch1
  r0_whole := Memref.isWhole_whole _
  r1 := Memref.whole cc0_scratch2
  r1_whole := Memref.isWhole_whole _
  g0 := cc0_scratch3.sem
  g1 := cc0_scratch4.sem
  s0 := cc0_scratch5.sem
  s1 := cc0_scratch6.sem
  sf := cc0_scoped0.sem
  more0 := k0_cond1
  more1 := k0_cond2
  list0 := ![0, 0]
  list0_inb := by decide
  list1 := ![1, 0]
  list1_inb := by decide
  out0 t := k0_off3 i t 0#32
  out0_inb t := k0_off3_inb i t 0
  out1 t := k0_off3 i t 1#32
  out1_inb t := k0_off3_inb i t 1
  back0 := k0_off4 i
  back0_inb := k0_off4_inb i
  back1 := k0_off6 i
  back1_inb := k0_off6_inb i
  next0 := k0_off5
  next0_inb := k0_off5_inb
  next1 := k0_off7
  next1_inb := k0_off7_inb
  last0 := k0_off8 i 2816#32
  last0_inb := k0_off8_inb i 0
  last1 := k0_off8 i 2944#32
  last1_inb := k0_off8_inb i 1

set_option maxRecDepth 65536 in
theorem body0 (i : grid0.Coords) :
    k0_t1_body (F := F) i (Memref.whole main_arg1_scv) (Memref.isWhole_whole _) (Memref.whole main_v6_scv) (Memref.isWhole_whole _)
        (Memref.whole main_v7_scv) (Memref.isWhole_whole _) (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 cc0_scoped0
      = (task0 i).trip (F := F) (cc := (i 0).castLE hcore0) (ii := (i 1).castLE hsub0) := by
  unfold k0_t1_body Task.trip
  dsimp only [task0]
  rfl

set_option maxRecDepth 65536 in
theorem prog0 (i : grid0.Coords) :
    cc0_gather_kernel (F := F) i (Memref.whole main_arg1_scv) (Memref.isWhole_whole _) (Memref.whole main_v6_scv) (Memref.isWhole_whole _)
        (Memref.whole main_v7_scv) (Memref.isWhole_whole _) (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 cc0_scoped0
      = (task0 i).prog (F := F) (cc := (i 0).castLE hcore0) (ii := (i 1).castLE hsub0) := by
  rw [cc0_gather_kernel_eq_skeleton]; unfold cc0_gather_kernel_skel
  rw [k0_part1_eq_skeleton]; unfold k0_part1_skel
  rw [body0]
  rfl

abbrev base0 (i : grid0.Coords) : ℕ := 6144 * (i 1).val + 3072 * (i 0).val

theorem good0 (i : grid0.Coords) : (task0 i).Good (base0 i) where
  trips := (by decide : 2 * k0_t1_loop.trips = 24)
  pos := (by decide : 0 < k0_t1_loop.trips)
  more0 := (by decide : ∀ t, k0_cond1 t = 1#1 ↔ t.val + 1 < k0_t1_loop.trips)
  more1 := (by decide : ∀ t, k0_cond2 t = 1#1 ↔ t.val + 1 < k0_t1_loop.trips)
  list0 := rfl
  list1 := rfl
  out0 t := (k0_off3_eq i t 0).trans (by congr 1; unfold base0; omega)
  out1 t := (k0_off3_eq i t 1).trans (by congr 1; unfold base0; omega)
  next0 t := k0_off5_eq t
  next1 t := k0_off7_eq t
  credit0 _ _ := rfl
  credit1 _ _ := rfl
  sum0 := sum_rows _
  sum1 := sum_rows _
  pos0 := View.dmaCredit_pos _ (by decide)
  pos1 := View.dmaCredit_pos _ (by decide)
  posl := View.dmaCredit_pos _ (by decide)

/-- The second call's task at the coordinates `i`. -/
def task1 (i : grid1.Coords) : Task 26 106496 where
  L := k1_t1_loop
  ok := k1_t1_ok
  tab := Memref.whole main_arg1_scv
  row := ((Memref.whole main_v9_scv : Memref sig .scVector .hbm S32x26x128 .i32).slice
    (Rect.unit (s := S32x26x128) (k1_off1 i) S1x26x128.size (k1_off1_inb i)) (fun _ => rfl)).squeeze S26x128 squeezes_S1x26x128_S26x128
  row_exact := (View.wordExact_bits rfl).reshape _ _
  lst := Memref.whole cc1_scratch0
  lst_whole := Memref.isWhole_whole _
  out := Memref.whole main_v10_scv
  r0 := Memref.whole cc1_scratch1
  r0_whole := Memref.isWhole_whole _
  r1 := Memref.whole cc1_scratch2
  r1_whole := Memref.isWhole_whole _
  g0 := cc1_scratch3.sem
  g1 := cc1_scratch4.sem
  s0 := cc1_scratch5.sem
  s1 := cc1_scratch6.sem
  sf := cc1_scoped0.sem
  more0 := k1_cond1
  more1 := k1_cond2
  list0 := ![0, 0]
  list0_inb := by decide
  list1 := ![1, 0]
  list1_inb := by decide
  out0 t := k1_off3 i t 0#32
  out0_inb t := k1_off3_inb i t 0
  out1 t := k1_off3 i t 1#32
  out1_inb t := k1_off3_inb i t 1
  back0 := k1_off4 i
  back0_inb := k1_off4_inb i
  back1 := k1_off6 i
  back1_inb := k1_off6_inb i
  next0 := k1_off5
  next0_inb := k1_off5_inb
  next1 := k1_off7
  next1_inb := k1_off7_inb
  last0 := k1_off8 i 3072#32
  last0_inb := k1_off8_inb i 0
  last1 := k1_off8 i 3200#32
  last1_inb := k1_off8_inb i 1

set_option maxRecDepth 65536 in
theorem body1 (i : grid1.Coords) :
    k1_t1_body (F := F) i (Memref.whole main_arg1_scv) (Memref.isWhole_whole _) (Memref.whole main_v9_scv) (Memref.isWhole_whole _)
        (Memref.whole main_v10_scv) (Memref.isWhole_whole _) (Memref.whole cc1_scratch0) (Memref.isWhole_whole _) (Memref.whole cc1_scratch1) (Memref.isWhole_whole _)
        (Memref.whole cc1_scratch2) (Memref.isWhole_whole _) cc1_scratch3 cc1_scratch4 cc1_scratch5 cc1_scratch6 cc1_scoped0
      = (task1 i).trip (F := F) (cc := (i 0).castLE hcore1) (ii := (i 1).castLE hsub1) := by
  unfold k1_t1_body Task.trip
  dsimp only [task1]
  rfl

set_option maxRecDepth 65536 in
theorem prog1 (i : grid1.Coords) :
    cc1_gather_kernel (F := F) i (Memref.whole main_arg1_scv) (Memref.isWhole_whole _) (Memref.whole main_v9_scv) (Memref.isWhole_whole _)
        (Memref.whole main_v10_scv) (Memref.isWhole_whole _) (Memref.whole cc1_scratch0) (Memref.isWhole_whole _) (Memref.whole cc1_scratch1) (Memref.isWhole_whole _)
        (Memref.whole cc1_scratch2) (Memref.isWhole_whole _) cc1_scratch3 cc1_scratch4 cc1_scratch5 cc1_scratch6 cc1_scoped0
      = (task1 i).prog (F := F) (cc := (i 0).castLE hcore1) (ii := (i 1).castLE hsub1) := by
  rw [cc1_gather_kernel_eq_skeleton]; unfold cc1_gather_kernel_skel
  rw [k1_part1_eq_skeleton]; unfold k1_part1_skel
  rw [body1]
  rfl

abbrev base1 (i : grid1.Coords) : ℕ := 6656 * (i 1).val + 3328 * (i 0).val

theorem good1 (i : grid1.Coords) : (task1 i).Good (base1 i) where
  trips := (by decide : 2 * k1_t1_loop.trips = 26)
  pos := (by decide : 0 < k1_t1_loop.trips)
  more0 := (by decide : ∀ t, k1_cond1 t = 1#1 ↔ t.val + 1 < k1_t1_loop.trips)
  more1 := (by decide : ∀ t, k1_cond2 t = 1#1 ↔ t.val + 1 < k1_t1_loop.trips)
  list0 := rfl
  list1 := rfl
  out0 t := (k1_off3_eq i t 0).trans (by congr 1; unfold base1; omega)
  out1 t := (k1_off3_eq i t 1).trans (by congr 1; unfold base1; omega)
  next0 t := k1_off5_eq t
  next1 t := k1_off7_eq t
  credit0 _ _ := rfl
  credit1 _ _ := rfl
  sum0 := sum_rows _
  sum1 := sum_rows _
  pos0 := View.dmaCredit_pos _ (by decide)
  pos1 := View.dmaCredit_pos _ (by decide)
  posl := View.dmaCredit_pos _ (by decide)

end Gather

end Cert.Proof
-- ==== Proof.Tile.lean ====
/- A gather task on one vector subcore, from what the launch hands it: the subcore's own buffers and semaphores, a share
   of the index list and of the table, and its rows of the output. -/
module

public import proofs.«01_k».proof.Proof.Tasks

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownSems0 ownBufs ownCells ownRefs mem_ownCells)
open Idealize.SL Idealize.SL.RA Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ Cert.KernelIdeal.sig (HIx 2) (Elt F) ℕ UU ℕ

namespace Gather

variable (d : Dev nD) (cc : Fin τ.nSC) (ii : Fin τ.nSub)

theorem cell_mem (s : DmaSem sig) : ((V d cc ii, SemLoc.dma s) : GSem nD τ sig) ∈ ownCells (V d cc ii) :=
  mem_ownCells.mpr ⟨rfl, (show ∀ s : DmaSem sig, (SemLoc.dma s : SemLoc sig).isScoped .scVector = true by decide) s⟩

theorem cell_ne {s t : DmaSem sig} (h : s ≠ t) : ((V d cc ii, SemLoc.dma s) : GSem nD τ sig) ≠ (V d cc ii, SemLoc.dma t) :=
  fun e => h (SemLoc.dma.inj (congrArg Prod.snd e))

/-- Five of a subcore's semaphores, and the rest. -/
theorem own_sems (g0 g1 s0 s1 sf : DmaSem sig) (h : [sf, s1, s0, g1, g0].Nodup) :
    ∃ X : sProp 𝕄, (ownSems0 (V d cc ii) : sProp 𝕄)
      = iprop(semVal (V d cc ii, SemLoc.dma g0) 0 ∗ semVal (V d cc ii, SemLoc.dma g1) 0 ∗ semVal (V d cc ii, SemLoc.dma s0) 0
          ∗ semVal (V d cc ii, SemLoc.dma s1) 0 ∗ semVal (V d cc ii, SemLoc.dma sf) 0 ∗ X) := by
  simp only [List.nodup_cons, List.mem_cons, List.not_mem_nil, _root_.or_false, not_or, List.nodup_nil, _root_.and_true] at h
  obtain ⟨⟨n1, n2, n3, n4⟩, ⟨n5, n6, n7⟩, ⟨n8, n9⟩, n10, -⟩ := h
  unfold SparseCore.Cfg.ownSems0
  rw [SparseCore.bigSep_erase' (cell_mem d cc ii g0),
    SparseCore.bigSep_erase' (Finset.mem_erase.mpr ⟨cell_ne d cc ii n10, cell_mem d cc ii g1⟩),
    SparseCore.bigSep_erase' (Finset.mem_erase.mpr ⟨cell_ne d cc ii n8, Finset.mem_erase.mpr ⟨cell_ne d cc ii n9, cell_mem d cc ii s0⟩⟩),
    SparseCore.bigSep_erase' (Finset.mem_erase.mpr ⟨cell_ne d cc ii n5, Finset.mem_erase.mpr ⟨cell_ne d cc ii n6, Finset.mem_erase.mpr
      ⟨cell_ne d cc ii n7, cell_mem d cc ii s1⟩⟩⟩),
    SparseCore.bigSep_erase' (Finset.mem_erase.mpr ⟨cell_ne d cc ii n1, Finset.mem_erase.mpr ⟨cell_ne d cc ii n2, Finset.mem_erase.mpr
      ⟨cell_ne d cc ii n3, Finset.mem_erase.mpr ⟨cell_ne d cc ii n4, cell_mem d cc ii sf⟩⟩⟩⟩)]
  exact ⟨_, rfl⟩

/-- A buffer that each vector subcore has of its own. -/
def Own (r : Ref sig .scVector) : Prop := ∀ cc ii, ((Proc.scVector cc ii).devRef r : DevRef τ sig).owner = .proc (.scVector cc ii)

/-- Three of a subcore's own buffers, and the rest. -/
theorem own_bufs {a b c : Ref sig .scVector} (ha : Own a) (hb : Own b) (hc : Own c) (h : [c, b, a].Nodup) :
    ∃ X : sProp 𝕄, (ownBufs (V d cc ii) : sProp 𝕄)
      = iprop((∃ f, (V d cc ii).loc a ↦{fullShare} f) ∗ (∃ f, (V d cc ii).loc b ↦{fullShare} f) ∗ (∃ f, (V d cc ii).loc c ↦{fullShare} f) ∗ X) := by
  simp only [List.nodup_cons, List.mem_cons, List.not_mem_nil, _root_.or_false, not_or, List.nodup_nil, _root_.and_true] at h
  obtain ⟨⟨n1, n2⟩, n3, -⟩ := h
  have mem : ∀ {r : Ref sig .scVector}, Own r → (Proc.scVector cc ii).devRef r ∈ ownRefs (τ := τ) (.scVector cc ii) :=
    fun hr => SparseCore.Cfg.mem_ownRefs_of_owner (hr cc ii)
  have ne : ∀ {r s : Ref sig .scVector}, r ≠ s → (Proc.scVector cc ii).devRef (τ := τ) r ≠ (Proc.scVector cc ii).devRef s :=
    fun hn e => hn (Proc.devRef_injective _ e)
  unfold SparseCore.Cfg.ownBufs
  rw [SparseCore.bigSep_erase' (mem ha), SparseCore.bigSep_erase' (Finset.mem_erase.mpr ⟨ne n3, mem hb⟩),
    SparseCore.bigSep_erase' (Finset.mem_erase.mpr ⟨ne n1, Finset.mem_erase.mpr ⟨ne n2, mem hc⟩⟩)]
  exact ⟨_, rfl⟩

namespace Task

variable {m R : ℕ} [NeZero m] {A : Task m R} {d cc ii} {base : ℕ} {O : CellTallies nD τ sig (HIx 2)} {W : Waits sig (HIx 2)}
variable {fs : Buf (Elt F) (A.tabW.view.loc (V d cc ii))} {w : (Rows m).Idx → Elt F .i32}
variable {fo f₁ : Buf (Elt F) (A.out.view.loc (V d cc ii))}

/-- The task on its subcore. -/
theorem tile {fi : Buf (Elt F) (A.row.view.loc (V d cc ii))} {p q : PosShare TreeShare} (hw : A.row.view.read (Elt F) fi = w)
    (G : A.Good base) (H : A.Holds d cc ii base fs w fo) (hO : ∀ g, O g none = 0)
    (hsems : [A.sf, A.s1, A.s0, A.g1, A.g0].Nodup) (hl : Own A.lst.view.ref) (h0 : Own A.r0.view.ref) (h1 : Own A.r1.view.ref)
    (hbufs : [A.r1.view.ref, A.r0.view.ref, A.lst.view.ref].Nodup) :
    (iprop(levAts (K (F := F)).L (K (F := F)).lev ∗ emp
        ∗ ((A.row.view.loc (V d cc ii) ↦{p} fi) ∗ (A.tabW.view.loc (V d cc ii) ↦{q} fs)
          ∗ (A.out.view.loc (V d cc ii) ↦[A.part d cc ii base 0 m]{fullShare} f₁))
        ∗ scopedBufs (V d cc ii) ∗ scopedSems0 (V d cc ii) ∗ owes (V d cc ii) O W) : sProp 𝕄)
      ⊢ wp frame (wpE (defs₀ (F := F)) 𝒱₀ (V d cc ii) none) Set.univ A.prog
          fun _ => iprop(((A.row.view.loc (V d cc ii) ↦{p} fi) ∗ (A.tabW.view.loc (V d cc ii) ↦{q} fs)
              ∗ (A.out.view.loc (V d cc ii) ↦[A.part d cc ii base 0 m]{fullShare} fo))
            ∗ scopedBufs (V d cc ii) ∗ scopedSems0 (V d cc ii)
            ∗ ∃ W', ⌜∀ p ∈ W', p ∈ W ∨ p.2 = none⌝ ∗ owes (V d cc ii) O W') := by
  obtain ⟨X, hX⟩ := own_sems (F := F) d cc ii A.g0 A.g1 A.s0 A.s1 A.sf hsems
  obtain ⟨Y, hY⟩ := own_bufs (F := F) d cc ii hl h0 h1 hbufs
  rw [(K (F := F)).scopedBufs_V facts d cc ii, SparseCore.Cfg.scopedSems0_V (Val := Elt F) d cc ii, hX, hY]
  refine BI.Entails.trans ?_ ((BI.sep_mono (run (A := A) (p := p) (q := q) (f₁ := f₁) (O := O) (W := W) hw G H) (BI.Entails.refl (iprop(X ∗ Y) : sProp 𝕄))).trans
    ((wp_frame_r frame _ _).trans (wp_mono frame _ _ fun _ => ?_)))
  · show (_ : sProp 𝕄) ⊢ iprop(_ ∗ _)
    iintro ⟨#Hlv, -, ⟨Hi, Ht, Ho⟩, ⟨Hl, Hr0, Hr1, HY⟩, ⟨Hg0, Hg1, Hs0, Hs1, Hsf, HX⟩, HO⟩
    ihave #Hmw := (show levAts (K (F := F)).L (K (F := F)).lev ⊢ Transfers.MayWaits (V d cc ii) (default : HIx 2) O from
      (K (F := F)).mayWaits_none (thr := V d cc ii) hO) $$ Hlv
    iframe Hi Ht Ho Hl Hr0 Hr1 Hg0 Hg1 Hs0 Hs1 Hsf HO HX HY
    iexact Hmw
  · unfold debt
    show (iprop(_ ∗ _) : sProp 𝕄) ⊢ _
    iintro ⟨⟨Hi, Ht, Ho, ⟨Hl, Hr0, Hr1⟩, ⟨Hg0, Hg1, Hs0, Hs1, Hsf⟩, HO⟩, HX, HY⟩
    iframe Hi Ht Ho Hl Hr0 Hr1 Hg0 Hg1 Hs0 Hs1 Hsf HO HX HY

end Task

end Gather

end Cert.Proof
-- ==== Proof.Rows.lean ====
/- What the two gathers leave: row `z` of the output is the table's row that the `z`-th word of the index list names. The
   list of a call is laid out by worker, chunk and place in the chunk, so the `z`-th word is found by division. -/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.Sem

variable {F : FTy → Type} [FloatOps F]

namespace Gather

/-- An index list by worker, chunk and place. -/
abbrev Lists (m : ℕ) : Shape := ⟨3, ![32, m, 128]⟩

/-- The table's row a word names. -/
def rowOf (v : BitVec 32) : Fin 100000 := ⟨v.toNat % 100000, Nat.mod_lt _ (by norm_num)⟩

/-- The gathered rows. -/
def got {m R : ℕ} [NeZero m] (t : S100000x128.Idx → Elt F .f32) (x : (Lists m).Idx → Elt F .i32) : (Rows R).Idx → Elt F .f32 :=
  fun z => t (ix2 (rowOf (x (ix3 (Fin.ofNat 32 ((z 0).val / (128 * m))) (Fin.ofNat m ((z 0).val % (128 * m) / 128)) (Fin.ofNat 128 ((z 0).val % 128))))) (z 1))

/-- The gathered row at worker `k`, chunk `n`, place `y`. -/
theorem got_at {m R : ℕ} [NeZero m] (t : S100000x128.Idx → Elt F .f32) (x : (Lists m).Idx → Elt F .i32) (z : (Rows R).Idx) {k n y : ℕ}
    (hn : n < m) (hy : y < 128) (hz : (z 0).val = 128 * m * k + 128 * n + y) :
    got (R := R) t x z = t (ix2 (rowOf (x (ix3 (Fin.ofNat 32 k) (Fin.ofNat m n) (Fin.ofNat 128 y)))) (z 1)) := by
  have hny : 128 * n + y < 128 * m := by omega
  have e1 : (z 0).val / (128 * m) = k := by
    rw [hz, add_assoc]
    exact (Nat.mul_add_div (by omega) _ _).trans (by rw [Nat.div_eq_of_lt hny, add_zero])
  have e2 : (z 0).val % (128 * m) / 128 = n := by
    rw [hz, add_assoc, Nat.mul_add_mod, Nat.mod_eq_of_lt hny]; omega
  have e3 : (z 0).val % 128 = y := by
    rw [hz, show 128 * m * k + 128 * n + y = 128 * (m * k + n) + y by ring, Nat.mul_add_mod, Nat.mod_eq_of_lt hy]
  unfold got
  rw [e1, e2, e3]

/-- A task's list: worker `k`'s part of the whole list. -/
def listOf {m : ℕ} (x : (Lists m).Idx → Elt F .i32) (k : ℕ) : (Rows m).Idx → Elt F .i32 :=
  fun j => x (ix3 (Fin.ofNat 32 k) (j 0) (j 1))

namespace Task

variable {m R : ℕ} [NeZero m] {A : Task m R} {d : Dev nD} {cc : Fin τ.nSC} {ii : Fin τ.nSub} {base : ℕ}
variable {fs : Buf (Elt F) (A.tabW.view.loc (V d cc ii))} {fo : Buf (Elt F) (A.out.view.loc (V d cc ii))}

/-- The gathered rows are what the chunks of worker `k` write. -/
theorem holds {t : S100000x128.Idx → Elt F .f32} {x : (Lists m).Idx → Elt F .i32} {k : ℕ} (ht : A.tabW.view.read (Elt F) fs = t)
    (ho : A.out.view.read (Elt F) fo = got t x) (hx : ∀ j, (x j).toNat < 100000) (hb : base = 128 * m * k) :
    A.Holds d cc ii base fs (listOf x k) fo where
  inb _ := hx _
  val n hn off inb hoff := by
    subst hoff
    funext y
    have e : (A.win ![base + 128 * n, 0] inb).view.read (Elt F) fo y
        = A.out.view.read (Elt F) fo ((Rect.unit (s := Rows R) ![base + 128 * n, 0] S128x128.size inb).emb y) := by
      rw [View.read_apply, View.read_apply]; rfl
    have h0 : (((Rect.unit (s := Rows R) ![base + 128 * n, 0] S128x128.size inb).emb y) 0).val = 128 * m * k + 128 * n + (y 0).val := by
      show base + 128 * n + 1 * (y 0).val = _
      omega
    have h1 : (((Rect.unit (s := Rows R) ![base + 128 * n, 0] S128x128.size inb).emb y) 1) = y 1 := by
      apply Fin.ext
      show 0 + 1 * (y 1).val = (y 1).val
      omega
    have hy : (y 0).val < 128 := (y 0).isLt
    rw [e, ho, got_at t x _ hn hy h0, h1]
    show _ = A.tabW.view.read (Elt F) fs _
    rw [ht]
    unfold listOf rowOf
    congr 1
    funext b
    match b with
    | 0 =>
      apply Fin.ext
      show (x _).toNat % 100000 = (x _).toNat % 100000
      congr 4
      exact Fin.ext (Nat.mod_eq_of_lt hy)
    | 1 => rfl

end Task

end Gather

end Cert.Proof
-- ==== Proof.Payload.lean ====
/- What the handshakes of the two SparseCore calls carry, and the calls' obligations.

   Worker `k` of a call is handed a share of the index list and of the table, and its rows of the output; it hands the
   same back with its rows gathered. -/
module

public import proofs.«01_k».proof.Proof.Rows

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ Cert.KernelIdeal.sig (HIx 2) (Elt F) ℕ UU ℕ

namespace Gather

/-- The worker at core `c`, subcore `i`. -/
def wid (c : Fin 2) (i : Fin 16) : Fin 32 := ⟨2 * i.val + c.val, by omega⟩

/-- A worker's share of what all read. -/
def share (k : Fin 32) : PosShare TreeShare := Transfers.dealOf fullShare Finset.univ k

/-- What the calls find on each device: the table, and for each call its index list and the output's contents. -/
structure Given (F : FTy → Type) where
  t : Dev nD → S100000x128.Idx → Elt F .f32
  x0 : Dev nD → (Lists 24).Idx → Elt F .i32
  x1 : Dev nD → (Lists 26).Idx → Elt F .i32
  o0 : Dev nD → (Rows 98304).Idx → Elt F .f32
  o1 : Dev nD → (Rows 106496).Idx → Elt F .f32

/-- Every word names a row of the table. -/
structure Given.Ok (g : Given F) : Prop where
  x0 : ∀ d j, (g.x0 d j).toNat < 100000
  x1 : ∀ d j, (g.x1 d j).toNat < 100000

/-- Worker `k`'s rows of the output of `R` rows, `128 m` to a worker. -/
abbrev rowsOf (m R k : ℕ) : Finset (Rows R).Idx := span R (128 * m * k) (128 * m * k + 128 * m)

abbrev tabL (d : Dev nD) : Loc nD τ sig := (SparseCore.T d).loc main_arg1
abbrev listL0 (d : Dev nD) : Loc nD τ sig := (SparseCore.T d).loc main_v6
abbrev listL1 (d : Dev nD) : Loc nD τ sig := (SparseCore.T d).loc main_v9
abbrev outL0 (d : Dev nD) : Loc nD τ sig := (SparseCore.T d).loc main_v7
abbrev outL1 (d : Dev nD) : Loc nD τ sig := (SparseCore.T d).loc main_v10

variable (g : Given F)

/-- Worker `k`'s parcel of a call: its shares of the list and of the table, and its own part `S k` of the output, at `o`. -/
def parcel {ℓl ℓt ℓo : Loc nD τ sig} (x : Buf (Elt F) ℓl) (t : Buf (Elt F) ℓt) (S : Fin 32 → Finset (Idx ℓo)) (o : Buf (Elt F) ℓo) (k : Fin 32) : sProp (MT nD τ Cert.KernelIdeal.sig (HIx 2) (Elt F) ℕ UU ℕ) :=
  iprop((ℓl ↦{share k} x) ∗ (ℓt ↦{share k} t) ∗ (ℓo ↦[S k]{fullShare} o))

/-- The first call's parcel for worker `k`, its rows of the output at `o`. -/
def parcel0 (o : (Rows 98304).Idx → Elt F .f32) (d : Dev nD) (k : Fin 32) : sProp (MT nD τ Cert.KernelIdeal.sig (HIx 2) (Elt F) ℕ UU ℕ) :=
  parcel (ℓl := listL0 d) (ℓt := tabL d) (ℓo := outL0 d) (g.x0 d) (g.t d) (fun k => rowsOf 24 98304 k) o k
/-- The second call's. -/
def parcel1 (o : (Rows 106496).Idx → Elt F .f32) (d : Dev nD) (k : Fin 32) : sProp (MT nD τ Cert.KernelIdeal.sig (HIx 2) (Elt F) ℕ UU ℕ) :=
  parcel (ℓl := listL1 d) (ℓt := tabL d) (ℓo := outL1 d) (g.x1 d) (g.t d) (fun k => rowsOf 26 106496 k) o k

/-- The payloads, by call. -/
def P : (K (F := F)).Pay (nD := nD) (Val := Elt F) (Name := ℕ) (U := UU) where
  st := fun | 0 => fun d c => bigSep Finset.univ fun i => parcel0 g (g.o0 d) d (wid c i) | 1 => fun d c => bigSep Finset.univ fun i => parcel1 g (g.o1 d) d (wid c i)
  dn := fun | 0 => fun d c => bigSep Finset.univ fun i => parcel0 g (got (g.t d) (g.x0 d)) d (wid c i) | 1 => fun d c => bigSep Finset.univ fun i => parcel1 g (got (g.t d) (g.x1 d)) d (wid c i)
  go := fun | 0 => fun d c i => parcel0 g (g.o0 d) d (wid c i) | 1 => fun d c i => parcel1 g (g.o1 d) d (wid c i)
  td := fun | 0 => fun d c i => parcel0 g (got (g.t d) (g.x0 d)) d (wid c i) | 1 => fun d c i => parcel1 g (got (g.t d) (g.x1 d)) d (wid c i)
  x := fun _ _ => iprop(emp)

instance {ℓl ℓt ℓo : Loc nD τ sig} (x : Buf (Elt F) ℓl) (t : Buf (Elt F) ℓt) (S : Fin 32 → Finset (Idx ℓo)) (o : Buf (Elt F) ℓo) (k : Fin 32) :
    BI.Storable (upEmb : UEmb _ 𝕄) (parcel x t S o k) := by unfold parcel; infer_instance
instance (o d k) : BI.Storable (upEmb : UEmb _ 𝕄) (parcel0 g o d k) := by unfold parcel0; infer_instance
instance (o d k) : BI.Storable (upEmb : UEmb _ 𝕄) (parcel1 g o d k) := by unfold parcel1; infer_instance

instance P_storable : (P g).IsStorable where
  st q d c := match q with
    | 0 => (inferInstance : BI.Storable (upEmb : UEmb _ 𝕄) (bigSep Finset.univ fun i => parcel0 g (g.o0 d) d (wid c i)))
    | 1 => (inferInstance : BI.Storable (upEmb : UEmb _ 𝕄) (bigSep Finset.univ fun i => parcel1 g (g.o1 d) d (wid c i)))
  dn q d c := match q with
    | 0 => (inferInstance : BI.Storable (upEmb : UEmb _ 𝕄) (bigSep Finset.univ fun i => parcel0 g (got (g.t d) (g.x0 d)) d (wid c i)))
    | 1 => (inferInstance : BI.Storable (upEmb : UEmb _ 𝕄) (bigSep Finset.univ fun i => parcel1 g (got (g.t d) (g.x1 d)) d (wid c i)))
  go q d c i := match q with
    | 0 => (inferInstance : BI.Storable (upEmb : UEmb _ 𝕄) (parcel0 g (g.o0 d) d (wid c i)))
    | 1 => (inferInstance : BI.Storable (upEmb : UEmb _ 𝕄) (parcel1 g (g.o1 d) d (wid c i)))
  td q d c i := match q with
    | 0 => (inferInstance : BI.Storable (upEmb : UEmb _ 𝕄) (parcel0 g (got (g.t d) (g.x0 d)) d (wid c i)))
    | 1 => (inferInstance : BI.Storable (upEmb : UEmb _ 𝕄) (parcel1 g (got (g.t d) (g.x1 d)) d (wid c i)))

/-- A core's payload is its subcores'. -/
theorem vecSplit (q : Fin 2) : (K (F := F)).VecSplit' (P g) q := by
  have key : ∀ A B : sProp 𝕄, A ⊢ |={Set.univ}=> iprop(A ∗ (B -∗ B)) := by
    intro A B
    iintro HA
    imodintro
    iframe HA
    iintro HB
    iexact HB
  match q with
  | 0 => exact fun d c => key _ _
  | 1 => exact fun d c => key _ _

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

/-- A worker's number as the kernels compute it. -/
theorem wid_word {a b : ℕ} (ha : a < 16) (hb : b < 2) :
    (Scalar.addi (Scalar.muli (BitVec.ofNat 32 a) 2#32) (BitVec.ofNat 32 b)).toNat = 2 * a + b := by
  show (BitVec.ofNat 32 a * 2#32 + BitVec.ofNat 32 b).toNat = _
  rw [BitVec.toNat_add, BitVec.toNat_mul, BitVec.toNat_ofNat, BitVec.toNat_ofNat, BitVec.toNat_ofNat]
  omega

/-- The list read through worker `k`'s window of it. -/
theorem window_list {m : ℕ} (x : (Lists m).Idx → Elt F .i32) (k : Fin 32) (off : Fin 3 → ℕ) (ho : off = ![k.val, 0, 0])
    (inb : ∀ a, off a + (⟨3, ![1, m, 128]⟩ : Shape).size a ≤ (Lists m).size a) (hn : (Rows m).numel = (⟨3, ![1, m, 128]⟩ : Shape).numel) (j : (Rows m).Idx) :
    x ((Rect.unit (s := Lists m) off (⟨3, ![1, m, 128]⟩ : Shape).size inb).emb (Shape.reshapeEquiv (s := ⟨3, ![1, m, 128]⟩) (s' := Rows m) hn j))
      = listOf x k j := by
  subst ho
  have h1 : Shape.reshapeEquiv (s := ⟨3, ![1, m, 128]⟩) (s' := Rows m) hn j = Fin.cons ⟨0, Nat.one_pos⟩ j := Shape.reshapeEquiv_cons_one _ j
  rw [h1]
  unfold listOf
  congr 1
  funext a
  match a with
  | 0 =>
    apply Fin.ext
    show k.val + 1 * 0 = k.val % 32
    omega
  | 1 =>
    apply Fin.ext
    show 0 + 1 * (j 0).val = (j 0).val; omega
  | 2 =>
    apply Fin.ext
    show 0 + 1 * (j 1).val = (j 1).val; omega

/-- The table read whole. -/
theorem window_table (t : S100000x128.Idx → Elt F .f32) (y : S100000x128.Idx) :
    t ((Rect.unit (s := S100000x128) ![0, 0] S100000x128.size inb_S100000x128_S100000x128_0_0).emb y) = t y := by
  congr 1
  funext a
  match a with
  | 0 => apply Fin.ext; show 0 + 1 * (y 0).val = (y 0).val; omega
  | 1 => apply Fin.ext; show 0 + 1 * (y 1).val = (y 1).val; omega

/-! ### Whole buffers and parcels -/

/-- Workers by core and subcore. -/
def workers : Fin 2 × Fin 16 ≃ Fin 32 where
  toFun p := wid p.1 p.2
  invFun k := (⟨k.val % 2, by omega⟩, ⟨k.val / 2, by omega⟩)
  left_inv p := by
    apply Prod.ext <;> apply Fin.ext
    · show (2 * p.2.val + p.1.val) % 2 = p.1.val; omega
    · show (2 * p.2.val + p.1.val) / 2 = p.2.val; omega
  right_inv k := by
    apply Fin.ext
    show 2 * (k.val / 2) + k.val % 2 = k.val; omega

theorem by_workers (Φ : Fin 32 → sProp 𝕄) :
    bigSep Finset.univ Φ = bigSep Finset.univ fun c : Fin 2 => bigSep Finset.univ fun i : Fin 16 => Φ (wid c i) :=
  (bigSep_univ_equiv workers Φ).trans (bigSep_univ_prod fun p => Φ (workers p))

/-- The workers' rows are the output. -/
theorem rows_cover {m R : ℕ} [NeZero m] (hR : R = 128 * m * 32) : (Finset.univ : Finset (Rows R).Idx) = Finset.univ.biUnion fun k : Fin 32 => rowsOf m R k := by
  have hm : 0 < m := Nat.pos_of_ne_zero (NeZero.ne m)
  ext z
  simp only [Finset.mem_univ, Finset.mem_biUnion, true_and, true_iff, mem_span]
  have hz : (z 0).val < R := (z 0).isLt
  have hk : (z 0).val / (128 * m) < 32 := by
    rw [Nat.div_lt_iff_lt_mul (by omega)]; exact lt_of_lt_of_eq hz (hR.trans (mul_comm _ _))
  refine ⟨⟨_, hk⟩, ?_⟩
  have h1 := Nat.div_add_mod (z 0).val (128 * m)
  have h2 := Nat.mod_lt (z 0).val (show 128 * m > 0 by omega)
  constructor
  · show 128 * m * ((z 0).val / (128 * m)) ≤ _
    omega
  · show _ < 128 * m * ((z 0).val / (128 * m)) + 128 * m
    omega

theorem rows_apart {m R : ℕ} (k k' : Fin 32) (h : k ≠ k') : Disjoint (rowsOf m R k) (rowsOf m R k') := by
  rw [Finset.disjoint_left]
  intro z hz hz'
  rw [mem_span] at hz hz'
  rcases Nat.lt_or_gt_of_ne (fun e => h (Fin.ext e)) with hlt | hlt
  · have := Nat.mul_le_mul_left (128 * m) (Nat.succ_le_of_lt hlt)
    rw [Nat.mul_succ] at this; omega
  · have := Nat.mul_le_mul_left (128 * m) (Nat.succ_le_of_lt hlt)
    rw [Nat.mul_succ] at this; omega

/-- A buffer read by all, as the workers' shares. -/
theorem deal (ℓ : Loc nD τ sig) (f : Buf (Elt F) ℓ) : (ℓ ↦{fullShare} f : sProp 𝕄) = bigSep Finset.univ fun k : Fin 32 => ℓ ↦{share k} f :=
  Transfers.pointsTo_deal (ℓ := ℓ) (S := Finset.univ) (f := f) Finset.univ ⟨0, Finset.mem_univ 0⟩ fullShare

/-- A call's three buffers are the workers' parcels, if their parts of the output cover it and don't meet. -/
theorem parcels {ℓl ℓt ℓo : Loc nD τ sig} (x : Buf (Elt F) ℓl) (t : Buf (Elt F) ℓt) (S : Fin 32 → Finset (Idx ℓo)) (o : Buf (Elt F) ℓo)
    (hc : (Finset.univ : Finset (Idx ℓo)) = Finset.univ.biUnion S) (ha : ∀ k k', k ≠ k' → Disjoint (S k) (S k')) :
    (iprop((ℓl ↦{fullShare} x) ∗ (ℓt ↦{fullShare} t) ∗ (ℓo ↦{fullShare} o)) : sProp 𝕄)
      = bigSep Finset.univ fun c : Fin 2 => bigSep Finset.univ fun i : Fin 16 => parcel x t S o (wid c i) := by
  rw [← by_workers (parcel x t S o)]
  have ho : (ℓo ↦{fullShare} o : sProp 𝕄) = bigSep Finset.univ fun k : Fin 32 => ℓo ↦[S k]{fullShare} o :=
    (congrArg (fun S => (ℓo ↦[S]{fullShare} o : sProp 𝕄)) hc).trans (pointsTo_biUnion (ℓ := ℓo) Finset.univ S fun k _ k' _ h => ha k k' h)
  rw [deal ℓl, deal ℓt, ho, ← bigSep_sep', ← bigSep_sep']
  rfl

theorem parcels0 (d : Dev nD) (o : (Rows 98304).Idx → Elt F .f32) :
    (iprop((listL0 d ↦{fullShare} g.x0 d) ∗ (tabL d ↦{fullShare} g.t d) ∗ (outL0 d ↦{fullShare} o)) : sProp 𝕄)
      = bigSep Finset.univ fun c : Fin 2 => bigSep Finset.univ fun i : Fin 16 => parcel0 g o d (wid c i) :=
  parcels _ _ _ _ (rows_cover (by norm_num)) rows_apart

theorem parcels1 (d : Dev nD) (o : (Rows 106496).Idx → Elt F .f32) :
    (iprop((listL1 d ↦{fullShare} g.x1 d) ∗ (tabL d ↦{fullShare} g.t d) ∗ (outL1 d ↦{fullShare} o)) : sProp 𝕄)
      = bigSep Finset.univ fun c : Fin 2 => bigSep Finset.univ fun i : Fin 16 => parcel1 g o d (wid c i) :=
  parcels _ _ _ _ (rows_cover (by norm_num)) rows_apart

/-! ### A call's task -/

/-- A worker's chunks are its rows. -/
theorem span_rows {m R base : ℕ} (k : Fin 32) (hb : base = 128 * m * k.val) :
    Finset.map (Function.Embedding.refl _) (span R (base + 128 * 0) (base + 128 * m)) = rowsOf m R k := by
  rw [Finset.map_refl, hb]
  rfl

/-- A call's obligation of its tiles, from the run of the tile's program `p`. -/
theorem tileObl_of (q : Fin 2) (p : ∀ c i, Prog (TpuEff nD τ sig (Elt F) Λ₀ (.scVector ((K (F := F)).core q c) ((K (F := F)).sub q i))) PUnit)
    (hD : ∀ d c i (A : sProp (MT nD τ Cert.KernelIdeal.sig (HIx 2) (Elt F) ℕ UU ℕ)),
      wp frame (wpE (defs₀ (F := F)) 𝒱₀ (V d ((K (F := F)).core q c) ((K (F := F)).sub q i)) none) Set.univ (p c i) (fun _ => A)
        ⊢ wp frame (wpE (D (F := F)) 𝒱 (V d ((K (F := F)).core q c) ((K (F := F)).sub q i)) (some v₀)) Set.univ
            (D (F := F) (.scVector ((K (F := F)).core q c) ((K (F := F)).sub q i)) ((K (F := F)).body q) ((K (F := F)).args q)) (fun _ => A))
    (hp : ∀ d c i (O : CellTallies nD τ sig (HIx 2)) (W : Waits sig (HIx 2)), (∀ g, O g none = 0) →
      (iprop(levAts (K (F := F)).L (K (F := F)).lev ∗ emp ∗ (P g).go q d c i
          ∗ scopedBufs (V d ((K (F := F)).core q c) ((K (F := F)).sub q i)) ∗ scopedSems0 (V d ((K (F := F)).core q c) ((K (F := F)).sub q i))
          ∗ owes (V d ((K (F := F)).core q c) ((K (F := F)).sub q i)) O W) : sProp 𝕄)
        ⊢ wp frame (wpE (defs₀ (F := F)) 𝒱₀ (V d ((K (F := F)).core q c) ((K (F := F)).sub q i)) none) Set.univ (p c i)
            fun _ => iprop((P g).td q d c i
              ∗ scopedBufs (V d ((K (F := F)).core q c) ((K (F := F)).sub q i)) ∗ scopedSems0 (V d ((K (F := F)).core q c) ((K (F := F)).sub q i))
              ∗ ∃ W', ⌜∀ p ∈ W', p ∈ W ∨ p.2 = none⌝ ∗ owes (V d ((K (F := F)).core q c) ((K (F := F)).sub q i)) O W')) :
    (K (F := F)).TileObl (D (F := F)) 𝒱 (P g) v₀ q := by
  intro d c i O W hO _ _
  simp only [show (P g).ox = fun _ _ => 0 from rfl, add_zero]
  exact ((hp d c i O W hO).trans (wp_mono frame _ _ fun _ => obl_post (q := q))).trans (hD d c i _)

/-! ### The first call's task -/

def coords0 (c : Fin 2) (s : Fin 16) : grid0.Coords :=
  fun | 0 => c | 1 => s | ⟨_ + 2, h⟩ => absurd h (Nat.not_lt.2 (Nat.le_add_left _ _))

theorem list_read0 (c : Fin 2) (s : Fin 16) (x : (Lists 24).Idx → Elt F .i32) :
    (task0 (coords0 c s)).row.view.read (Elt F) x = listOf x (wid c s) := by
  funext j
  refine ((View.read_apply (v := (task0 (coords0 c s)).row.view) _ _).trans (cast_eq _ _)).trans (window_list x (wid c s) _ ?_ _ _ j)
  unfold k0_off1
  exact congrArg (fun n : ℕ => ![n, 0, 0]) (wid_word s.isLt c.isLt)

theorem tab_read0 (i : grid0.Coords) (t : S100000x128.Idx → Elt F .f32) : (task0 i).tabW.view.read (Elt F) t = t :=
  funext fun y => ((View.read_apply (v := (task0 i).tabW.view) _ _).trans (cast_eq _ _)).trans (window_table t y)

theorem defs0 (c : Fin τ.nSC) (s : Fin τ.nSub) :
    defs₀ (F := F) (.scVector c s) 0 ()
      = SparseCore.onTile hcore0 hsub0 (fun c s => cc0_gather_kernel (coords0 c s) (Memref.whole main_arg1_scv) (Memref.isWhole_whole _)
          (Memref.whole main_v6_scv) (Memref.isWhole_whole _) (Memref.whole main_v7_scv) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scratch5 cc0_scratch6 cc0_scoped0) ⟨⟩ c s := rfl

theorem tile0 (ok : g.Ok) (d : Dev nD) (c : Fin 2) (s : Fin 16) (O : CellTallies nD τ sig (HIx 2)) (W : Waits sig (HIx 2)) (hO : ∀ g, O g none = 0) :
    (iprop(levAts (K (F := F)).L (K (F := F)).lev ∗ emp ∗ parcel0 g (g.o0 d) d (wid c s)
        ∗ scopedBufs (V d (c.castLE hcore0) (s.castLE hsub0)) ∗ scopedSems0 (V d (c.castLE hcore0) (s.castLE hsub0))
        ∗ owes (V d (c.castLE hcore0) (s.castLE hsub0)) O W) : sProp 𝕄)
      ⊢ wp frame (wpE (defs₀ (F := F)) 𝒱₀ (V d (c.castLE hcore0) (s.castLE hsub0)) none) Set.univ
          ((task0 (coords0 c s)).prog (cc := c.castLE hcore0) (ii := s.castLE hsub0))
          fun _ => iprop(parcel0 g (got (g.t d) (g.x0 d)) d (wid c s)
            ∗ scopedBufs (V d (c.castLE hcore0) (s.castLE hsub0)) ∗ scopedSems0 (V d (c.castLE hcore0) (s.castLE hsub0))
            ∗ ∃ W', ⌜∀ p ∈ W', p ∈ W ∨ p.2 = none⌝ ∗ owes (V d (c.castLE hcore0) (s.castLE hsub0)) O W') := by
  have hb : base0 (coords0 c s) = 128 * 24 * (wid c s).val := by
    show 6144 * s.val + 3072 * c.val = 128 * 24 * (2 * s.val + c.val); omega
  have hp : (task0 (coords0 c s)).part d (c.castLE hcore0) (s.castLE hsub0) (base0 (coords0 c s)) 0 24 = rowsOf 24 98304 (wid c s) := span_rows _ hb
  have H := Task.tile (A := task0 (coords0 c s)) (d := d) (cc := c.castLE hcore0) (ii := s.castLE hsub0) (O := O) (W := W) (fs := g.t d) (fi := g.x0 d)
    (fo := got (g.t d) (g.x0 d)) (f₁ := g.o0 d) (p := share (wid c s)) (q := share (wid c s)) (list_read0 c s _) (good0 (coords0 c s))
    (Task.holds (k := (wid c s).val) (tab_read0 _ _) (View.read_whole _ _) (ok.x0 d) hb) hO
    (by decide : [cc0_scoped0.sem, cc0_scratch6.sem, cc0_scratch5.sem, cc0_scratch4.sem, cc0_scratch3.sem].Nodup) (fun _ _ => rfl) (fun _ _ => rfl) (fun _ _ => rfl)
    (by decide : [(cc0_scratch2 : Ref sig .scVector), cc0_scratch1, cc0_scratch0].Nodup)
  rw [hp] at H
  exact H

set_option maxRecDepth 16384 in
theorem tileObl0 (ok : g.Ok) : (K (F := F)).TileObl (D (F := F)) 𝒱 (P g) v₀ 0 :=
  tileObl_of g 0 (fun c i => (task0 (coords0 c i)).prog (cc := c.castLE hcore0) (ii := i.castLE hsub0)) (fun d c i A => by
    have hci : ((K (F := F)).core 0 c).val < grid0.bound 0 ∧ ((K (F := F)).sub 0 i).val < grid0.bound 1 := ⟨c.isLt, i.isLt⟩
    change _ ⊢ wp _ _ _ (Pipeline.liftProg (defs₀ (F := F) (.scVector ((K (F := F)).core 0 c) ((K (F := F)).sub 0 i)) 0 ())) _
    refine BI.Entails.trans ?_ (Pipeline.wp_liftProg (D (F := F)) (Pipeline.defs_kernel pcfgs defs₀) 𝒱₀ _ Set.univ none _ _)
    rw [defs0]; simp only [SparseCore.onTile, hci, and_self, ↓reduceDIte]
    exact Entails.of_eq (congrArg (fun p => wp frame (wpE (defs₀ (F := F)) 𝒱₀ (V d (Fin.castLE hcore0 c) (Fin.castLE hsub0 i)) none) Set.univ p _)
      (prog0 (F := F) (coords0 c i)).symm)) (fun d c i O W hO => tile0 g ok d c i O W hO)

/-! ### The second call's task -/

def coords1 (c : Fin 2) (s : Fin 16) : grid1.Coords :=
  fun | 0 => c | 1 => s | ⟨_ + 2, h⟩ => absurd h (Nat.not_lt.2 (Nat.le_add_left _ _))

theorem list_read1 (c : Fin 2) (s : Fin 16) (x : (Lists 26).Idx → Elt F .i32) :
    (task1 (coords1 c s)).row.view.read (Elt F) x = listOf x (wid c s) := by
  funext j
  refine ((View.read_apply (v := (task1 (coords1 c s)).row.view) _ _).trans (cast_eq _ _)).trans (window_list x (wid c s) _ ?_ _ _ j)
  unfold k1_off1
  exact congrArg (fun n : ℕ => ![n, 0, 0]) (wid_word s.isLt c.isLt)

theorem tab_read1 (i : grid1.Coords) (t : S100000x128.Idx → Elt F .f32) : (task1 i).tabW.view.read (Elt F) t = t :=
  funext fun y => ((View.read_apply (v := (task1 i).tabW.view) _ _).trans (cast_eq _ _)).trans (window_table t y)

theorem defs1 (c : Fin τ.nSC) (s : Fin τ.nSub) :
    defs₀ (F := F) (.scVector c s) 1 ()
      = SparseCore.onTile hcore1 hsub1 (fun c s => cc1_gather_kernel (coords1 c s) (Memref.whole main_arg1_scv) (Memref.isWhole_whole _)
          (Memref.whole main_v9_scv) (Memref.isWhole_whole _) (Memref.whole main_v10_scv) (Memref.isWhole_whole _)
          (Memref.whole cc1_scratch0) (Memref.isWhole_whole _) (Memref.whole cc1_scratch1) (Memref.isWhole_whole _)
          (Memref.whole cc1_scratch2) (Memref.isWhole_whole _) cc1_scratch3 cc1_scratch4 cc1_scratch5 cc1_scratch6 cc1_scoped0) ⟨⟩ c s := rfl

theorem tile1 (ok : g.Ok) (d : Dev nD) (c : Fin 2) (s : Fin 16) (O : CellTallies nD τ sig (HIx 2)) (W : Waits sig (HIx 2)) (hO : ∀ g, O g none = 0) :
    (iprop(levAts (K (F := F)).L (K (F := F)).lev ∗ emp ∗ parcel1 g (g.o1 d) d (wid c s)
        ∗ scopedBufs (V d (c.castLE hcore1) (s.castLE hsub1)) ∗ scopedSems0 (V d (c.castLE hcore1) (s.castLE hsub1))
        ∗ owes (V d (c.castLE hcore1) (s.castLE hsub1)) O W) : sProp 𝕄)
      ⊢ wp frame (wpE (defs₀ (F := F)) 𝒱₀ (V d (c.castLE hcore1) (s.castLE hsub1)) none) Set.univ
          ((task1 (coords1 c s)).prog (cc := c.castLE hcore1) (ii := s.castLE hsub1))
          fun _ => iprop(parcel1 g (got (g.t d) (g.x1 d)) d (wid c s)
            ∗ scopedBufs (V d (c.castLE hcore1) (s.castLE hsub1)) ∗ scopedSems0 (V d (c.castLE hcore1) (s.castLE hsub1))
            ∗ ∃ W', ⌜∀ p ∈ W', p ∈ W ∨ p.2 = none⌝ ∗ owes (V d (c.castLE hcore1) (s.castLE hsub1)) O W') := by
  have hb : base1 (coords1 c s) = 128 * 26 * (wid c s).val := by
    show 6656 * s.val + 3328 * c.val = 128 * 26 * (2 * s.val + c.val); omega
  have hp : (task1 (coords1 c s)).part d (c.castLE hcore1) (s.castLE hsub1) (base1 (coords1 c s)) 0 26 = rowsOf 26 106496 (wid c s) := span_rows _ hb
  have H := Task.tile (A := task1 (coords1 c s)) (d := d) (cc := c.castLE hcore1) (ii := s.castLE hsub1) (O := O) (W := W) (fs := g.t d) (fi := g.x1 d)
    (fo := got (g.t d) (g.x1 d)) (f₁ := g.o1 d) (p := share (wid c s)) (q := share (wid c s)) (list_read1 c s _) (good1 (coords1 c s))
    (Task.holds (k := (wid c s).val) (tab_read1 _ _) (View.read_whole _ _) (ok.x1 d) hb) hO
    (by decide : [cc1_scoped0.sem, cc1_scratch6.sem, cc1_scratch5.sem, cc1_scratch4.sem, cc1_scratch3.sem].Nodup) (fun _ _ => rfl) (fun _ _ => rfl) (fun _ _ => rfl)
    (by decide : [(cc1_scratch2 : Ref sig .scVector), cc1_scratch1, cc1_scratch0].Nodup)
  rw [hp] at H
  exact H

set_option maxRecDepth 16384 in
theorem tileObl1 (ok : g.Ok) : (K (F := F)).TileObl (D (F := F)) 𝒱 (P g) v₀ 1 :=
  tileObl_of g 1 (fun c i => (task1 (coords1 c i)).prog (cc := c.castLE hcore1) (ii := i.castLE hsub1)) (fun d c i A => by
    have hci : ((K (F := F)).core 1 c).val < grid1.bound 0 ∧ ((K (F := F)).sub 1 i).val < grid1.bound 1 := ⟨c.isLt, i.isLt⟩
    change _ ⊢ wp _ _ _ (Pipeline.liftProg (defs₀ (F := F) (.scVector ((K (F := F)).core 1 c) ((K (F := F)).sub 1 i)) 1 ())) _
    refine BI.Entails.trans ?_ (Pipeline.wp_liftProg (D (F := F)) (Pipeline.defs_kernel pcfgs defs₀) 𝒱₀ _ Set.univ none _ _)
    rw [defs1]; simp only [SparseCore.onTile, hci, and_self, ↓reduceDIte]
    exact Entails.of_eq (congrArg (fun p => wp frame (wpE (defs₀ (F := F)) 𝒱₀ (V d (Fin.castLE hcore1 c) (Fin.castLE hsub1 i)) none) Set.univ p _)
      (prog1 (F := F) (coords1 c i)).symm)) (fun d c i O W hO => tile1 g ok d c i O W hO)

end Gather

end Cert.Proof
-- ==== Proof.Stage.lean ====
/- The stage kernel read as a program of half steps.

   A stage kernel's body at one grid point is a straight line of sixteen LSTM steps — eight of the forward
   direction and eight of the backward one, alternating — between two conditional blocks: one that loads the
   carried state at the first point and one that writes it out at the last. This module names the pure functions
   of one step, writes one step as a program over the buffers it works on, chains sixteen of them, and shows that
   each of the three printed bodies is that chain. -/
module

public import proofs.«01_k».proof.Proof.Gen.KernelIdeal

@[expose] public section

noncomputable section

namespace Cert.Proof.Stage

open Idealize.ShloMosaic Idealize.SL.Sem
open Cert.KernelIdeal Cert.KernelIdeal.Gen

variable {F : FTy → Type} [FloatOps F]

/-! ## One step, purely -/

/-- The four gates' pre-activations, in bfloat16: `[x | h] · W + b`. -/
def pre (W : Vec F S256x512 .bf16) (b : Vec F S1x512 .bf16) (xh : Vec F S1024x256 .bf16) : FVec F S1024x512 .bf16 :=
  addf (truncf .bf16 (matmul dot_S1024x256_S256x512_S1024x512_1_0_0_1_n_n none xh
      (shapeCast S256x512 W shapeCasts_S256x512_S256x512 : FVec F S256x512 .bf16) (constant S1024x512 .f32 0x00000000#32)) bitsLt_bf16_f32)
    (broadcastTo S1024x512 (shapeCast S1x512 b shapeCasts_S1x512_S1x512 : FVec F S1x512 .bf16) broadcasts_S1x512_S1024x512)

/-- One half, in bfloat16, everywhere. -/
def half : FVec F S1024x128 .bf16 := broadcast S1024x128 (Scalar.ofBits .bf16 0x3F00#16 : F .bf16)

/-- The logistic gate, from the halved pre-activation: `½ · tanh z + ½`. -/
def logis (z : FVec F S1024x128 .bf16) : FVec F S1024x128 .bf16 := addf (mulf half (tanh z)) half

/-- The input gate. -/
def gateI (z : FVec F S1024x512 .bf16) : FVec F S1024x128 .bf16 :=
  logis (extractStridedSlice S1024x128 ![0, 0] z slices_S1024x512_o0_0_S1024x128)
/-- The forget gate. -/
def gateF (z : FVec F S1024x512 .bf16) : FVec F S1024x128 .bf16 :=
  logis (extractStridedSlice S1024x128 ![0, 128] z slices_S1024x512_o0_128_S1024x128)
/-- The cell candidate. -/
def gateG (z : FVec F S1024x512 .bf16) : FVec F S1024x128 .bf16 :=
  tanh (extractStridedSlice S1024x128 ![0, 256] z slices_S1024x512_o0_256_S1024x128)
/-- The output gate. -/
def gateO (z : FVec F S1024x512 .bf16) : FVec F S1024x128 .bf16 :=
  logis (extractStridedSlice S1024x128 ![0, 384] z slices_S1024x512_o0_384_S1024x128)

/-- The next cell state from the pre-activations and the cell state. -/
def cellOf (z : FVec F S1024x512 .bf16) (c : Vec F S1024x128 .f32) : FVec F S1024x128 .f32 :=
  addf (mulf (extf .f32 (gateF z) bitsLt_bf16_f32) c) (extf .f32 (mulf (gateI z) (gateG z)) bitsLt_bf16_f32)

/-- The next hidden state from the pre-activations and the next cell state. -/
def hidOf (z : FVec F S1024x512 .bf16) (c' : FVec F S1024x128 .f32) : FVec F S1024x128 .f32 :=
  mulf (extf .f32 (gateO z) bitsLt_bf16_f32) (tanh c')

/-- A float32 state in bfloat16. -/
def lowS (h : Vec F S1024x128 .f32) : FVec F S1024x128 .bf16 :=
  shapeCast S1024x128 (truncf .bf16 h bitsLt_bf16_f32 : FVec F S1024x128 .bf16) shapeCasts_S1024x128_S1024x128

/-- A time step's embedded tokens in bfloat16. -/
def lowX (x : Vec F S1x1024x128 .f32) : FVec F S1024x128 .bf16 :=
  shapeCast S1024x128 (truncf .bf16 (shapeCast S1024x128 x shapeCasts_S1x1024x128_S1024x128 : FVec F S1024x128 .f32) bitsLt_bf16_f32 : FVec F S1024x128 .bf16)
    shapeCasts_S1024x128_S1024x128

/-- A state written back as read. -/
def same (c : Vec F S1024x128 .f32) : FVec F S1024x128 .f32 := shapeCast S1024x128 c shapeCasts_S1024x128_S1024x128

/-! ## One step as a program -/

theorem row_inb (k : Fin 8) : ∀ a, (![k.val, 0, 0] : Fin 3 → Nat) a + S1x1024x128.size a ≤ S8x1024x128.size a := by
  revert k; decide

/-- Row `k` of a block of eight time steps. -/
abbrev rowR (k : Fin 8) : Rect S8x1024x128 := Rect.unit (s := S8x1024x128) ![k.val, 0, 0] S1x1024x128.size (row_inb k)
/-- The left half of the `[x | h]` scratch. -/
abbrev leftR : Rect S1024x256 := Rect.unit (s := S1024x256) ![0, 0] S1024x128.size inb_S1024x256_S1024x128_0_0
/-- The right half of the `[x | h]` scratch. -/
abbrev rightR : Rect S1024x256 := Rect.unit (s := S1024x256) ![0, 128] S1024x128.size inb_S1024x256_S1024x128_0_128
/-- The whole `[x | h]` scratch. -/
abbrev bothR : Rect S1024x256 := Rect.unit (s := S1024x256) ![0, 0] S1024x256.size inb_S1024x256_S1024x256_0_0
/-- A whole state. -/
abbrev stR : Rect S1024x128 := Rect.unit (s := S1024x128) ![0, 0] S1024x128.size inb_S1024x128_S1024x128_0_0
/-- A whole weight matrix. -/
abbrev wR : Rect S256x512 := Rect.unit (s := S256x512) ![0, 0] S256x512.size inb_S256x512_S256x512_0_0
/-- A whole bias row. -/
abbrev bR : Rect S1x512 := Rect.unit (s := S1x512) ![0, 0] S1x512.size inb_S1x512_S1x512_0_0

/-- One step of one direction: time step `k` of the block `x`, weights `W` and `b`, the `[x | h]` scratch `xh` and the
    cell state `c`; returns the new hidden state. -/
def halfStep (x : Memref sig .tc .vmem S8x1024x128 .f32) (W : Memref sig .tc .vmem S256x512 .bf16)
    (b : Memref sig .tc .vmem S1x512 .bf16) (xh : Memref sig .tc .vmem S1024x256 .bf16) (hxh : xh.IsWhole)
    (c : Memref sig .tc .vmem S1024x128 .f32) (k : Fin 8) :
    Prog (TpuEff nD τ sig (Elt F) Λ₀ .tc) (FVec F S1024x128 .f32) := do
  let vx : Vec F S1x1024x128 .f32 ← Prog.lift (.load x (rowR k).toLoadRect (View.loadsAt_vmem h_S1x1024x128))
  let vW : Vec F S256x512 .bf16 ← Prog.lift (.load W wR.toLoadRect (View.loadsAt_vmem h_S256x512))
  let vb : Vec F S1x512 .bf16 ← Prog.lift (.load b bR.toLoadRect (View.loadsAt_vmem h_S1x512))
  let _ : Vec F S1024x128 .bf16 ← Prog.lift (.load xh leftR.toLoadRect (View.loadsAt_vmem h_S1024x128))
  Prog.lift (.store xh leftR (lowX vx) Finset.univ (View.stores_vmem h_S1024x128 (hxh.storeExact_slice rfl _ packedbf16_S1024x256_S1024x128_0_0) (fun _ => rfl)) (.inl rfl))
  let vxh : Vec F S1024x256 .bf16 ← Prog.lift (.load xh bothR.toLoadRect (View.loadsAt_vmem h_S1024x256))
  let vc : Vec F S1024x128 .f32 ← Prog.lift (.load c stR.toLoadRect (View.loadsAt_vmem h_S1024x128))
  let _ : Vec F S1024x128 .f32 ← Prog.lift (.load c stR.toLoadRect (View.loadsAt_vmem h_S1024x128))
  Prog.lift (.store c stR (same (cellOf (pre vW vb vxh) vc)) Finset.univ (View.stores_vmem_bits_univ h_S1024x128 rfl) (.inl rfl))
  let _ : Vec F S1024x128 .bf16 ← Prog.lift (.load xh rightR.toLoadRect (View.loadsAt_vmem h_S1024x128))
  Prog.lift (.store xh rightR (lowS (hidOf (pre vW vb vxh) (cellOf (pre vW vb vxh) vc))) Finset.univ (View.stores_vmem h_S1024x128 (hxh.storeExact_slice rfl _ packedbf16_S1024x256_S1024x128_0_128) (fun _ => rfl)) (.inl rfl))
  pure (hidOf (pre vW vb vxh) (cellOf (pre vW vb vxh) vc))

/-- Loading one direction's carried state into its scratch. -/
def loadState (h c : Memref sig .tc .vmem S1024x128 .f32) (xh : Memref sig .tc .vmem S1024x256 .bf16) (hxh : xh.IsWhole)
    (cs : Memref sig .tc .vmem S1024x128 .f32) : Prog (TpuEff nD τ sig (Elt F) Λ₀ .tc) PUnit := do
  let vh : Vec F S1024x128 .f32 ← Prog.lift (.load h stR.toLoadRect (View.loadsAt_vmem h_S1024x128))
  let _ : Vec F S1024x128 .bf16 ← Prog.lift (.load xh rightR.toLoadRect (View.loadsAt_vmem h_S1024x128))
  Prog.lift (.store xh rightR (lowS (same vh)) Finset.univ (View.stores_vmem h_S1024x128 (hxh.storeExact_slice rfl _ packedbf16_S1024x256_S1024x128_0_128) (fun _ => rfl)) (.inl rfl))
  let vc : Vec F S1024x128 .f32 ← Prog.lift (.load c stR.toLoadRect (View.loadsAt_vmem h_S1024x128))
  let _ : Vec F S1024x128 .f32 ← Prog.lift (.load cs stR.toLoadRect (View.loadsAt_vmem h_S1024x128))
  Prog.lift (.store cs stR (same (same vc)) Finset.univ (View.stores_vmem_bits_univ h_S1024x128 rfl) (.inl rfl))

/-- Writing one direction's state out: the hidden state `vh` and the cell scratch. -/
def saveState (vh : FVec F S1024x128 .f32) (h c cs : Memref sig .tc .vmem S1024x128 .f32) : Prog (TpuEff nD τ sig (Elt F) Λ₀ .tc) PUnit := do
  let _ : Vec F S1024x128 .f32 ← Prog.lift (.load h stR.toLoadRect (View.loadsAt_vmem h_S1024x128))
  Prog.lift (.store h stR vh Finset.univ (View.stores_vmem_bits_univ h_S1024x128 rfl) (.inl rfl))
  let vc : Vec F S1024x128 .f32 ← Prog.lift (.load cs stR.toLoadRect (View.loadsAt_vmem h_S1024x128))
  let _ : Vec F S1024x128 .f32 ← Prog.lift (.load c stR.toLoadRect (View.loadsAt_vmem h_S1024x128))
  Prog.lift (.store c stR vc Finset.univ (View.stores_vmem_bits_univ h_S1024x128 rfl) (.inl rfl))

/-- The buffers a stage kernel works on. -/
structure Bufs where
  xf : Memref sig .tc .vmem S8x1024x128 .f32
  xb : Memref sig .tc .vmem S8x1024x128 .f32
  Wf : Memref sig .tc .vmem S256x512 .bf16
  bf : Memref sig .tc .vmem S1x512 .bf16
  Wb : Memref sig .tc .vmem S256x512 .bf16
  bb : Memref sig .tc .vmem S1x512 .bf16
  hf : Memref sig .tc .vmem S1024x128 .f32
  cf : Memref sig .tc .vmem S1024x128 .f32
  hb : Memref sig .tc .vmem S1024x128 .f32
  cb : Memref sig .tc .vmem S1024x128 .f32
  hf' : Memref sig .tc .vmem S1024x128 .f32
  cf' : Memref sig .tc .vmem S1024x128 .f32
  hb' : Memref sig .tc .vmem S1024x128 .f32
  cb' : Memref sig .tc .vmem S1024x128 .f32
  xhf : Memref sig .tc .vmem S1024x256 .bf16
  hxhf : xhf.IsWhole
  csf : Memref sig .tc .vmem S1024x128 .f32
  xhb : Memref sig .tc .vmem S1024x256 .bf16
  hxhb : xhb.IsWhole
  csb : Memref sig .tc .vmem S1024x128 .f32

/-- Step `k` of both directions: the forward one takes the block's time step `k`, the backward one `7 - k`. -/
def bothStep (B : Bufs) (k : Fin 8) : Prog (TpuEff nD τ sig (Elt F) Λ₀ .tc) (FVec F S1024x128 .f32 × FVec F S1024x128 .f32) := do
  let f ← halfStep B.xf B.Wf B.bf B.xhf B.hxhf B.csf k
  let b ← halfStep B.xb B.Wb B.bb B.xhb B.hxhb B.csb (Fin.rev k)
  pure (f, b)

/-- The eight steps of a grid point; returns the last hidden states. -/
def steps (B : Bufs) : Prog (TpuEff nD τ sig (Elt F) Λ₀ .tc) (FVec F S1024x128 .f32 × FVec F S1024x128 .f32) := do
  let _ ← bothStep B 0
  let _ ← bothStep B 1
  let _ ← bothStep B 2
  let _ ← bothStep B 3
  let _ ← bothStep B 4
  let _ ← bothStep B 5
  let _ ← bothStep B 6
  bothStep B 7

/-- The first grid point's block. -/
def first (B : Bufs) : Prog (TpuEff nD τ sig (Elt F) Λ₀ .tc) PUnit := do
  loadState B.hf B.cf B.xhf B.hxhf B.csf
  loadState B.hb B.cb B.xhb B.hxhb B.csb

/-- The last grid point's block. -/
def last (B : Bufs) (v : FVec F S1024x128 .f32 × FVec F S1024x128 .f32) : Prog (TpuEff nD τ sig (Elt F) Λ₀ .tc) PUnit := do
  saveState v.1 B.hf' B.cf' B.csf
  saveState v.2 B.hb' B.cb' B.csb

/-- A grid point after the first block. -/
def rest (B : Bufs) (l : Prop) [Decidable l] : Prog (TpuEff nD τ sig (Elt F) Λ₀ .tc) PUnit := do
  let v ← steps B
  if l then last B v else pure ⟨⟩
  pure ⟨⟩

/-- Whether a grid point is the first. -/
def isFirst (n : Nat) : BitVec 1 := Scalar.cmpi .ne (Scalar.extui (Scalar.cmpi .eq (BitVec.ofNat 32 n) 0#32) : BitVec 32) 0#32

/-- A grid point's whole body: the first block at a point that is the first, then the rest. -/
def point (B : Bufs) (n : Nat) (l : Prop) [Decidable l] : Prog (TpuEff nD τ sig (Elt F) Λ₀ .tc) PUnit :=
  if isFirst n = 1#1 then (first B >>= fun _ => rest B l) else rest B l

set_option maxRecDepth 65536 in
/-- The first printed body is that program. -/
theorem body2 (i : grid2.Coords) (B : Bufs) (h1 : B.xf.IsWhole) (h2 : B.xb.IsWhole) (h3 : B.Wf.IsWhole) (h4 : B.bf.IsWhole)
    (h5 : B.Wb.IsWhole) (h6 : B.bb.IsWhole) (h7 : B.hf.IsWhole) (h8 : B.cf.IsWhole) (h9 : B.hb.IsWhole) (h10 : B.cb.IsWhole)
    (h11 : B.hf'.IsWhole) (h12 : B.cf'.IsWhole) (h13 : B.hb'.IsWhole) (h14 : B.cb'.IsWhole) (h16 : B.csf.IsWhole) (h18 : B.csb.IsWhole) :
    cc2__stage_kernel (F := F) i B.xf h1 B.xb h2 B.Wf h3 B.bf h4 B.Wb h5 B.bb h6 B.hf h7 B.cf h8 B.hb h9 B.cb h10
      B.hf' h11 B.cf' h12 B.hb' h13 B.cb' h14 B.xhf B.hxhf B.csf h16 B.xhb B.hxhb B.csb h18
      = point B (i 0).val (k2_cond2 i = 1#1) := by
  unfold cc2__stage_kernel k2_part1 point
  by_cases hi : isFirst (i 0).val = 1#1
  · rw [if_pos hi]
    simp only [show (Scalar.cmpi .ne (Scalar.extui (Scalar.cmpi .eq (BitVec.ofNat 32 (i 0).val) 0#32) : BitVec 32) 0#32 = 1#1) from hi, dif_pos]
    rfl
  · rw [if_neg hi]
    simp only [show ¬(Scalar.cmpi .ne (Scalar.extui (Scalar.cmpi .eq (BitVec.ofNat 32 (i 0).val) 0#32) : BitVec 32) 0#32 = 1#1) from hi, dif_neg, not_false_eq_true]
    rfl

set_option maxRecDepth 65536 in
/-- The second printed body is that program. -/
theorem body3 (i : grid3.Coords) (B : Bufs) (h1 : B.xf.IsWhole) (h2 : B.xb.IsWhole) (h3 : B.Wf.IsWhole) (h4 : B.bf.IsWhole)
    (h5 : B.Wb.IsWhole) (h6 : B.bb.IsWhole) (h7 : B.hf.IsWhole) (h8 : B.cf.IsWhole) (h9 : B.hb.IsWhole) (h10 : B.cb.IsWhole)
    (h11 : B.hf'.IsWhole) (h12 : B.cf'.IsWhole) (h13 : B.hb'.IsWhole) (h14 : B.cb'.IsWhole) (h16 : B.csf.IsWhole) (h18 : B.csb.IsWhole) :
    cc3__stage_kernel (F := F) i B.xf h1 B.xb h2 B.Wf h3 B.bf h4 B.Wb h5 B.bb h6 B.hf h7 B.cf h8 B.hb h9 B.cb h10
      B.hf' h11 B.cf' h12 B.hb' h13 B.cb' h14 B.xhf B.hxhf B.csf h16 B.xhb B.hxhb B.csb h18
      = point B (i 0).val (k3_cond2 i = 1#1) := by
  unfold cc3__stage_kernel k3_part1 point
  by_cases hi : isFirst (i 0).val = 1#1
  · rw [if_pos hi]
    simp only [show (Scalar.cmpi .ne (Scalar.extui (Scalar.cmpi .eq (BitVec.ofNat 32 (i 0).val) 0#32) : BitVec 32) 0#32 = 1#1) from hi, dif_pos]
    rfl
  · rw [if_neg hi]
    simp only [show ¬(Scalar.cmpi .ne (Scalar.extui (Scalar.cmpi .eq (BitVec.ofNat 32 (i 0).val) 0#32) : BitVec 32) 0#32 = 1#1) from hi, dif_neg, not_false_eq_true]
    rfl

set_option maxRecDepth 65536 in
/-- The third printed body is that program. -/
theorem body4 (i : grid4.Coords) (B : Bufs) (h1 : B.xf.IsWhole) (h2 : B.xb.IsWhole) (h3 : B.Wf.IsWhole) (h4 : B.bf.IsWhole)
    (h5 : B.Wb.IsWhole) (h6 : B.bb.IsWhole) (h7 : B.hf.IsWhole) (h8 : B.cf.IsWhole) (h9 : B.hb.IsWhole) (h10 : B.cb.IsWhole)
    (h11 : B.hf'.IsWhole) (h12 : B.cf'.IsWhole) (h13 : B.hb'.IsWhole) (h14 : B.cb'.IsWhole) (h16 : B.csf.IsWhole) (h18 : B.csb.IsWhole) :
    cc4__stage_kernel (F := F) i B.xf h1 B.xb h2 B.Wf h3 B.bf h4 B.Wb h5 B.bb h6 B.hf h7 B.cf h8 B.hb h9 B.cb h10
      B.hf' h11 B.cf' h12 B.hb' h13 B.cb' h14 B.xhf B.hxhf B.csf h16 B.xhb B.hxhb B.csb h18
      = point B (i 0).val (k4_cond2 i = 1#1) := by
  unfold cc4__stage_kernel k4_part1 point
  by_cases hi : isFirst (i 0).val = 1#1
  · rw [if_pos hi]
    simp only [show (Scalar.cmpi .ne (Scalar.extui (Scalar.cmpi .eq (BitVec.ofNat 32 (i 0).val) 0#32) : BitVec 32) 0#32 = 1#1) from hi, dif_pos]
    rfl
  · rw [if_neg hi]
    simp only [show ¬(Scalar.cmpi .ne (Scalar.extui (Scalar.cmpi .eq (BitVec.ofNat 32 (i 0).val) 0#32) : BitVec 32) 0#32 = 1#1) from hi, dif_neg, not_false_eq_true]
    rfl

end Cert.Proof.Stage
end
-- ==== Proof.StageRun.lean ====
/- One step of a stage kernel, run: what each of its loads and stores does to the buffers it owns. -/
module

public import proofs.«01_k».proof.Proof.Stage
public import Idealize.ShloMosaic.Lib.Pipeline.Kit
public import Idealize.ShloMosaic.Lib.Pipeline.Value
public import Idealize.ShloMosaic.Lib.Pointwise.Index

@[expose] public section

noncomputable section

namespace Cert.Proof.Stage

open Idealize.ShloMosaic Idealize.ShloMosaic.TcCoe Idealize.SL.Sem Idealize.SL
open Idealize.SL.BI (sProp)
open scoped Idealize.SL.BI
open Idealize.SL.BI.BIBase Idealize.SL.BI.Laws Idealize.SL.ProofMode
open Idealize.SL.RA
open Cert.KernelIdeal Cert.KernelIdeal.Gen

/-! ## Loads and stores of owned memrefs -/

section Owned

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load of an owned memref continues at its contents under the rectangle. -/
theorem load_owned {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k fun j => X (r.idx j)) Q)
        -∗ wp frame (wpE defs 𝒱 c bd) E (.op (.load m r hl) k) Q) := by
  iintro H Hk
  ihave H' := (show owns c m q X ⊢ iprop(∃ g, ⌜m.view.read Val g = X⌝ ∗ m.view.loc c ↦[m.view.set]{q} g) from .rfl) $$ H
  icases H' with ⟨%g, %hg, H⟩
  iapply (wp_load 𝒱 c bd E (m := m) (r := r) (hl := hl) (k := k) (S := m.view.set) (q := q) (f := g)
    (by rw [← View.setOn_univ]; exact Finset.map_subset_map.mpr (Finset.subset_univ _))) $$ H
  iintro H
  rw [show m.view.readAt Val r g = fun j => X (r.idx j) from funext fun j => by rw [View.readAt_apply, hg]]
  iapply Hk
  rw [← hg]
  iapply (owns_intro c m q g) $$ H

/-- A store to an owned memref replaces its contents under the rectangle. -/
theorem store_owned {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (r.overlay X w) -∗ wp frame (wpE defs 𝒱 c bd) E (k ⟨⟩) Q)
        -∗ wp frame (wpE defs 𝒱 c bd) E (.op (.store m r w Finset.univ hx hm) k) Q) := by
  iintro H Hk
  ihave H' := (show owns c m fullShare X ⊢ iprop(∃ g, ⌜m.view.read Val g = X⌝ ∗ m.view.loc c ↦[m.view.set]{fullShare} g) from .rfl) $$ H
  icases H' with ⟨%g, %hg, H⟩
  iapply (wp_store 𝒱 c bd E (Q := Q) (w := w) (hx := hx) (hm := hm) (k := k) (Mk := Finset.univ) (f := g) (S := m.view.set)
    (m.setOn_access_subset r Finset.univ)) $$ H
  iintro H
  iapply Hk
  rw [show r.overlay X w = m.view.read Val ((m.view.slice r).write Val g w Finset.univ) from by
    funext j
    by_cases hj : j ∈ r.set
    · obtain ⟨x, rfl⟩ := r.exists_idx_of_mem hj
      show r.overlay X w (r.emb x) = m.view.read Val ((m.view.slice r).write Val g w Finset.univ) (r.emb x)
      rw [Rect.overlay_emb]
      exact (View.read_slice_write_emb r g w (Finset.mem_univ x)).symm
    · rw [Rect.overlay_of_not_mem _ _ _ hj,
        View.read_slice_write_of_not_mem r g w Finset.univ (by rw [Rect.map_emb_univ]; exact hj), hg]]
  iapply (owns_intro c m fullShare ((m.view.slice r).write Val g w Finset.univ)) $$ H

end Owned

/-! ## The `[x | h]` scratch -/

section Values

variable {α : Type}

/-- Two blocks side by side. -/
def beside (x h : S1024x128.Idx → α) : S1024x256.Idx → α := fun j =>
  if hj : (j 1).val < 128 then x (ix2 (j 0) ⟨(j 1).val, hj⟩)
  else h (ix2 (j 0) ⟨(j 1).val - 128, by have := (j 1).isLt; change (j 1).val < 256 at this; omega⟩)

theorem lt_col (j : S1024x128.Idx) : (j 1).val < 128 := (j 1).isLt
theorem lt_col2 (j : S1024x256.Idx) : (j 1).val < 256 := (j 1).isLt

theorem left_emb (j : S1024x128.Idx) : leftR.emb j = (ix2 (j 0) ⟨(j 1).val, by have := lt_col j; omega⟩ : S1024x256.Idx) := by
  funext a
  apply Fin.ext
  rw [Rect.emb_apply]
  fin_cases a <;> simp [ix2]

theorem right_emb (j : S1024x128.Idx) : rightR.emb j = (ix2 (j 0) ⟨(j 1).val + 128, by have := lt_col j; omega⟩ : S1024x256.Idx) := by
  funext a
  apply Fin.ext
  rw [Rect.emb_apply]
  fin_cases a <;> simp [ix2, Nat.add_comm]

theorem beside_left (x h : S1024x128.Idx → α) (j : S1024x128.Idx) : beside x h (leftR.emb j) = x j := by
  rw [left_emb]
  unfold beside
  rw [dif_pos (show ((ix2 (j 0) ⟨(j 1).val, _⟩ : S1024x256.Idx) 1).val < 128 from lt_col j)]
  exact congrArg x (ix2_eta j)

theorem beside_right (x h : S1024x128.Idx → α) (j : S1024x128.Idx) : beside x h (rightR.emb j) = h j := by
  rw [right_emb]
  unfold beside
  rw [dif_neg (show ¬((ix2 (j 0) ⟨(j 1).val + 128, _⟩ : S1024x256.Idx) 1).val < 128 from by simp)]
  refine congrArg h ?_
  refine Eq.trans ?_ (ix2_eta j)
  congr 1

/-- An index of the scratch lies in one half or the other. -/
theorem half_cases (j : S1024x256.Idx) : (∃ i, leftR.emb i = j) ∨ (∃ i, rightR.emb i = j) := by
  by_cases h : (j 1).val < 128
  · refine Or.inl ⟨ix2 (j 0) ⟨(j 1).val, h⟩, ?_⟩
    rw [left_emb]; exact ix2_eta j
  · refine Or.inr ⟨ix2 (j 0) ⟨(j 1).val - 128, by have := lt_col2 j; omega⟩, ?_⟩
    rw [right_emb]
    refine Eq.trans ?_ (ix2_eta j)
    congr 1
    exact Fin.ext (by simp; omega)

theorem right_not_left (j : S1024x128.Idx) : rightR.emb j ∉ leftR.set := by
  intro h
  obtain ⟨i, hi⟩ := leftR.exists_idx_of_mem h
  have hi' : leftR.emb i = rightR.emb j := hi
  rw [left_emb, right_emb] at hi'
  have := congrArg (fun k : S1024x256.Idx => (k 1).val) hi'
  have h1 : (i 1).val = (j 1).val + 128 := this
  have := lt_col i
  omega

theorem left_not_right (j : S1024x128.Idx) : leftR.emb j ∉ rightR.set := by
  intro h
  obtain ⟨i, hi⟩ := rightR.exists_idx_of_mem h
  have hi' : rightR.emb i = leftR.emb j := hi
  rw [left_emb, right_emb] at hi'
  have := congrArg (fun k : S1024x256.Idx => (k 1).val) hi'
  have h1 : (i 1).val + 128 = (j 1).val := this
  have := lt_col j
  omega

theorem overlay_left (x h x' : S1024x128.Idx → α) : leftR.overlay (beside x h) x' = beside x' h := by
  funext j
  rcases half_cases j with ⟨i, rfl⟩ | ⟨i, rfl⟩
  · rw [beside_left]; exact Rect.overlay_emb leftR _ _ i
  · rw [Rect.overlay_of_not_mem _ _ _ (right_not_left i), beside_right, beside_right]

theorem overlay_right (x h h' : S1024x128.Idx → α) : rightR.overlay (beside x h) h' = beside x h' := by
  funext j
  rcases half_cases j with ⟨i, rfl⟩ | ⟨i, rfl⟩
  · rw [Rect.overlay_of_not_mem _ _ _ (left_not_right i), beside_left, beside_left]
  · rw [beside_right]; exact Rect.overlay_emb rightR _ _ i

/-- Any contents of the scratch are two blocks side by side. -/
theorem eq_beside (X : S1024x256.Idx → α) : X = beside (fun j => X (leftR.emb j)) (fun j => X (rightR.emb j)) := by
  funext j
  rcases half_cases j with ⟨i, rfl⟩ | ⟨i, rfl⟩
  · rw [beside_left]
  · rw [beside_right]

/-- A rectangle that is everything reads everything. -/
theorem whole_idx {s : Shape} (off : Fin s.rank → Nat) (h0 : ∀ a, off a = 0) (inb) (j : s.Idx) :
    (Rect.unit (s := s) off s.size inb).toLoadRect.idx j = j := by
  funext a
  apply Fin.ext
  show off a + 1 * (j a).val = (j a).val
  rw [h0 a]; omega

theorem whole_overlay {s : Shape} (off : Fin s.rank → Nat) (h0 : ∀ a, off a = 0) (inb) (X w : s.Idx → α) :
    (Rect.unit (s := s) off s.size inb).overlay X w = w := by
  funext j
  have h := Rect.overlay_emb (Rect.unit (s := s) off s.size inb) X w j
  rwa [show (Rect.unit (s := s) off s.size inb).emb j = j from whole_idx off h0 inb j] at h

theorem zero2 : ∀ a : Fin 2, (![0, 0] : Fin 2 → Nat) a = 0 := by decide

end Values

/-! ## One step, run -/

variable {F : FTy → Type} [FloatOps F]

theorem same_eq (c : Vec F S1024x128 .f32) : same c = c := shapeCast_self c _
theorem lowS_eq (h : Vec F S1024x128 .f32) : lowS h = truncf .bf16 h bitsLt_bf16_f32 := shapeCast_self _ _

/-- Row `k` of a block of eight time steps. -/
def row (X : S8x1024x128.Idx → Elt F .f32) (k : Fin 8) : Vec F S1x1024x128 .f32 := fun j => X ((rowR k).toLoadRect.idx j)

/-- What the gates see: the time step's embedded tokens beside the hidden state. -/
def seen (x : Vec F S1x1024x128 .f32) (h : Vec F S1024x128 .f32) : Vec F S1024x256 .bf16 := beside (lowX x) (lowS h)

/-- The next cell state. -/
def nextC (W : Vec F S256x512 .bf16) (b : Vec F S1x512 .bf16) (x : Vec F S1x1024x128 .f32) (h c : Vec F S1024x128 .f32) : Vec F S1024x128 .f32 :=
  cellOf (pre W b (seen x h)) c
/-- The next hidden state. -/
def nextH (W : Vec F S256x512 .bf16) (b : Vec F S1x512 .bf16) (x : Vec F S1x1024x128 .f32) (h c : Vec F S1024x128 .f32) : Vec F S1024x128 .f32 :=
  hidOf (pre W b (seen x h)) (nextC W b x h c)

section Run

variable {Ix : Type} [DecidableEq Ix] {Name : Type} [DecidableEq Name] {U : Type} [URA U] {Lvl : Type} [Preorder Lvl]

local notation "𝕄" => MT nD τ Cert.KernelIdeal.sig Ix (Elt F) Name U Lvl

variable {D : Defs nD τ Cert.KernelIdeal.sig (Elt F) Λ₀} (𝒱 : Variants) (T : Dev nD) (bd : Option 𝒱.V) (E : Set Name)
variable {α : Type} {Q : α → sProp (MT nD τ Cert.KernelIdeal.sig Ix (Elt F) Name U Lvl)}

/-- One step: from the `[x | h]` scratch whose right half is the hidden state and the cell scratch, to the next ones. -/
theorem halfStep_run (x : Memref sig .tc .vmem S8x1024x128 .f32) (W : Memref sig .tc .vmem S256x512 .bf16)
    (b : Memref sig .tc .vmem S1x512 .bf16) (xh : Memref sig .tc .vmem S1024x256 .bf16) (hxh : xh.IsWhole)
    (c : Memref sig .tc .vmem S1024x128 .f32) (k : Fin 8)
    (Xx : S8x1024x128.Idx → Elt F .f32) (XW : Vec F S256x512 .bf16) (Xb : Vec F S1x512 .bf16) (x0 : Vec F S1024x128 .bf16) (H C : Vec F S1024x128 .f32)
    (K : FVec F S1024x128 .f32 → Prog (TpuEff nD τ sig (Elt F) Λ₀ .tc) α) :
    (iprop(owns (T : Thread nD τ) x fullShare Xx ∗ owns (T : Thread nD τ) W fullShare XW ∗ owns (T : Thread nD τ) b fullShare Xb
        ∗ owns (T : Thread nD τ) xh fullShare (beside x0 (lowS H)) ∗ owns (T : Thread nD τ) c fullShare C) : sProp 𝕄)
      ⊢ iprop((iprop(owns (T : Thread nD τ) x fullShare Xx ∗ owns (T : Thread nD τ) W fullShare XW ∗ owns (T : Thread nD τ) b fullShare Xb
            ∗ owns (T : Thread nD τ) xh fullShare (beside (lowX (row Xx k)) (lowS (nextH XW Xb (row Xx k) H C)))
            ∗ owns (T : Thread nD τ) c fullShare (nextC XW Xb (row Xx k) H C))
          -∗ wp frame (wpE D 𝒱 (T : Thread nD τ) bd) E (K (nextH XW Xb (row Xx k) H C)) Q)
        -∗ wp frame (wpE D 𝒱 (T : Thread nD τ) bd) E (halfStep x W b xh hxh c k >>= K) Q) := by
  iintro ⟨Hx, HW, Hb, Hxh, Hc⟩ Hk
  unfold halfStep
  simp only [Prog.lift, Prog.bind_op, Prog.bind_ret, Prog.bind_lift, Prog.bind_assoc, Prog.pure_eq_ret]
  iapply (load_owned 𝒱 (T : Thread nD τ) bd E) $$ Hx; iintro Hx
  iapply (load_owned 𝒱 (T : Thread nD τ) bd E) $$ HW; iintro HW
  iapply (load_owned 𝒱 (T : Thread nD τ) bd E) $$ Hb; iintro Hb
  iapply (load_owned 𝒱 (T : Thread nD τ) bd E) $$ Hxh; iintro Hxh
  iapply (store_owned 𝒱 (T : Thread nD τ) bd E) $$ Hxh; iintro Hxh
  iapply (load_owned 𝒱 (T : Thread nD τ) bd E) $$ Hxh; iintro Hxh
  iapply (load_owned 𝒱 (T : Thread nD τ) bd E) $$ Hc; iintro Hc
  iapply (load_owned 𝒱 (T : Thread nD τ) bd E) $$ Hc; iintro Hc
  iapply (store_owned 𝒱 (T : Thread nD τ) bd E) $$ Hc; iintro Hc
  iapply (load_owned 𝒱 (T : Thread nD τ) bd E) $$ Hxh; iintro Hxh
  iapply (store_owned 𝒱 (T : Thread nD τ) bd E) $$ Hxh; iintro Hxh
  rw [show (fun j => Xx ((rowR k).toLoadRect.idx j)) = row Xx k from rfl,
    show (fun j => XW (wR.toLoadRect.idx j)) = XW from funext fun j => congrArg XW (whole_idx _ zero2 _ j),
    show (fun j => Xb (bR.toLoadRect.idx j)) = Xb from funext fun j => congrArg Xb (whole_idx _ zero2 _ j),
    show (fun j => C (stR.toLoadRect.idx j)) = C from funext fun j => congrArg C (whole_idx _ zero2 _ j),
    overlay_left, overlay_right,
    show (fun j => beside (lowX (row Xx k)) (lowS H) (bothR.toLoadRect.idx j)) = seen (row Xx k) H from
      funext fun j => congrArg (beside (lowX (row Xx k)) (lowS H)) (whole_idx _ zero2 _ j),
    show stR.overlay C (same (cellOf (pre XW Xb (seen (row Xx k) H)) C)) = nextC XW Xb (row Xx k) H C from
      (whole_overlay _ zero2 _ _ _).trans (same_eq _)]
  iapply Hk
  isplitl [Hx]; · iexact Hx
  isplitl [HW]; · iexact HW
  isplitl [Hb]; · iexact Hb
  isplitl [Hxh]; · iexact Hxh
  iexact Hc

end Run

end Cert.Proof.Stage
end
-- ==== Proof.StagePoint.lean ====
/- A stage kernel's grid point, run: eight steps of both directions on the state its scratch carries, taken from the
   inputs at the first point and written out at the last. -/
module

public import proofs.«01_k».proof.Proof.StageRun

@[expose] public section

noncomputable section

namespace Cert.Proof.Stage

open Idealize.ShloMosaic Idealize.ShloMosaic.TcCoe Idealize.SL.Sem Idealize.SL
open Idealize.SL.BI (sProp)
open scoped Idealize.SL.BI
open Idealize.SL.BI.BIBase Idealize.SL.BI.Laws Idealize.SL.ProofMode
open Idealize.SL.RA
open Cert.KernelIdeal Cert.KernelIdeal.Gen

variable {F : FTy → Type} [FloatOps F]

/-! ## The state and its steps -/

variable (F) in
/-- One direction's state: the hidden state and the cell state. -/
structure St where
  h : Vec F S1024x128 .f32
  c : Vec F S1024x128 .f32

variable (F) in
/-- One direction's weights: the stacked matrix and the bias row. -/
structure Wts where
  W : Vec F S256x512 .bf16
  b : Vec F S1x512 .bf16

/-- One LSTM step. -/
def St.step (w : Wts F) (x : Vec F S1x1024x128 .f32) (s : St F) : St F :=
  ⟨nextH w.W w.b x s.h s.c, nextC w.W w.b x s.h s.c⟩

/-- `n` LSTM steps over the time steps `xs 0, xs 1, …`. -/
def St.run (w : Wts F) (xs : Nat → Vec F S1x1024x128 .f32) (s : St F) : Nat → St F
  | 0 => s
  | n + 1 => (St.run w xs s n).step w (xs n)

theorem St.run_add (w : Wts F) (xs : Nat → Vec F S1x1024x128 .f32) (s : St F) (m n : Nat) :
    St.run w xs s (m + n) = St.run w (fun k => xs (m + k)) (St.run w xs s m) n := by
  induction n with
  | zero => rfl
  | succ n ih => rw [← Nat.add_assoc]; show (St.run w xs s (m + n)).step w (xs (m + n)) = _; rw [ih]; rfl

theorem St.run_congr (w : Wts F) {xs ys : Nat → Vec F S1x1024x128 .f32} (s : St F) (n : Nat) (h : ∀ k < n, xs k = ys k) :
    St.run w xs s n = St.run w ys s n := by
  induction n with
  | zero => rfl
  | succ n ih =>
    show (St.run w xs s n).step w (xs n) = (St.run w ys s n).step w (ys n)
    rw [ih fun k hk => h k (by omega), h n (by omega)]

/-- The time steps of a block in order. -/
def upRows (X : S8x1024x128.Idx → Elt F .f32) (k : Nat) : Vec F S1x1024x128 .f32 := row X (Fin.ofNat 8 k)
/-- The time steps of a block in reverse order. -/
def downRows (X : S8x1024x128.Idx → Elt F .f32) (k : Nat) : Vec F S1x1024x128 .f32 := row X (Fin.rev (Fin.ofNat 8 k))

section Run

variable {Ix : Type} [DecidableEq Ix] {Name : Type} [DecidableEq Name] {U : Type} [URA U] {Lvl : Type}

local notation "𝕄" => MT nD τ Cert.KernelIdeal.sig Ix (Elt F) Name U Lvl

/-- The blocks and weights a point reads. -/
def ins (T : Dev nD) (B : Bufs) (Xf Xb : S8x1024x128.Idx → Elt F .f32) (wf wb : Wts F) : sProp (MT nD τ Cert.KernelIdeal.sig Ix (Elt F) Name U Lvl) :=
  iprop(owns (T : Thread nD τ) B.xf fullShare Xf ∗ owns (T : Thread nD τ) B.xb fullShare Xb
    ∗ owns (T : Thread nD τ) B.Wf fullShare wf.W ∗ owns (T : Thread nD τ) B.bf fullShare wf.b
    ∗ owns (T : Thread nD τ) B.Wb fullShare wb.W ∗ owns (T : Thread nD τ) B.bb fullShare wb.b)

/-- One direction's scratch at state `s`. -/
def carried (T : Dev nD) (xh : Memref sig .tc .vmem S1024x256 .bf16) (cs : Memref sig .tc .vmem S1024x128 .f32) (s : St F) : sProp (MT nD τ Cert.KernelIdeal.sig Ix (Elt F) Name U Lvl) :=
  iprop((∃ x : Vec F S1024x128 .bf16, owns (T : Thread nD τ) xh fullShare (beside x (lowS s.h))) ∗ owns (T : Thread nD τ) cs fullShare s.c)

/-- One direction's scratch at any contents. -/
def scratch (T : Dev nD) (xh : Memref sig .tc .vmem S1024x256 .bf16) (cs : Memref sig .tc .vmem S1024x128 .f32) : sProp (MT nD τ Cert.KernelIdeal.sig Ix (Elt F) Name U Lvl) :=
  iprop((∃ x : Vec F S1024x256 .bf16, owns (T : Thread nD τ) xh fullShare x) ∗ (∃ x : Vec F S1024x128 .f32, owns (T : Thread nD τ) cs fullShare x))

/-- A state in two buffers. -/
def stored (T : Dev nD) (h c : Memref sig .tc .vmem S1024x128 .f32) (s : St F) : sProp (MT nD τ Cert.KernelIdeal.sig Ix (Elt F) Name U Lvl) :=
  iprop(owns (T : Thread nD τ) h fullShare s.h ∗ owns (T : Thread nD τ) c fullShare s.c)

variable [Preorder Lvl] {D : Defs nD τ Cert.KernelIdeal.sig (Elt F) Λ₀} (𝒱 : Variants) (T : Dev nD) (bd : Option 𝒱.V) (E : Set Name)
variable {α : Type} {Q : α → sProp (MT nD τ Cert.KernelIdeal.sig Ix (Elt F) Name U Lvl)}

theorem bothStep_run (B : Bufs) (k : Fin 8) (Xf Xb : S8x1024x128.Idx → Elt F .f32) (wf wb : Wts F) (sf sb : St F)
    (K : FVec F S1024x128 .f32 × FVec F S1024x128 .f32 → Prog (TpuEff nD τ sig (Elt F) Λ₀ .tc) α) :
    (iprop(ins T B Xf Xb wf wb ∗ carried T B.xhf B.csf sf ∗ carried T B.xhb B.csb sb) : sProp 𝕄)
      ⊢ iprop((iprop(ins T B Xf Xb wf wb ∗ carried T B.xhf B.csf (sf.step wf (row Xf k)) ∗ carried T B.xhb B.csb (sb.step wb (row Xb (Fin.rev k))))
          -∗ wp frame (wpE D 𝒱 (T : Thread nD τ) bd) E (K ((sf.step wf (row Xf k)).h, (sb.step wb (row Xb (Fin.rev k))).h)) Q)
        -∗ wp frame (wpE D 𝒱 (T : Thread nD τ) bd) E (bothStep B k >>= K) Q) := by
  unfold ins carried bothStep
  iintro ⟨⟨Hxf, Hxb, HWf, Hbf, HWb, Hbb⟩, ⟨⟨%xf, Hhf⟩, Hcf⟩, ⟨%xb, Hhb⟩, Hcb⟩ Hk
  simp only [Prog.bind_assoc]
  iapply (halfStep_run 𝒱 T bd E B.xf B.Wf B.bf B.xhf B.hxhf B.csf k Xf wf.W wf.b xf sf.h sf.c) $$ [Hxf HWf Hbf Hhf Hcf]
  · isplitl [Hxf]; · iexact Hxf
    isplitl [HWf]; · iexact HWf
    isplitl [Hbf]; · iexact Hbf
    isplitl [Hhf]; · iexact Hhf
    iexact Hcf
  iintro ⟨Hxf, HWf, Hbf, Hhf, Hcf⟩
  iapply (halfStep_run 𝒱 T bd E B.xb B.Wb B.bb B.xhb B.hxhb B.csb (Fin.rev k) Xb wb.W wb.b xb sb.h sb.c) $$ [Hxb HWb Hbb Hhb Hcb]
  · isplitl [Hxb]; · iexact Hxb
    isplitl [HWb]; · iexact HWb
    isplitl [Hbb]; · iexact Hbb
    isplitl [Hhb]; · iexact Hhb
    iexact Hcb
  iintro ⟨Hxb, HWb, Hbb, Hhb, Hcb⟩
  simp only [Prog.pure_eq_ret, Prog.bind_ret]
  iapply Hk
  isplitl [Hxf Hxb HWf HWb Hbf Hbb]
  · isplitl [Hxf]; · iexact Hxf
    isplitl [Hxb]; · iexact Hxb
    isplitl [HWf]; · iexact HWf
    isplitl [Hbf]; · iexact Hbf
    isplitl [HWb]; · iexact HWb
    iexact Hbb
  isplitl [Hhf Hcf]
  · isplitl [Hhf]
    · iexists _; iexact Hhf
    · iexact Hcf
  · isplitl [Hhb]
    · iexists _; iexact Hhb
    · iexact Hcb

theorem steps_run (B : Bufs) (Xf Xb : S8x1024x128.Idx → Elt F .f32) (wf wb : Wts F) (sf sb : St F)
    (K : FVec F S1024x128 .f32 × FVec F S1024x128 .f32 → Prog (TpuEff nD τ sig (Elt F) Λ₀ .tc) α) :
    (iprop(ins T B Xf Xb wf wb ∗ carried T B.xhf B.csf sf ∗ carried T B.xhb B.csb sb) : sProp 𝕄)
      ⊢ iprop((iprop(ins T B Xf Xb wf wb ∗ carried T B.xhf B.csf (sf.run wf (upRows Xf) 8) ∗ carried T B.xhb B.csb (sb.run wb (downRows Xb) 8))
          -∗ wp frame (wpE D 𝒱 (T : Thread nD τ) bd) E (K ((sf.run wf (upRows Xf) 8).h, (sb.run wb (downRows Xb) 8).h)) Q)
        -∗ wp frame (wpE D 𝒱 (T : Thread nD τ) bd) E (steps B >>= K) Q) := by
  unfold steps
  simp only [Prog.bind_assoc]
  iintro H Hk
  iapply (bothStep_run 𝒱 T bd E B 0 Xf Xb wf wb sf sb) $$ H; iintro H
  iapply (bothStep_run 𝒱 T bd E B 1 Xf Xb wf wb) $$ H; iintro H
  iapply (bothStep_run 𝒱 T bd E B 2 Xf Xb wf wb) $$ H; iintro H
  iapply (bothStep_run 𝒱 T bd E B 3 Xf Xb wf wb) $$ H; iintro H
  iapply (bothStep_run 𝒱 T bd E B 4 Xf Xb wf wb) $$ H; iintro H
  iapply (bothStep_run 𝒱 T bd E B 5 Xf Xb wf wb) $$ H; iintro H
  iapply (bothStep_run 𝒱 T bd E B 6 Xf Xb wf wb) $$ H; iintro H
  iapply (bothStep_run 𝒱 T bd E B 7 Xf Xb wf wb) $$ H
  iexact Hk

theorem loadState_run (h c : Memref sig .tc .vmem S1024x128 .f32) (xh : Memref sig .tc .vmem S1024x256 .bf16) (hxh : xh.IsWhole)
    (cs : Memref sig .tc .vmem S1024x128 .f32) (s : St F) (K : PUnit → Prog (TpuEff nD τ sig (Elt F) Λ₀ .tc) α) :
    (iprop(stored T h c s ∗ scratch T xh cs) : sProp 𝕄)
      ⊢ iprop((iprop(stored T h c s ∗ carried T xh cs s) -∗ wp frame (wpE D 𝒱 (T : Thread nD τ) bd) E (K ⟨⟩) Q)
        -∗ wp frame (wpE D 𝒱 (T : Thread nD τ) bd) E (loadState h c xh hxh cs >>= K) Q) := by
  unfold stored scratch carried loadState
  iintro ⟨⟨Hh, Hc⟩, ⟨%x, Hxh⟩, %y, Hcs⟩ Hk
  simp only [Prog.lift, Prog.bind_op, Prog.bind_ret, Prog.bind_lift, Prog.bind_assoc, Prog.pure_eq_ret]
  iapply (load_owned 𝒱 (T : Thread nD τ) bd E) $$ Hh; iintro Hh
  iapply (load_owned 𝒱 (T : Thread nD τ) bd E) $$ Hxh; iintro Hxh
  iapply (store_owned 𝒱 (T : Thread nD τ) bd E) $$ Hxh; iintro Hxh
  iapply (load_owned 𝒱 (T : Thread nD τ) bd E) $$ Hc; iintro Hc
  iapply (load_owned 𝒱 (T : Thread nD τ) bd E) $$ Hcs; iintro Hcs
  iapply (store_owned 𝒱 (T : Thread nD τ) bd E) $$ Hcs; iintro Hcs
  rw [show (fun j => s.h (stR.toLoadRect.idx j)) = s.h from funext fun j => congrArg s.h (whole_idx _ zero2 _ j),
    show (fun j => s.c (stR.toLoadRect.idx j)) = s.c from funext fun j => congrArg s.c (whole_idx _ zero2 _ j),
    show stR.overlay y (same (same s.c)) = s.c from (whole_overlay _ zero2 _ _ _).trans ((same_eq _).trans (same_eq _)),
    same_eq, eq_beside x, overlay_right]
  iapply Hk
  isplitl [Hh Hc]
  · isplitl [Hh]; · iexact Hh
    iexact Hc
  isplitl [Hxh]
  · iexists _; iexact Hxh
  · iexact Hcs

theorem saveState_run (v : FVec F S1024x128 .f32) (h c cs : Memref sig .tc .vmem S1024x128 .f32) (xh : Memref sig .tc .vmem S1024x256 .bf16) (s : St F) (hv : v = s.h)
    (K : PUnit → Prog (TpuEff nD τ sig (Elt F) Λ₀ .tc) α) (y : St F) :
    (iprop(stored T h c y ∗ carried T xh cs s) : sProp 𝕄)
      ⊢ iprop((iprop(stored T h c s ∗ carried T xh cs s) -∗ wp frame (wpE D 𝒱 (T : Thread nD τ) bd) E (K ⟨⟩) Q)
        -∗ wp frame (wpE D 𝒱 (T : Thread nD τ) bd) E (saveState v h c cs >>= K) Q) := by
  subst hv
  unfold stored carried saveState
  iintro ⟨⟨Hh, Hc⟩, ⟨%x, Hxh⟩, Hcs⟩ Hk
  simp only [Prog.lift, Prog.bind_op, Prog.bind_ret, Prog.bind_lift, Prog.bind_assoc, Prog.pure_eq_ret]
  iapply (load_owned 𝒱 (T : Thread nD τ) bd E) $$ Hh; iintro Hh
  iapply (store_owned 𝒱 (T : Thread nD τ) bd E) $$ Hh; iintro Hh
  iapply (load_owned 𝒱 (T : Thread nD τ) bd E) $$ Hcs; iintro Hcs
  iapply (load_owned 𝒱 (T : Thread nD τ) bd E) $$ Hc; iintro Hc
  iapply (store_owned 𝒱 (T : Thread nD τ) bd E) $$ Hc; iintro Hc
  rw [show (fun j => s.c (stR.toLoadRect.idx j)) = s.c from funext fun j => congrArg s.c (whole_idx _ zero2 _ j),
    show stR.overlay y.h s.h = s.h from whole_overlay _ zero2 _ _ _,
    show stR.overlay y.c s.c = s.c from whole_overlay _ zero2 _ _ _]
  iapply Hk
  isplitl [Hh Hc]
  · isplitl [Hh]; · iexact Hh
    iexact Hc
  isplitl [Hxh]
  · iexists _; iexact Hxh
  · iexact Hcs

/-- What a point's scratch holds before its steps: anything before the first point's block, the carried state otherwise. -/
def before (T : Dev nD) (xh : Memref sig .tc .vmem S1024x256 .bf16) (cs : Memref sig .tc .vmem S1024x128 .f32) (n : Nat) (s : St F) : sProp (MT nD τ Cert.KernelIdeal.sig Ix (Elt F) Name U Lvl) :=
  if isFirst n = 1#1 then scratch T xh cs else carried T xh cs s

/-- One grid point: from the state `sf`, `sb` — what the inputs hold at the first point — eight steps of each direction;
    the last point leaves the new state in the outputs, another leaves the outputs alone. -/
theorem point_run (B : Bufs) (n : Nat) (l : Prop) [Decidable l] (Xf Xb : S8x1024x128.Idx → Elt F .f32) (wf wb : Wts F) (sf sb s0f s0b yf yb : St F)
    (hf : isFirst n = 1#1 → sf = s0f) (hb : isFirst n = 1#1 → sb = s0b) :
    (iprop(ins T B Xf Xb wf wb ∗ stored T B.hf B.cf s0f ∗ stored T B.hb B.cb s0b ∗ stored T B.hf' B.cf' yf ∗ stored T B.hb' B.cb' yb
        ∗ before T B.xhf B.csf n sf ∗ before T B.xhb B.csb n sb) : sProp 𝕄)
      ⊢ wp frame (wpE D 𝒱 (T : Thread nD τ) bd) E (point B n l) fun _ =>
          iprop(ins T B Xf Xb wf wb ∗ stored T B.hf B.cf s0f ∗ stored T B.hb B.cb s0b
            ∗ stored T B.hf' B.cf' (if l then sf.run wf (upRows Xf) 8 else yf) ∗ stored T B.hb' B.cb' (if l then sb.run wb (downRows Xb) 8 else yb)
            ∗ carried T B.xhf B.csf (sf.run wf (upRows Xf) 8) ∗ carried T B.xhb B.csb (sb.run wb (downRows Xb) 8)) := by
  have main : ∀ Q : PUnit → sProp 𝕄, (iprop(ins T B Xf Xb wf wb ∗ stored T B.hf' B.cf' yf ∗ stored T B.hb' B.cb' yb
        ∗ carried T B.xhf B.csf sf ∗ carried T B.xhb B.csb sb) : sProp 𝕄)
      ⊢ iprop((iprop(ins T B Xf Xb wf wb
            ∗ stored T B.hf' B.cf' (if l then sf.run wf (upRows Xf) 8 else yf) ∗ stored T B.hb' B.cb' (if l then sb.run wb (downRows Xb) 8 else yb)
            ∗ carried T B.xhf B.csf (sf.run wf (upRows Xf) 8) ∗ carried T B.xhb B.csb (sb.run wb (downRows Xb) 8)) -∗ Q ⟨⟩)
        -∗ wp frame (wpE D 𝒱 (T : Thread nD τ) bd) E (rest B l) Q) := by
    intro Q
    unfold rest
    iintro ⟨Hi, Hyf, Hyb, Hf, Hb⟩ Hk
    iapply (steps_run 𝒱 T bd E B Xf Xb wf wb sf sb) $$ [Hi Hf Hb]
    · isplitl [Hi]; · iexact Hi
      isplitl [Hf]; · iexact Hf
      iexact Hb
    iintro ⟨Hi, Hf, Hb⟩
    by_cases hl : l
    · simp only [if_pos hl]
      unfold last
      simp only [Prog.bind_assoc]
      iapply (saveState_run 𝒱 T bd E _ B.hf' B.cf' B.csf B.xhf (sf.run wf (upRows Xf) 8) rfl _ yf) $$ [Hyf Hf]
      · isplitl [Hyf]; · iexact Hyf
        iexact Hf
      iintro ⟨Hyf, Hf⟩
      iapply (saveState_run 𝒱 T bd E _ B.hb' B.cb' B.csb B.xhb (sb.run wb (downRows Xb) 8) rfl _ yb) $$ [Hyb Hb]
      · isplitl [Hyb]; · iexact Hyb
        iexact Hb
      iintro ⟨Hyb, Hb⟩
      simp only [Prog.pure_eq_ret]
      iapply (le_wp_ret _ _ _ _ _)
      iapply Hk
      isplitl [Hi]; · iexact Hi
      isplitl [Hyf]; · iexact Hyf
      isplitl [Hyb]; · iexact Hyb
      isplitl [Hf]; · iexact Hf
      iexact Hb
    · simp only [if_neg hl, Prog.pure_eq_ret, Prog.bind_ret]
      iapply (le_wp_ret _ _ _ _ _)
      iapply Hk
      isplitl [Hi]; · iexact Hi
      isplitl [Hyf]; · iexact Hyf
      isplitl [Hyb]; · iexact Hyb
      isplitl [Hf]; · iexact Hf
      iexact Hb
  unfold point before
  iintro ⟨Hi, Hhf, Hhb, Hyf, Hyb, Hf, Hb⟩
  by_cases hn : isFirst n = 1#1
  · rw [hf hn, hb hn] at main ⊢
    simp only [if_pos hn]
    unfold first
    simp only [Prog.bind_assoc]
    iapply (loadState_run 𝒱 T bd E B.hf B.cf B.xhf B.hxhf B.csf s0f) $$ [Hhf Hf]
    · isplitl [Hhf]; · iexact Hhf
      iexact Hf
    iintro ⟨Hhf, Hf⟩
    iapply (loadState_run 𝒱 T bd E B.hb B.cb B.xhb B.hxhb B.csb s0b) $$ [Hhb Hb]
    · isplitl [Hhb]; · iexact Hhb
      iexact Hb
    iintro ⟨Hhb, Hb⟩
    iapply (main _) $$ [Hi Hyf Hyb Hf Hb]
    · isplitl [Hi]; · iexact Hi
      isplitl [Hyf]; · iexact Hyf
      isplitl [Hyb]; · iexact Hyb
      isplitl [Hf]; · iexact Hf
      iexact Hb
    iintro ⟨Hi, Hyf, Hyb, Hf, Hb⟩
    isplitl [Hi]; · iexact Hi
    isplitl [Hhf]; · iexact Hhf
    isplitl [Hhb]; · iexact Hhb
    isplitl [Hyf]; · iexact Hyf
    isplitl [Hyb]; · iexact Hyb
    isplitl [Hf]; · iexact Hf
    iexact Hb
  · simp only [if_neg hn]
    iapply (main _) $$ [Hi Hyf Hyb Hf Hb]
    · isplitl [Hi]; · iexact Hi
      isplitl [Hyf]; · iexact Hyf
      isplitl [Hyb]; · iexact Hyb
      isplitl [Hf]; · iexact Hf
      iexact Hb
    iintro ⟨Hi, Hyf, Hyb, Hf, Hb⟩
    isplitl [Hi]; · iexact Hi
    isplitl [Hhf]; · iexact Hhf
    isplitl [Hhb]; · iexact Hhb
    isplitl [Hyf]; · iexact Hyf
    isplitl [Hyb]; · iexact Hyb
    isplitl [Hf]; · iexact Hf
    iexact Hb

end Run

end Cert.Proof.Stage
end
-- ==== Proof.Region.lean ====
/- What the three TensorCore calls share: how a core's buffers enter and leave a pipeline's region, and how one
   grid point advances the state along the gathered time steps. -/
module

public import proofs.«01_k».proof.Proof.Setup
public import proofs.«01_k».proof.Proof.StagePoint
public import proofs.«01_k».proof.Proof.Gen.KernelIdeal.Points

@[expose] public section

noncomputable section

namespace Cert.Proof

open Cert.KernelIdeal Cert.KernelIdeal.Gen Cert.Proof.Stage

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ Cert.KernelIdeal.sig (HIx 2) (Elt F) ℕ UU ℕ

/-! ## Time steps of a gathered array -/

/-- Time step `n` of an array of `T` time steps. -/
def slab {T : Nat} [NeZero T] (X : Shape.Idx ⟨3, ![T, 1024, 128]⟩ → Elt F .f32) (n : Nat) : Vec F S1x1024x128 .f32 :=
  fun j => X (ix3 (Fin.ofNat T n) (j 1) (j 2))

/-- The `n`th block of eight time steps. -/
def chunk {T : Nat} [NeZero T] (X : Shape.Idx ⟨3, ![T, 1024, 128]⟩ → Elt F .f32) (n : Nat) : S8x1024x128.Idx → Elt F .f32 :=
  fun j => X (ix3 (Fin.ofNat T (8 * n + (j 0).val)) (j 1) (j 2))

theorem row_chunk {T : Nat} [NeZero T] (X : Shape.Idx ⟨3, ![T, 1024, 128]⟩ → Elt F .f32) (n : Nat) (k : Fin 8) :
    row (chunk X n) k = slab X (8 * n + k.val) := by
  funext j
  unfold row chunk slab
  have h0 : (((rowR k).toLoadRect.idx j) 0).val = k.val := by
    have : (j 0).val = 0 := Nat.lt_one_iff.mp (j 0).isLt
    show k.val + 1 * (j 0).val = k.val
    omega
  have h1 : ((rowR k).toLoadRect.idx j) 1 = j 1 := Fin.ext (show 0 + 1 * (j 1).val = (j 1).val by omega)
  have h2 : ((rowR k).toLoadRect.idx j) 2 = j 2 := Fin.ext (show 0 + 1 * (j 2).val = (j 2).val by omega)
  rw [h0, h1, h2]

theorem upRows_chunk {T : Nat} [NeZero T] (X : Shape.Idx ⟨3, ![T, 1024, 128]⟩ → Elt F .f32) (n k : Nat) (hk : k < 8) :
    upRows (chunk X n) k = slab X (8 * n + k) := by
  unfold upRows
  rw [row_chunk, Fin.val_ofNat, Nat.mod_eq_of_lt hk]

theorem downRows_chunk {T : Nat} [NeZero T] (X : Shape.Idx ⟨3, ![T, 1024, 128]⟩ → Elt F .f32) (n k : Nat) (hk : k < 8) :
    downRows (chunk X n) k = slab X (8 * n + 7 - k) := by
  unfold downRows
  rw [row_chunk, Fin.val_rev, Fin.val_ofNat, Nat.mod_eq_of_lt hk]
  congr 1
  omega

/-- One point of the forward direction: eight steps on from the block's first time step. -/
theorem run_up {T : Nat} [NeZero T] (w : Wts F) (X : Shape.Idx ⟨3, ![T, 1024, 128]⟩ → Elt F .f32) (xs : Nat → Vec F S1x1024x128 .f32) (s : St F) (t n : Nat)
    (h : ∀ k < 8, xs (8 * t + k) = slab X (8 * n + k)) :
    (s.run w xs (8 * t)).run w (upRows (chunk X n)) 8 = s.run w xs (8 * (t + 1)) := by
  rw [Nat.mul_add, Nat.mul_one, St.run_add]
  exact St.run_congr w _ 8 fun k hk => by rw [upRows_chunk X n k hk, h k hk]

/-- One point of the backward direction: eight steps down from the block's last time step. -/
theorem run_down {T : Nat} [NeZero T] (w : Wts F) (X : Shape.Idx ⟨3, ![T, 1024, 128]⟩ → Elt F .f32) (xs : Nat → Vec F S1x1024x128 .f32) (s : St F) (t n : Nat)
    (h : ∀ k < 8, xs (8 * t + k) = slab X (8 * n + 7 - k)) :
    (s.run w xs (8 * t)).run w (downRows (chunk X n)) 8 = s.run w xs (8 * (t + 1)) := by
  rw [Nat.mul_add, Nat.mul_one, St.run_add]
  exact St.run_congr w _ 8 fun k hk => by rw [downRows_chunk X n k hk, h k hk]

theorem isFirst_iff : ∀ n : Fin 14, isFirst n.val = 1#1 ↔ n.val = 0 := by decide

/-- Two indices of a matrix that agree in both coordinates. -/
theorem Fin_ext2 {n0 n1 : Nat} (i j : Shape.Idx ⟨2, ![n0, n1]⟩) (h0 : (i 0).val = (j 0).val) (h1 : (i 1).val = (j 1).val) : i = j := by
  funext a
  match a with
  | ⟨0, _⟩ => exact Fin.ext h0
  | ⟨1, _⟩ => exact Fin.ext h1

/-- The scratch before a point that is not the first: at the state carried to it. -/
theorem carried_before (c : Dev nD) (xh : Memref sig .tc .vmem S1024x256 .bf16) (cs : Memref sig .tc .vmem S1024x128 .f32) (n : ℕ) (hn : n < 14)
    (h : n ≠ 0) (s : St F) : (before c xh cs n s : sProp 𝕄) = carried c xh cs s := by
  unfold before
  rw [if_neg fun e => h ((isFirst_iff ⟨n, hn⟩).mp e)]

/-- The scratch before the first point: at anything. -/
theorem scratch_before (c : Dev nD) (xh : Memref sig .tc .vmem S1024x256 .bf16) (cs : Memref sig .tc .vmem S1024x128 .f32) (s : St F) :
    (before c xh cs 0 s : sProp 𝕄) = scratch c xh cs := by
  unfold before
  exact if_pos ((isFirst_iff 0).mpr rfl)

/-- Carried scratch forgotten. -/
theorem carried_scratch (c : Dev nD) (xh : Memref sig .tc .vmem S1024x256 .bf16) (cs : Memref sig .tc .vmem S1024x128 .f32) (s : St F) :
    (carried c xh cs s : sProp 𝕄) ⊢ scratch c xh cs := by
  unfold carried scratch
  iintro ⟨⟨%x, H⟩, Hc⟩
  isplitl [H]
  · iexists _; iexact H
  iexists _; iexact Hc

/-- What a result's staging buffer is handed back as: written at a point where the body stores it, as found elsewhere. -/
theorem leave {α : Type} {l : Prop} {i f : Bool} {R A : sProp (MT nD τ Cert.KernelIdeal.sig (HIx 2) (Elt F) ℕ UU ℕ)} {P : α → sProp (MT nD τ Cert.KernelIdeal.sig (HIx 2) (Elt F) ℕ UU ℕ)} (hi : i = true ↔ ¬l) (hf : f = true ↔ l)
    (hA : l → R ⊢ A) (hP : ¬l → ∃ d, R ⊢ P d) :
    R ⊢ match (generalizing := false) i with
      | true => match (generalizing := false) f with
        | false => iprop(∃ d, P d)
        | true => A
      | false => A := by
  by_cases h : l
  · rw [show i = false by rw [← Bool.not_eq_true, hi]; exact fun n => n h]
    exact hA h
  · rw [hi.mpr h, show f = false by rw [← Bool.not_eq_true, hf]; exact h]
    obtain ⟨d, hd⟩ := hP h
    exact hd.trans (by iintro H; iexists d; iexact H)

/-! ## A region's ends -/

/-- The pairs a core's waits may have recorded: those at levels up to `b`. -/
def recs (b : ℕ) (c : Dev nD) : Set (SemLoc sig × HIx 2) := {q | (K (F := F)).lev (SparseCore.T c, q.1) q.2 ≤ b}

/-- A proof data for a pipeline that is not run: anything. -/
def junk {cfg : Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

/-- A core's thread state around a region: its buffers at `V`, nothing owed, the waits recorded so far at levels up to `b`. -/
def state (b : ℕ) (c : Dev nD) (V : Valuation τ sig (Elt F)) : sProp (MT nD τ Cert.KernelIdeal.sig (HIx 2) (Elt F) ℕ UU ℕ) :=
  iprop(unscopedBufs c (fun r => V r) ∗ ∃ W, ⌜(K (F := F)).WBelow (SparseCore.T c) W b⌝ ∗ owes (c : Thread nD τ) (0 : CellTallies nD τ sig (HIx 2)) W)

variable (b : ℕ)

set_option backward.isDefEq.respectTransparency.types false in
/-- A pipeline's region entered from the core's buffers at `V c` and left at `V' c`: the arrays are taken out of the
    buffers at the entry and put back at the exit; the rest bypasses. -/
def region (p : Fin 3) (pdats : (p : Fin 3) → (c : Dev nD) → Dat τ (Elt F) (HIx 2) ℕ UU ℕ (Pipeline.pin (pcfgs (F := F)) adm p) c)
    (hw : Pipeline.WinFacts₀ (Pipeline.pin (pcfgs (F := F)) adm p).spec) (hsh : Pipeline.SharedIn (Pipeline.pin (pcfgs (F := F)) adm p).spec)
    (hbp : ∀ w : Fin (Pipeline.pin (pcfgs (F := F)) adm p).W, 0 < ((Pipeline.pin (pcfgs (F := F)) adm p).spec w).block.numel)
    (harr : ∀ w, ((Pipeline.pin (pcfgs (F := F)) adm p).spec w).arr.IsWhole)
    (hst : ∀ (w : Fin (Pipeline.pin (pcfgs (F := F)) adm p).W) (s : Fin ((Pipeline.pin (pcfgs (F := F)) adm p).spec w).nbuf), (((Pipeline.pin (pcfgs (F := F)) adm p).spec w).stage s).IsWhole)
    (hpre : ∀ c, (BI.emp : sProp 𝕄) ⊢ Pipeline.prefHeld (pcfgs (F := F) p).pre c (fun _ => fullShare) (adm (F := F) p).1)
    (V V' : Dev nD → Valuation τ sig (Elt F))
    (hq : ∀ c w, ((Pipeline.pin (pcfgs (F := F)) adm p).spec w).isOut = false → (pdats p c).q w = Pipeline.shareOf (Pipeline.pin (pcfgs (F := F)) adm p).spec w)
    (hA : ∀ c w, (pdats p c).A w = V c (Pipeline.arrRef (Pipeline.pin (pcfgs (F := F)) adm p).spec w))
    (hF : ∀ c w, (pdats p c).arrAt w (Pipeline.pin (pcfgs (F := F)) adm p).N = V' c (Pipeline.arrRef (Pipeline.pin (pcfgs (F := F)) adm p).spec w))
    (hrest : ∀ c (r : Ref sig .tc), r ∉ Finset.univ.image (Pipeline.arrRef (Pipeline.pin (pcfgs (F := F)) adm p).spec) → V' c r = V c r)
    (hbody : ∀ c, BodyObligationLoose (pdats p c) (defs₀ (F := F)) 𝒱₀ none Set.univ)
    (howed : ∀ c t, (pdats p c).owed t = 0) (hrec : ∀ c t, (pdats p c).recorded t = recs (F := F) b c)
    (hin : ∀ c, (Pipeline.scopedRest (Pipeline.pin (pcfgs (F := F)) adm p).spec c : sProp 𝕄) ⊢ (pdats p c).Φ 0)
    (hout : ∀ c, (pdats p c).Φ (Fin.last _) ⊢ (Pipeline.scopedRest (Pipeline.pin (pcfgs (F := F)) adm p).spec c : sProp 𝕄))
    (L : GSem nD τ sig → Finset (HIx 2)) (lv : GSem nD τ sig → HIx 2 → ℕ) :
    Pipeline.RegionSeg (pcfgs (F := F)) adm pdats none defs₀ 𝒱₀ L lv p where
  win := hw
  block_pos := hbp
  stage_whole := hst
  K := PEmpty
  osem k := k.elim
  ho := Pipeline.OwnSemFacts.none _
  hbody := hbody
  hwaits := Pipeline.hwaits_of_owed_zero _ _ _ _ L lv p howed
  pre c := state b c (V c)
  post c := state b c (V' c)
  X _ := BI.emp
  Y _ := BI.emp
  Z c := Pipeline.unscopedRest (Ix := HIx 2) (Name := ℕ) (U := UU) (Lvl := ℕ) (Pipeline.pin (pcfgs (F := F)) adm p).spec c (fun r => V c r)
  hentry c := by
    rw [Pipeline.ownSems0_none]
    have hsplit := Pipeline.arrays_of_unscopedBufs_shared (p := p) (pcfgs (F := F)) adm pdats hw hsh harr c (hq c) (fun r => V c r) (hA c)
    unfold state
    iintro ⟨⟨Hub, HO⟩, -, -⟩
    ihave H := hsplit $$ Hub
    icases H with ⟨Ha, Hrest⟩
    imodintro
    isplitl [Ha]; · iexact Ha
    isplitr
    · iapply (hpre c); iempintro
    isplitl [HO]
    · unfold Pipeline.Dat.owesAt Pipeline.owesWithin Pipeline.Dat.bound
      rw [howed, hrec]
      icases HO with ⟨%W, %hW, HO⟩; iexists W; isplitr; · ipureintro; exact fun q hq => Or.inl (hW q hq)
      iexact HO
    isplitr; · iempintro
    iexact Hrest
  hin c := by
    iintro ⟨-, -, Hr⟩; iapply (hin c); iexact Hr
  hout c := by
    rw [Pipeline.ownSems0_none]
    iintro Hr
    isplitr; · iempintro
    isplitr; · iempintro
    iapply (hout c); iexact Hr
  hexit c := by
    have hjoin := Pipeline.unscopedBufs_of_arrays_shared (p := p) (pcfgs (F := F)) adm (Ix := HIx 2) (Name := ℕ) (U := UU) (Lvl := ℕ) hw hsh harr c
      pdats (hq c) (fun r => V c r) (fun r => V' c r) ((pdats p c).arrAt · (Pipeline.pin (pcfgs (F := F)) adm p).N) (hF c) (hrest c)
    unfold state
    iintro ⟨Ha, HO, -, Hrest⟩
    imodintro
    isplitl [Ha Hrest]
    · iapply hjoin; isplitl [Ha] <;> iassumption
    unfold Pipeline.Dat.owesAt Pipeline.owesWithin Pipeline.Dat.bound
    rw [howed, hrec]
    icases HO with ⟨%W, %hW, HO⟩; iexists W; isplitr
    · ipureintro
      intro q hq
      rcases hW hq with h | ⟨w, s, h⟩
      · exact h
      · rw [h]; exact ((K (F := F)).lev_none _).le.trans (Nat.zero_le b)
    iexact HO

end Cert.Proof
-- ==== Proof.RegionPoint.lean ====
/- One grid point of a TensorCore call, stated once for the three calls: what its windows are read as, what the body makes
   of them, and how the scratch is taken up at the first point and given back after the last. -/
module

public import proofs.«01_k».proof.Proof.Region

@[expose] public section

noncomputable section

namespace Cert.Proof

open Cert.KernelIdeal Cert.KernelIdeal.Gen Cert.Proof.Stage

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What a window reads -/

/-- Block `n` of eight time steps, index by index. -/
theorem chunk_idx {T : Nat} [NeZero T] (e : Shape.Idx ⟨3, ![T, 1024, 128]⟩) (j : S8x1024x128.Idx) {o : Fin 3 → ℕ} {n : ℕ} (ho : o = ![n, 0, 0])
    (hn : 8 * n + 8 ≤ T) (he : ∀ a, (e a).val = o a * S8x1024x128.size a + 1 * (j a).val) :
    e = ix3 (Fin.ofNat T (8 * n + (j 0).val)) (j 1) (j 2) := by
  subst ho
  have hj : (j 0).val < 8 := (j 0).isLt
  funext a
  refine Fin.ext ((he a).trans ?_)
  match a with
  | ⟨0, _⟩ =>
    show n * 8 + 1 * (j 0).val = (8 * n + (j 0).val) % T
    rw [Nat.mod_eq_of_lt (by omega)]; omega
  | ⟨1, _⟩ => exact (show 0 * 1024 + 1 * (j 1).val = (j 1).val by omega)
  | ⟨2, _⟩ => exact (show 0 * 128 + 1 * (j 2).val = (j 2).val by omega)

/-- The only block of a whole matrix, index by index. -/
theorem whole_idx {n0 n1 : ℕ} (e j : Shape.Idx ⟨2, ![n0, n1]⟩) (h0 : (e 0).val = 0 * n0 + 1 * (j 0).val) (h1 : (e 1).val = 0 * n1 + 1 * (j 1).val) : e = j :=
  Fin_ext2 e j (by omega) (by omega)

/-! ## The body -/

/-- A window the body only reads: found at `X`, and given back where it is asked for at `X`. -/
structure Kept {s : Shape} {e : EltTy} (c : Dev nD) (m : Memref sig .tc .vmem s e) (X : s.Idx → Elt F e) (A Q : sProp (MT nD τ Cert.KernelIdeal.sig (HIx 2) (Elt F) ℕ UU ℕ)) : Prop where
  found : A ⊢ owns (c : Thread nD τ) m fullShare X
  given : owns (c : Thread nD τ) m fullShare X ⊢ Q

/-- A window for a result: found at anything; given back at `v` if the body stores it (`l`), else as found. -/
structure Result (l : Prop) (c : Dev nD) (m : Memref sig .tc .vmem S1024x128 .f32) (v : S1024x128.Idx → Elt F .f32) (A Q : sProp (MT nD τ Cert.KernelIdeal.sig (HIx 2) (Elt F) ℕ UU ℕ)) : Prop where
  found : A ⊢ iprop(∃ y, ⌜¬l → owns (c : Thread nD τ) m fullShare y ⊢ Q⌝ ∗ owns (c : Thread nD τ) m fullShare y)
  stored : l → owns (c : Thread nD τ) m fullShare v ⊢ Q

theorem kept_of {s : Shape} {e : EltTy} {c : Dev nD} {m : Memref sig .tc .vmem s e} {X Y : s.Idx → Elt F e} {α : Type} {f : α → s.Idx → Elt F e}
    (hf : ∀ d, f d = X) (hY : Y = X) : Kept c m X (iprop(∃ d, owns (c : Thread nD τ) m fullShare (f d)) : sProp (MT nD τ Cert.KernelIdeal.sig (HIx 2) (Elt F) ℕ UU ℕ)) (owns (c : Thread nD τ) m fullShare Y) where
  found := by iintro ⟨%d, H⟩; rw [hf d]; iexact H
  given := by rw [hY]

theorem result_of {l : Prop} {i fl : Bool} {c : Dev nD} {m : Memref sig .tc .vmem S1024x128 .f32} {v : S1024x128.Idx → Elt F .f32} {α : Type}
    {f : α → S1024x128.Idx → Elt F .f32} (hi : i = true ↔ ¬l) (hf : fl = true ↔ l) :
    Result l c m v (iprop(∃ d, owns (c : Thread nD τ) m fullShare (f d)) : sProp (MT nD τ Cert.KernelIdeal.sig (HIx 2) (Elt F) ℕ UU ℕ))
      (match (generalizing := false) i with
      | true => match (generalizing := false) fl with
        | false => iprop(∃ d, owns (c : Thread nD τ) m fullShare (f d))
        | true => owns (c : Thread nD τ) m fullShare v
      | false => owns (c : Thread nD τ) m fullShare v) where
  found := by
    iintro ⟨%d, H⟩
    iexists f d
    isplitr
    · ipureintro
      exact fun hl => leave hi hf (fun h => absurd h hl) (fun _ => ⟨d, .rfl⟩)
    iexact H
  stored hl := leave hi hf (fun _ => .rfl) (fun h => absurd hl h)

/-- A result given back, whether stored or not. -/
theorem Result.give {l : Prop} [Decidable l] {c : Dev nD} {m : Memref sig .tc .vmem S1024x128 .f32} {v y : S1024x128.Idx → Elt F .f32} {A Q : sProp (MT nD τ Cert.KernelIdeal.sig (HIx 2) (Elt F) ℕ UU ℕ)}
    (R : Result l c m v A Q) (hy : ¬l → owns (c : Thread nD τ) m fullShare y ⊢ Q) : owns (c : Thread nD τ) m fullShare (if l then v else y) ⊢ Q := by
  by_cases h : l
  · rw [if_pos h]; exact R.stored h
  · rw [if_neg h]; exact hy h

set_option maxHeartbeats 1000000 in
/-- The body at a point: blocks, weights and starting states as they were, both directions' states eight steps on. -/
theorem point_windows (c : Dev nD) (B : Bufs) (n : ℕ) (hn : n + 1 < 14) (l : Prop) [Decidable l] {Xf Xb : S8x1024x128.Idx → Elt F .f32} {wf wb : Wts F} {sf sb sf' sb' s0f s0b : St F}
    (hf : n = 0 → sf = s0f) (hb : n = 0 → sb = s0b) (hsf : sf.run wf (upRows Xf) 8 = sf') (hsb : sb.run wb (downRows Xb) 8 = sb')
    {R O A0 A1 A2 A3 A4 A5 A6 A7 A8 A9 A10 A11 A12 A13 Q0 Q1 Q2 Q3 Q4 Q5 Q6 Q7 Q8 Q9 Q10 Q11 Q12 Q13 : sProp (MT nD τ Cert.KernelIdeal.sig (HIx 2) (Elt F) ℕ UU ℕ)}
    (k0 : Kept c B.xf Xf A0 Q0) (k1 : Kept c B.xb Xb A1 Q1) (k2 : Kept c B.Wf wf.W A2 Q2) (k3 : Kept c B.bf wf.b A3 Q3) (k4 : Kept c B.Wb wb.W A4 Q4) (k5 : Kept c B.bb wb.b A5 Q5)
    (k6 : Kept c B.hf s0f.h A6 Q6) (k7 : Kept c B.cf s0f.c A7 Q7) (k8 : Kept c B.hb s0b.h A8 Q8) (k9 : Kept c B.cb s0b.c A9 Q9)
    (r10 : Result l c B.hf' sf'.h A10 Q10) (r11 : Result l c B.cf' sf'.c A11 Q11) (r12 : Result l c B.hb' sb'.h A12 Q12) (r13 : Result l c B.cb' sb'.c A13 Q13) :
    iprop((before c B.xhf B.csf n sf ∗ before c B.xhb B.csb n sb ∗ R) ∗ O ∗ A0 ∗ A1 ∗ A2 ∗ A3 ∗ A4 ∗ A5 ∗ A6 ∗ A7 ∗ A8 ∗ A9 ∗ A10 ∗ A11 ∗ A12 ∗ A13)
      ⊢ wp frame (wpE (defs₀ (F := F)) 𝒱₀ (c : Thread nD τ) none) Set.univ (point B n l) fun _ =>
        iprop((before c B.xhf B.csf (n + 1) sf' ∗ before c B.xhb B.csb (n + 1) sb' ∗ R) ∗ O
          ∗ Q0 ∗ Q1 ∗ Q2 ∗ Q3 ∗ Q4 ∗ Q5 ∗ Q6 ∗ Q7 ∗ Q8 ∗ Q9 ∗ Q10 ∗ Q11 ∗ Q12 ∗ Q13) := by
  iintro ⟨⟨HsF, HsB, Hoth⟩, HO, H0, H1, H2, H3, H4, H5, H6, H7, H8, H9, H10, H11, H12, H13⟩
  ihave H0 := k0.found $$ H0
  ihave H1 := k1.found $$ H1
  ihave H2 := k2.found $$ H2
  ihave H3 := k3.found $$ H3
  ihave H4 := k4.found $$ H4
  ihave H5 := k5.found $$ H5
  ihave H6 := k6.found $$ H6
  ihave H7 := k7.found $$ H7
  ihave H8 := k8.found $$ H8
  ihave H9 := k9.found $$ H9
  ihave H10 := r10.found $$ H10
  ihave H11 := r11.found $$ H11
  ihave H12 := r12.found $$ H12
  ihave H13 := r13.found $$ H13
  icases H10 with ⟨%y10, %g10, H10⟩
  icases H11 with ⟨%y11, %g11, H11⟩
  icases H12 with ⟨%y12, %g12, H12⟩
  icases H13 with ⟨%y13, %g13, H13⟩
  have hrun := point_run (D := defs₀ (F := F)) (Ix := HIx 2) (Name := ℕ) (U := UU) (Lvl := ℕ) 𝒱₀ c none Set.univ B n l Xf Xb wf wb sf sb s0f s0b ⟨y10, y11⟩ ⟨y12, y13⟩
    (fun h => hf ((isFirst_iff ⟨n, by omega⟩).mp h)) (fun h => hb ((isFirst_iff ⟨n, by omega⟩).mp h))
  rw [hsf, hsb] at hrun
  unfold ins stored at hrun
  iapply wp_wand $$ [H0 H1 H2 H3 H4 H5 H6 H7 H8 H9 H10 H11 H12 H13 HsF HsB]
  · iapply hrun
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7]
    · isplitl [H6]; · iexact H6
      iexact H7
    isplitl [H8 H9]
    · isplitl [H8]; · iexact H8
      iexact H9
    isplitl [H10 H11]
    · isplitl [H10]; · iexact H10
      iexact H11
    isplitl [H12 H13]
    · isplitl [H12]; · iexact H12
      iexact H13
    isplitl [HsF]; · iexact HsF
    iexact HsB
  iintro %_ ⟨⟨H0, H1, H2, H3, H4, H5⟩, ⟨H6, H7⟩, ⟨H8, H9⟩, ⟨H10, H11⟩, ⟨H12, H13⟩, HsF, HsB⟩
  rw [carried_before c B.xhf B.csf (n + 1) hn (by omega), carried_before c B.xhb B.csb (n + 1) hn (by omega)]
  rw [show (if l then sf' else (⟨y10, y11⟩ : St F)).h = if l then sf'.h else y10 by split <;> rfl,
    show (if l then sf' else (⟨y10, y11⟩ : St F)).c = if l then sf'.c else y11 by split <;> rfl,
    show (if l then sb' else (⟨y12, y13⟩ : St F)).h = if l then sb'.h else y12 by split <;> rfl,
    show (if l then sb' else (⟨y12, y13⟩ : St F)).c = if l then sb'.c else y13 by split <;> rfl]
  isplitl [HsF HsB Hoth]
  · isplitl [HsF]; · iexact HsF
    isplitl [HsB]; · iexact HsB
    iexact Hoth
  isplitl [HO]; · iexact HO
  isplitl [H0]; · iapply k0.given; iexact H0
  isplitl [H1]; · iapply k1.given; iexact H1
  isplitl [H2]; · iapply k2.given; iexact H2
  isplitl [H3]; · iapply k3.given; iexact H3
  isplitl [H4]; · iapply k4.given; iexact H4
  isplitl [H5]; · iapply k5.given; iexact H5
  isplitl [H6]; · iapply k6.given; iexact H6
  isplitl [H7]; · iapply k7.given; iexact H7
  isplitl [H8]; · iapply k8.given; iexact H8
  isplitl [H9]; · iapply k9.given; iexact H9
  isplitl [H10]; · iapply (r10.give g10); iexact H10
  isplitl [H11]; · iapply (r11.give g11); iexact H11
  isplitl [H12]; · iapply (r12.give g12); iexact H12
  iapply (r13.give g13); iexact H13

/-! ## The scratch -/

/-- A buffer held at anything is its whole view held at anything. -/
theorem held_whole (c : Dev nD) (r : Ref sig .tc) :
    (iprop(∃ f : Buf (Elt F) ((c : Thread nD τ).loc r), ((c : Thread nD τ).loc r) ↦{fullShare} f) : sProp (MT nD τ Cert.KernelIdeal.sig (HIx 2) (Elt F) ℕ UU ℕ))
      = iprop(∃ f : Buf (Elt F) ((c : Thread nD τ).loc r), owns (c : Thread nD τ) (Memref.whole r) fullShare f) := by
  simp only [owns_whole]

section Scratch

variable (c : Dev nD) {xf xb : Memref sig .tc .vmem S1024x256 .bf16} {cf cb : Memref sig .tc .vmem S1024x128 .f32} {S0 S1 S2 S3 R : sProp (MT nD τ Cert.KernelIdeal.sig (HIx 2) (Elt F) ℕ UU ℕ)}
  (h0 : S0 = iprop(∃ f, owns (c : Thread nD τ) xf fullShare f)) (h1 : S1 = iprop(∃ f, owns (c : Thread nD τ) cf fullShare f))
  (h2 : S2 = iprop(∃ f, owns (c : Thread nD τ) xb fullShare f)) (h3 : S3 = iprop(∃ f, owns (c : Thread nD τ) cb fullShare f))

include h0 h1 h2 h3

/-- The scratch taken up before the first point. -/
theorem enter_scratch (sf sb : St F) : iprop((S0 ∗ S1 ∗ S2 ∗ S3) ∗ R) ⊢ iprop(before c xf cf 0 sf ∗ before c xb cb 0 sb ∗ R) := by
  rw [scratch_before c xf cf sf, scratch_before c xb cb sb, h0, h1, h2, h3]
  unfold scratch
  iintro ⟨⟨H0, H1, H2, H3⟩, Hr⟩
  isplitl [H0 H1]
  · isplitl [H0]; · iexact H0
    iexact H1
  isplitl [H2 H3]
  · isplitl [H2]; · iexact H2
    iexact H3
  iexact Hr

/-- The scratch given back after a point. -/
theorem leave_scratch (n : ℕ) (hn : n ≠ 0) (hn' : n < 14) (sf sb : St F) :
    iprop(before c xf cf n sf ∗ before c xb cb n sb ∗ R) ⊢ iprop((S0 ∗ S1 ∗ S2 ∗ S3) ∗ R) := by
  rw [carried_before c xf cf n hn' hn, carried_before c xb cb n hn' hn, h0, h1, h2, h3]
  iintro ⟨HF, HB, Hr⟩
  ihave HF := (carried_scratch c xf cf _) $$ HF
  ihave HB := (carried_scratch c xb cb _) $$ HB
  unfold scratch
  icases HF with ⟨H0, H1⟩
  icases HB with ⟨H2, H3⟩
  isplitl [H0 H1 H2 H3]
  · isplitl [H0]; · iexact H0
    isplitl [H1]; · iexact H1
    isplitl [H2]; · iexact H2
    iexact H3
  iexact Hr

end Scratch

end Cert.Proof
-- ==== Proof.Region2.lean ====
/- The first TensorCore call: six grid points of eight steps each over the array gathered first, both directions
   starting from the zero state. -/
module

public import proofs.«01_k».proof.Proof.RegionPoint
public import Idealize.ShloMosaic.Lib.Pipeline.FrameSuffix
public import Idealize.ShloMosaic.Lib.Pipeline.ValueKit

@[expose] public section

noncomputable section

namespace Cert.Proof.Region2

open Cert.KernelIdeal Cert.KernelIdeal.Gen Cert.Proof.Stage Cert.Proof

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ Cert.KernelIdeal.sig (HIx 2) (Elt F) ℕ UU ℕ

variable (b : ℕ) (V : Valuation τ sig (Elt F))

/-! ## What the call computes -/

/-- The gathered time steps the call reads. -/
abbrev X : Shape.Idx ⟨3, ![96, 1024, 128]⟩ → Elt F .f32 := V main_v8
/-- The forward weights. -/
abbrev wf : Wts F := ⟨V main_v22, V main_v26⟩
/-- The backward weights. -/
abbrev wb : Wts F := ⟨V main_v32, V main_v36⟩
/-- The states the two directions start from. -/
abbrev f0 : St F := ⟨V main_v37, V main_v37⟩
abbrev b0 : St F := ⟨V main_v37, V main_v37⟩
/-- The states after `n` steps. -/
def sF (n : Nat) : St F := (f0 V).run (wf V) (fun k => slab (X V) k) n
def sB (n : Nat) : St F := (b0 V).run (wb V) (fun k => slab (X V) (95 - k)) n

/-- The block each of the windows reads at a point. -/
abbrev blkF (t : Fin cfg2.N) : S8x1024x128.Idx → Elt F .f32 := ((cfg2.win 0).blk t).view.read (Elt F) (V main_v8)
abbrev blkB (t : Fin cfg2.N) : S8x1024x128.Idx → Elt F .f32 := ((cfg2.win 1).blk t).view.read (Elt F) (V main_v8)

theorem coords_val (t : Fin grid2.N) : (grid2.coords t 0).val = t.val := by
  revert t; decide +kernel

theorem idxF (t : Fin grid2.N) : cc2_transform_0 (grid2.coords t) = ![t.val, 0, 0] := by
  revert t; decide +kernel

theorem idxB (t : Fin grid2.N) : cc2_transform_1 (grid2.coords t) = ![11 - t.val, 0, 0] := by
  revert t; decide +kernel

theorem blkF_eq (t : Fin cfg2.N) : blkF V t = chunk (X V) t.val :=
  have ht : t.val < 6 := lt_of_lt_of_eq t.isLt N_2
  funext fun j => congrArg (V main_v8) (chunk_idx _ j (idxF t) (by omega) fun _ => rfl)

theorem blkB_eq (t : Fin cfg2.N) : blkB V t = chunk (X V) (11 - t.val) :=
  have ht : t.val < 6 := lt_of_lt_of_eq t.isLt N_2
  funext fun j => congrArg (V main_v8) (chunk_idx _ j (idxB t) (by omega) fun _ => rfl)

theorem stepF (t : Fin cfg2.N) : (sF V (8 * t.val)).run (wf V) (upRows (blkF V t)) 8 = sF V (8 * (t.val + 1)) := by
  rw [blkF_eq]
  exact run_up (wf V) (X V) _ (f0 V) t.val t.val fun k hk => rfl

theorem stepB (t : Fin cfg2.N) : (sB V (8 * t.val)).run (wb V) (downRows (blkB V t)) 8 = sB V (8 * (t.val + 1)) := by
  have ht : t.val < 6 := lt_of_lt_of_eq t.isLt N_2
  rw [blkB_eq]
  exact run_down (wb V) (X V) _ (b0 V) t.val (11 - t.val) fun k hk => by
    show slab (X V) (95 - (8 * t.val + k)) = _
    congr 1; omega

/-! ## The proof data -/

abbrev bufXF : Memref sig .tc .vmem S1024x256 .bf16 := Memref.whole cc2_scratch0
abbrev bufCF : Memref sig .tc .vmem S1024x128 .f32 := Memref.whole cc2_scratch1
abbrev bufXB : Memref sig .tc .vmem S1024x256 .bf16 := Memref.whole cc2_scratch2
abbrev bufCB : Memref sig .tc .vmem S1024x128 .f32 := Memref.whole cc2_scratch3

/-- The scoped buffers the call has nothing to do with. -/
abbrev other (c : Dev nD) : sProp (MT nD τ Cert.KernelIdeal.sig (HIx 2) (Elt F) ℕ UU ℕ) :=
  Pipeline.scopedRestBut (Ix := HIx 2) (Name := ℕ) (U := UU) (Lvl := ℕ) (Val := Elt F) spec2 c [cc2_scratch0, cc2_scratch1, cc2_scratch2, cc2_scratch3]

/-- Before point `n`: both directions' scratch at the state `8 n` steps on, at anything before the first. -/
def inv (c : Dev nD) (n : ℕ) : sProp (MT nD τ Cert.KernelIdeal.sig (HIx 2) (Elt F) ℕ UU ℕ) :=
  iprop(before c bufXF bufCF n (sF V (8 * n)) ∗ before c bufXB bufCB n (sB V (8 * n)) ∗ other c)

def dat (c : Dev nD) : Dat τ (Elt F) (HIx 2) ℕ UU ℕ cfg2 c where
  A w := V (Pipeline.arrRef spec2 w)
  after w t := match w with
    | ⟨0, _⟩ => ((cfg2.win 0).blk t).view.read (Elt F) (V main_v8)
    | ⟨1, _⟩ => ((cfg2.win 1).blk t).view.read (Elt F) (V main_v8)
    | ⟨2, _⟩ => ((cfg2.win 2).blk t).view.read (Elt F) (V main_v22)
    | ⟨3, _⟩ => ((cfg2.win 3).blk t).view.read (Elt F) (V main_v26)
    | ⟨4, _⟩ => ((cfg2.win 4).blk t).view.read (Elt F) (V main_v32)
    | ⟨5, _⟩ => ((cfg2.win 5).blk t).view.read (Elt F) (V main_v36)
    | ⟨6, _⟩ => ((cfg2.win 6).blk t).view.read (Elt F) (V main_v37)
    | ⟨7, _⟩ => ((cfg2.win 7).blk t).view.read (Elt F) (V main_v37)
    | ⟨8, _⟩ => ((cfg2.win 8).blk t).view.read (Elt F) (V main_v37)
    | ⟨9, _⟩ => ((cfg2.win 9).blk t).view.read (Elt F) (V main_v37)
    | ⟨10, _⟩ => (sF V (8 * (t.val + 1))).h
    | ⟨11, _⟩ => (sF V (8 * (t.val + 1))).c
    | ⟨12, _⟩ => (sB V (8 * (t.val + 1))).h
    | ⟨13, _⟩ => (sB V (8 * (t.val + 1))).c
  Φ t := inv V c t.val
  q w := Pipeline.shareOf spec2 w
  owed _ := 0
  recorded _ := recs (F := F) b c

/-! ## What the windows hold when the body runs -/

variable (c : Dev nD) (t : Fin cfg2.N)

theorem before0 (d) : (dat b V c).before 0 t d = blkF V t :=
  (dat b V c).before_in_eq_fetched 0 rfl (fun _ => rfl) (fun _ _ _ => rfl) (fun _ => rfl) t d
theorem before1 (d) : (dat b V c).before 1 t d = blkB V t :=
  (dat b V c).before_in_eq_fetched 1 rfl (fun _ => rfl) (fun _ _ _ => rfl) (fun _ => rfl) t d

/-- A window over a whole array reads the array. -/
theorem whole2 : ((cfg2.win 2).blk t).view.read (Elt F) (V main_v22) = (V main_v22 : S256x512.Idx → Elt F .bf16) :=
  funext fun j => congrArg (V main_v22) (whole_idx _ j rfl rfl)
theorem whole3 : ((cfg2.win 3).blk t).view.read (Elt F) (V main_v26) = (V main_v26 : S1x512.Idx → Elt F .bf16) :=
  funext fun j => congrArg (V main_v26) (whole_idx _ j rfl rfl)
theorem whole4 : ((cfg2.win 4).blk t).view.read (Elt F) (V main_v32) = (V main_v32 : S256x512.Idx → Elt F .bf16) :=
  funext fun j => congrArg (V main_v32) (whole_idx _ j rfl rfl)
theorem whole5 : ((cfg2.win 5).blk t).view.read (Elt F) (V main_v36) = (V main_v36 : S1x512.Idx → Elt F .bf16) :=
  funext fun j => congrArg (V main_v36) (whole_idx _ j rfl rfl)
theorem whole6 : ((cfg2.win 6).blk t).view.read (Elt F) (V main_v37) = (V main_v37 : S1024x128.Idx → Elt F .f32) :=
  funext fun j => congrArg (V main_v37) (whole_idx _ j rfl rfl)
theorem whole7 : ((cfg2.win 7).blk t).view.read (Elt F) (V main_v37) = (V main_v37 : S1024x128.Idx → Elt F .f32) :=
  funext fun j => congrArg (V main_v37) (whole_idx _ j rfl rfl)
theorem whole8 : ((cfg2.win 8).blk t).view.read (Elt F) (V main_v37) = (V main_v37 : S1024x128.Idx → Elt F .f32) :=
  funext fun j => congrArg (V main_v37) (whole_idx _ j rfl rfl)
theorem whole9 : ((cfg2.win 9).blk t).view.read (Elt F) (V main_v37) = (V main_v37 : S1024x128.Idx → Elt F .f32) :=
  funext fun j => congrArg (V main_v37) (whole_idx _ j rfl rfl)

theorem before2 (d) : (dat b V c).before 2 t d = V main_v22 :=
  ((dat b V c).before_in_eq_fetched 2 rfl (fun _ => rfl) (fun _ _ _ => rfl) (fun _ => rfl) t d).trans (whole2 V t)
theorem before3 (d) : (dat b V c).before 3 t d = V main_v26 :=
  ((dat b V c).before_in_eq_fetched 3 rfl (fun _ => rfl) (fun _ _ _ => rfl) (fun _ => rfl) t d).trans (whole3 V t)
theorem before4 (d) : (dat b V c).before 4 t d = V main_v32 :=
  ((dat b V c).before_in_eq_fetched 4 rfl (fun _ => rfl) (fun _ _ _ => rfl) (fun _ => rfl) t d).trans (whole4 V t)
theorem before5 (d) : (dat b V c).before 5 t d = V main_v36 :=
  ((dat b V c).before_in_eq_fetched 5 rfl (fun _ => rfl) (fun _ _ _ => rfl) (fun _ => rfl) t d).trans (whole5 V t)
theorem before6 (d) : (dat b V c).before 6 t d = V main_v37 :=
  ((dat b V c).before_in_eq_fetched 6 rfl (fun _ => rfl) (fun _ _ _ => rfl) (fun _ => rfl) t d).trans (whole6 V t)
theorem before7 (d) : (dat b V c).before 7 t d = V main_v37 :=
  ((dat b V c).before_in_eq_fetched 7 rfl (fun _ => rfl) (fun _ _ _ => rfl) (fun _ => rfl) t d).trans (whole7 V t)
theorem before8 (d) : (dat b V c).before 8 t d = V main_v37 :=
  ((dat b V c).before_in_eq_fetched 8 rfl (fun _ => rfl) (fun _ _ _ => rfl) (fun _ => rfl) t d).trans (whole8 V t)
theorem before9 (d) : (dat b V c).before 9 t d = V main_v37 :=
  ((dat b V c).before_in_eq_fetched 9 rfl (fun _ => rfl) (fun _ _ _ => rfl) (fun _ => rfl) t d).trans (whole9 V t)

/-! ## The body at a point -/

/-- The buffers the body is called with at a point. -/
def bufs : Bufs where
  xf := st2_0 t
  xb := st2_1 t
  Wf := st2_2 t
  bf := st2_3 t
  Wb := st2_4 t
  bb := st2_5 t
  hf := st2_6 t
  cf := st2_7 t
  hb := st2_8 t
  cb := st2_9 t
  hf' := st2_10 t
  cf' := st2_11 t
  hb' := st2_12 t
  cb' := st2_13 t
  xhf := bufXF
  hxhf := Memref.isWhole_whole _
  csf := bufCF
  xhb := bufXB
  hxhb := Memref.isWhole_whole _
  csb := bufCB

theorem bodyAt_eq : (bodyAt2 t : Prog (TpuEff nD τ sig (Elt F) Λ₀ .tc) PUnit) = point (bufs t) t.val (k2_cond2 (grid2.coords t) = 1#1) := by
  have h := body2 (F := F) (grid2.coords t) (bufs t) (hstage2_0 ((cfg2.slots t 0).cast nbuf2_0)) (hstage2_1 ((cfg2.slots t 1).cast nbuf2_1))
    (hstage2_2 ((cfg2.slots t 2).cast nbuf2_2)) (hstage2_3 ((cfg2.slots t 3).cast nbuf2_3)) (hstage2_4 ((cfg2.slots t 4).cast nbuf2_4))
    (hstage2_5 ((cfg2.slots t 5).cast nbuf2_5)) (hstage2_6 ((cfg2.slots t 6).cast nbuf2_6)) (hstage2_7 ((cfg2.slots t 7).cast nbuf2_7))
    (hstage2_8 ((cfg2.slots t 8).cast nbuf2_8)) (hstage2_9 ((cfg2.slots t 9).cast nbuf2_9)) (hstage2_10 ((cfg2.slots t 10).cast nbuf2_10))
    (hstage2_11 ((cfg2.slots t 11).cast nbuf2_11)) (hstage2_12 ((cfg2.slots t 12).cast nbuf2_12)) (hstage2_13 ((cfg2.slots t 13).cast nbuf2_13))
    (Memref.isWhole_whole _) (Memref.isWhole_whole _)
  rw [coords_val] at h
  exact h

theorem last_iff (t : Fin grid2.N) : k2_cond2 (grid2.coords t) = 1#1 ↔ t.val % 6 = 5 := by
  revert t; decide +kernel

theorem idle_iff (t : Fin grid2.N) : (!(k2_cond2 (grid2.coords t) == 1#1)) = true ↔ ¬k2_cond2 (grid2.coords t) = 1#1 := by
  rw [Bool.not_eq_true', beq_eq_false_iff_ne]

/-- The body at a point: the blocks and weights as they were, the state eight steps on. -/
theorem body_obligation : BodyObligation (dat b V c) (defs₀ (F := F)) 𝒱₀ none Set.univ := fun t => by
  have ht : t.val < 6 := lt_of_lt_of_eq t.isLt N_2
  rw [bigSep_W2, bigSep_W2]
  change iprop(inv V c t.val ∗ _ ∗ _) ⊢ wp frame _ _ (bodyAt2 t : Prog (TpuEff nD τ sig (Elt F) Λ₀ .tc) PUnit) fun _ => iprop(inv V c (t.val + 1) ∗ (dat b V c).owesAt none t.castSucc ∗ _)
  rw [bodyAt_eq]
  unfold inv
  exact point_windows c (bufs t) t.val (by omega) (k2_cond2 (grid2.coords t) = 1#1) (s0f := f0 V) (s0b := b0 V) (fun h => by rw [h]; rfl) (fun h => by rw [h]; rfl)
    (stepF V t) (stepB V t)
    (kept_of (before0 b V c t) rfl) (kept_of (before1 b V c t) rfl) (kept_of (before2 b V c t) (whole2 V t)) (kept_of (before3 b V c t) (whole3 V t))
    (kept_of (before4 b V c t) (whole4 V t)) (kept_of (before5 b V c t) (whole5 V t)) (kept_of (before6 b V c t) (whole6 V t)) (kept_of (before7 b V c t) (whole7 V t))
    (kept_of (before8 b V c t) (whole8 V t)) (kept_of (before9 b V c t) (whole9 V t))
    (result_of (idle_iff t) ((flush2_10 t).trans (last_iff t).symm)) (result_of (idle_iff t) ((flush2_11 t).trans (last_iff t).symm))
    (result_of (idle_iff t) ((flush2_12 t).trans (last_iff t).symm)) (result_of (idle_iff t) ((flush2_13 t).trans (last_iff t).symm))

/-! ## The region -/

theorem enter : (Pipeline.scopedRest (Ix := HIx 2) (Name := ℕ) (U := UU) (Lvl := ℕ) (Val := Elt F) spec2 c : sProp 𝕄) ⊢ inv V c 0 := by
  rw [scopedRest2_split]
  exact enter_scratch c (held_whole c cc2_scratch0) (held_whole c cc2_scratch1) (held_whole c cc2_scratch2) (held_whole c cc2_scratch3) _ _

theorem leaveAll (n : ℕ) (hn : n ≠ 0) (hn' : n < 14) :
    (inv V c n : sProp 𝕄) ⊢ Pipeline.scopedRest (Ix := HIx 2) (Name := ℕ) (U := UU) (Lvl := ℕ) (Val := Elt F) spec2 c := by
  rw [scopedRest2_split]
  exact leave_scratch c (held_whole c cc2_scratch0) (held_whole c cc2_scratch1) (held_whole c cc2_scratch2) (held_whole c cc2_scratch3) n hn hn' _ _

/-- The buffers after the call: its four results at the states after 48 steps, the others as they were. -/
def after : Valuation τ sig (Elt F) := Pipeline.withArrays spec2 c V fun w => (dat b V c).arrAt w cfg2.N

theorem after_arr (w : Fin cfg2.W) : after b V c (Pipeline.arrRef spec2 w) = (dat b V c).arrAt w cfg2.N :=
  (dat b V c).withArrays_arrAt sharedIn2 V (fun _ => rfl) w

theorem after_of_ne (r : Ref sig .tc) (hr : ∀ w, Pipeline.arrRef spec2 w ≠ r) : after b V c r = V r :=
  Pipeline.withArrays_of_ne spec2 c V _ r hr

theorem after_in (w : Fin cfg2.W) (hw : (cfg2.win w).isOut = false) : after b V c (Pipeline.arrRef spec2 w) = V (Pipeline.arrRef spec2 w) :=
  (after_arr b V c w).trans ((dat b V c).arrAt_in w hw _)

theorem after_hf : after b V c main_v38_0 = (sF V 48).h := (after_arr b V c 10).trans (by
  refine (dat b V c).arrAt_eq_of_after_last 10 t2_5 (by decide +kernel) _ fun j => ?_
  rfl)
theorem after_cf : after b V c main_v38_1 = (sF V 48).c := (after_arr b V c 11).trans (by
  refine (dat b V c).arrAt_eq_of_after_last 11 t2_5 (by decide +kernel) _ fun j => ?_
  rfl)
theorem after_hb : after b V c main_v38_2 = (sB V 48).h := (after_arr b V c 12).trans (by
  refine (dat b V c).arrAt_eq_of_after_last 12 t2_5 (by decide +kernel) _ fun j => ?_
  rfl)
theorem after_cb : after b V c main_v38_3 = (sB V 48).c := (after_arr b V c 13).trans (by
  refine (dat b V c).arrAt_eq_of_after_last 13 t2_5 (by decide +kernel) _ fun j => ?_
  rfl)

/-- The proof data of the three pipelines while this one runs. -/
def pdats (W : Dev nD → Valuation τ sig (Elt F)) : (p : Fin 3) → (c : Dev nD) → Dat τ (Elt F) (HIx 2) ℕ UU ℕ (Pipeline.pin (pcfgs (F := F)) adm p) c
  | ⟨0, _⟩ => fun c => dat b (W c) c
  | ⟨1, _⟩ => fun c => junk c
  | ⟨2, _⟩ => fun c => junk c

theorem noTable (c : Dev nD) : (BI.emp : sProp 𝕄) ⊢ Pipeline.prefHeld (pcfgs (F := F) 0).pre c (fun _ => fullShare) (adm (F := F) 0).1 := by
  unfold Pipeline.prefHeld
  rw [show (Finset.univ : Finset (Fin (pcfgs (F := F) 0).pre.K)) = ∅ from rfl, BI.bigSep_empty]

set_option backward.isDefEq.respectTransparency.types false in
/-- The call, from the core's buffers at `W c` to the buffers at `after`. -/
def seg (W : Dev nD → Valuation τ sig (Elt F)) (L : GSem nD τ sig → Finset (HIx 2)) (lv : GSem nD τ sig → HIx 2 → ℕ) :
    Pipeline.RegionSeg (pcfgs (F := F)) adm (pdats b W) none defs₀ 𝒱₀ L lv 0 :=
  region b 0 (pdats b W) winFacts₀2 sharedIn2 block_pos2 arr_whole2 stage_whole2
    (noTable)
    W (fun c => after b (W c) c) (fun _ _ _ => rfl) (fun _ _ => rfl) (fun c w => (after_arr b (W c) c w).symm)
    (fun c r hr => after_of_ne b (W c) c r fun w e => hr (e ▸ Finset.mem_image.mpr ⟨w, Finset.mem_univ _, rfl⟩))
    (fun c => (body_obligation b (W c) c).loose) (fun _ _ => rfl) (fun _ _ => rfl)
    (fun c => enter (W c) c) (fun c => leaveAll (W c) c (Fin.last cfg2.N).val (by rw [Fin.val_last]; show grid2.N ≠ 0; rw [N_2]; decide) (by rw [Fin.val_last]; show grid2.N < 14; rw [N_2]; decide)) L lv

end Cert.Proof.Region2
-- ==== Proof.Region3.lean ====
/- The second TensorCore call: thirteen grid points of eight steps each over the array gathered second, both
   directions going on from the states the first call left. -/
module

public import proofs.«01_k».proof.Proof.RegionPoint
public import Idealize.ShloMosaic.Lib.Pipeline.FrameSuffix
public import Idealize.ShloMosaic.Lib.Pipeline.ValueKit

@[expose] public section

noncomputable section

namespace Cert.Proof.Region3

open Cert.KernelIdeal Cert.KernelIdeal.Gen Cert.Proof.Stage Cert.Proof

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ Cert.KernelIdeal.sig (HIx 2) (Elt F) ℕ UU ℕ

variable (b : ℕ) (V : Valuation τ sig (Elt F))

/-! ## What the call computes -/

/-- The gathered time steps the call reads. -/
abbrev X : Shape.Idx ⟨3, ![104, 1024, 128]⟩ → Elt F .f32 := V main_v11
/-- The forward weights. -/
abbrev wf : Wts F := ⟨V main_v22, V main_v26⟩
/-- The backward weights. -/
abbrev wb : Wts F := ⟨V main_v32, V main_v36⟩
/-- The states the two directions start from. -/
abbrev f0 : St F := ⟨V main_v38_0, V main_v38_1⟩
abbrev b0 : St F := ⟨V main_v38_2, V main_v38_3⟩
/-- The states after `n` steps. -/
def sF (n : Nat) : St F := (f0 V).run (wf V) (fun k => slab (X V) k) n
def sB (n : Nat) : St F := (b0 V).run (wb V) (fun k => slab (X V) (103 - k)) n

/-- The block each of the windows reads at a point. -/
abbrev blkF (t : Fin cfg3.N) : S8x1024x128.Idx → Elt F .f32 := ((cfg3.win 0).blk t).view.read (Elt F) (V main_v11)
abbrev blkB (t : Fin cfg3.N) : S8x1024x128.Idx → Elt F .f32 := ((cfg3.win 1).blk t).view.read (Elt F) (V main_v11)

theorem coords_val (t : Fin grid3.N) : (grid3.coords t 0).val = t.val := by
  revert t; decide +kernel

theorem idxF (t : Fin grid3.N) : cc3_transform_0 (grid3.coords t) = ![t.val, 0, 0] := by
  revert t; decide +kernel

theorem idxB (t : Fin grid3.N) : cc3_transform_1 (grid3.coords t) = ![12 - t.val, 0, 0] := by
  revert t; decide +kernel

theorem blkF_eq (t : Fin cfg3.N) : blkF V t = chunk (X V) t.val :=
  have ht : t.val < 13 := lt_of_lt_of_eq t.isLt N_3
  funext fun j => congrArg (V main_v11) (chunk_idx _ j (idxF t) (by omega) fun _ => rfl)

theorem blkB_eq (t : Fin cfg3.N) : blkB V t = chunk (X V) (12 - t.val) :=
  have ht : t.val < 13 := lt_of_lt_of_eq t.isLt N_3
  funext fun j => congrArg (V main_v11) (chunk_idx _ j (idxB t) (by omega) fun _ => rfl)

theorem stepF (t : Fin cfg3.N) : (sF V (8 * t.val)).run (wf V) (upRows (blkF V t)) 8 = sF V (8 * (t.val + 1)) := by
  rw [blkF_eq]
  exact run_up (wf V) (X V) _ (f0 V) t.val t.val fun k hk => rfl

theorem stepB (t : Fin cfg3.N) : (sB V (8 * t.val)).run (wb V) (downRows (blkB V t)) 8 = sB V (8 * (t.val + 1)) := by
  have ht : t.val < 13 := lt_of_lt_of_eq t.isLt N_3
  rw [blkB_eq]
  exact run_down (wb V) (X V) _ (b0 V) t.val (12 - t.val) fun k hk => by
    show slab (X V) (103 - (8 * t.val + k)) = _
    congr 1; omega

/-! ## The proof data -/

abbrev bufXF : Memref sig .tc .vmem S1024x256 .bf16 := Memref.whole cc3_scratch0
abbrev bufCF : Memref sig .tc .vmem S1024x128 .f32 := Memref.whole cc3_scratch1
abbrev bufXB : Memref sig .tc .vmem S1024x256 .bf16 := Memref.whole cc3_scratch2
abbrev bufCB : Memref sig .tc .vmem S1024x128 .f32 := Memref.whole cc3_scratch3

/-- The scoped buffers the call has nothing to do with. -/
abbrev other (c : Dev nD) : sProp (MT nD τ Cert.KernelIdeal.sig (HIx 2) (Elt F) ℕ UU ℕ) :=
  Pipeline.scopedRestBut (Ix := HIx 2) (Name := ℕ) (U := UU) (Lvl := ℕ) (Val := Elt F) spec3 c [cc3_scratch0, cc3_scratch1, cc3_scratch2, cc3_scratch3]

/-- Before point `n`: both directions' scratch at the state `8 n` steps on, at anything before the first. -/
def inv (c : Dev nD) (n : ℕ) : sProp (MT nD τ Cert.KernelIdeal.sig (HIx 2) (Elt F) ℕ UU ℕ) :=
  iprop(before c bufXF bufCF n (sF V (8 * n)) ∗ before c bufXB bufCB n (sB V (8 * n)) ∗ other c)

def dat (c : Dev nD) : Dat τ (Elt F) (HIx 2) ℕ UU ℕ cfg3 c where
  A w := V (Pipeline.arrRef spec3 w)
  after w t := match w with
    | ⟨0, _⟩ => ((cfg3.win 0).blk t).view.read (Elt F) (V main_v11)
    | ⟨1, _⟩ => ((cfg3.win 1).blk t).view.read (Elt F) (V main_v11)
    | ⟨2, _⟩ => ((cfg3.win 2).blk t).view.read (Elt F) (V main_v22)
    | ⟨3, _⟩ => ((cfg3.win 3).blk t).view.read (Elt F) (V main_v26)
    | ⟨4, _⟩ => ((cfg3.win 4).blk t).view.read (Elt F) (V main_v32)
    | ⟨5, _⟩ => ((cfg3.win 5).blk t).view.read (Elt F) (V main_v36)
    | ⟨6, _⟩ => ((cfg3.win 6).blk t).view.read (Elt F) (V main_v38_0)
    | ⟨7, _⟩ => ((cfg3.win 7).blk t).view.read (Elt F) (V main_v38_1)
    | ⟨8, _⟩ => ((cfg3.win 8).blk t).view.read (Elt F) (V main_v38_2)
    | ⟨9, _⟩ => ((cfg3.win 9).blk t).view.read (Elt F) (V main_v38_3)
    | ⟨10, _⟩ => (sF V (8 * (t.val + 1))).h
    | ⟨11, _⟩ => (sF V (8 * (t.val + 1))).c
    | ⟨12, _⟩ => (sB V (8 * (t.val + 1))).h
    | ⟨13, _⟩ => (sB V (8 * (t.val + 1))).c
  Φ t := inv V c t.val
  q w := Pipeline.shareOf spec3 w
  owed _ := 0
  recorded _ := recs (F := F) b c

/-! ## What the windows hold when the body runs -/

variable (c : Dev nD) (t : Fin cfg3.N)

theorem before0 (d) : (dat b V c).before 0 t d = blkF V t :=
  (dat b V c).before_in_eq_fetched 0 rfl (fun _ => rfl) (fun _ _ _ => rfl) (fun _ => rfl) t d
theorem before1 (d) : (dat b V c).before 1 t d = blkB V t :=
  (dat b V c).before_in_eq_fetched 1 rfl (fun _ => rfl) (fun _ _ _ => rfl) (fun _ => rfl) t d

/-- A window over a whole array reads the array. -/
theorem whole2 : ((cfg3.win 2).blk t).view.read (Elt F) (V main_v22) = (V main_v22 : S256x512.Idx → Elt F .bf16) :=
  funext fun j => congrArg (V main_v22) (whole_idx _ j rfl rfl)
theorem whole3 : ((cfg3.win 3).blk t).view.read (Elt F) (V main_v26) = (V main_v26 : S1x512.Idx → Elt F .bf16) :=
  funext fun j => congrArg (V main_v26) (whole_idx _ j rfl rfl)
theorem whole4 : ((cfg3.win 4).blk t).view.read (Elt F) (V main_v32) = (V main_v32 : S256x512.Idx → Elt F .bf16) :=
  funext fun j => congrArg (V main_v32) (whole_idx _ j rfl rfl)
theorem whole5 : ((cfg3.win 5).blk t).view.read (Elt F) (V main_v36) = (V main_v36 : S1x512.Idx → Elt F .bf16) :=
  funext fun j => congrArg (V main_v36) (whole_idx _ j rfl rfl)
theorem whole6 : ((cfg3.win 6).blk t).view.read (Elt F) (V main_v38_0) = (V main_v38_0 : S1024x128.Idx → Elt F .f32) :=
  funext fun j => congrArg (V main_v38_0) (whole_idx _ j rfl rfl)
theorem whole7 : ((cfg3.win 7).blk t).view.read (Elt F) (V main_v38_1) = (V main_v38_1 : S1024x128.Idx → Elt F .f32) :=
  funext fun j => congrArg (V main_v38_1) (whole_idx _ j rfl rfl)
theorem whole8 : ((cfg3.win 8).blk t).view.read (Elt F) (V main_v38_2) = (V main_v38_2 : S1024x128.Idx → Elt F .f32) :=
  funext fun j => congrArg (V main_v38_2) (whole_idx _ j rfl rfl)
theorem whole9 : ((cfg3.win 9).blk t).view.read (Elt F) (V main_v38_3) = (V main_v38_3 : S1024x128.Idx → Elt F .f32) :=
  funext fun j => congrArg (V main_v38_3) (whole_idx _ j rfl rfl)

theorem before2 (d) : (dat b V c).before 2 t d = V main_v22 :=
  ((dat b V c).before_in_eq_fetched 2 rfl (fun _ => rfl) (fun _ _ _ => rfl) (fun _ => rfl) t d).trans (whole2 V t)
theorem before3 (d) : (dat b V c).before 3 t d = V main_v26 :=
  ((dat b V c).before_in_eq_fetched 3 rfl (fun _ => rfl) (fun _ _ _ => rfl) (fun _ => rfl) t d).trans (whole3 V t)
theorem before4 (d) : (dat b V c).before 4 t d = V main_v32 :=
  ((dat b V c).before_in_eq_fetched 4 rfl (fun _ => rfl) (fun _ _ _ => rfl) (fun _ => rfl) t d).trans (whole4 V t)
theorem before5 (d) : (dat b V c).before 5 t d = V main_v36 :=
  ((dat b V c).before_in_eq_fetched 5 rfl (fun _ => rfl) (fun _ _ _ => rfl) (fun _ => rfl) t d).trans (whole5 V t)
theorem before6 (d) : (dat b V c).before 6 t d = V main_v38_0 :=
  ((dat b V c).before_in_eq_fetched 6 rfl (fun _ => rfl) (fun _ _ _ => rfl) (fun _ => rfl) t d).trans (whole6 V t)
theorem before7 (d) : (dat b V c).before 7 t d = V main_v38_1 :=
  ((dat b V c).before_in_eq_fetched 7 rfl (fun _ => rfl) (fun _ _ _ => rfl) (fun _ => rfl) t d).trans (whole7 V t)
theorem before8 (d) : (dat b V c).before 8 t d = V main_v38_2 :=
  ((dat b V c).before_in_eq_fetched 8 rfl (fun _ => rfl) (fun _ _ _ => rfl) (fun _ => rfl) t d).trans (whole8 V t)
theorem before9 (d) : (dat b V c).before 9 t d = V main_v38_3 :=
  ((dat b V c).before_in_eq_fetched 9 rfl (fun _ => rfl) (fun _ _ _ => rfl) (fun _ => rfl) t d).trans (whole9 V t)

/-! ## The body at a point -/

/-- The buffers the body is called with at a point. -/
def bufs : Bufs where
  xf := st3_0 t
  xb := st3_1 t
  Wf := st3_2 t
  bf := st3_3 t
  Wb := st3_4 t
  bb := st3_5 t
  hf := st3_6 t
  cf := st3_7 t
  hb := st3_8 t
  cb := st3_9 t
  hf' := st3_10 t
  cf' := st3_11 t
  hb' := st3_12 t
  cb' := st3_13 t
  xhf := bufXF
  hxhf := Memref.isWhole_whole _
  csf := bufCF
  xhb := bufXB
  hxhb := Memref.isWhole_whole _
  csb := bufCB

theorem bodyAt_eq : (bodyAt3 t : Prog (TpuEff nD τ sig (Elt F) Λ₀ .tc) PUnit) = point (bufs t) t.val (k3_cond2 (grid3.coords t) = 1#1) := by
  have h := body3 (F := F) (grid3.coords t) (bufs t) (hstage3_0 ((cfg3.slots t 0).cast nbuf3_0)) (hstage3_1 ((cfg3.slots t 1).cast nbuf3_1))
    (hstage3_2 ((cfg3.slots t 2).cast nbuf3_2)) (hstage3_3 ((cfg3.slots t 3).cast nbuf3_3)) (hstage3_4 ((cfg3.slots t 4).cast nbuf3_4))
    (hstage3_5 ((cfg3.slots t 5).cast nbuf3_5)) (hstage3_6 ((cfg3.slots t 6).cast nbuf3_6)) (hstage3_7 ((cfg3.slots t 7).cast nbuf3_7))
    (hstage3_8 ((cfg3.slots t 8).cast nbuf3_8)) (hstage3_9 ((cfg3.slots t 9).cast nbuf3_9)) (hstage3_10 ((cfg3.slots t 10).cast nbuf3_10))
    (hstage3_11 ((cfg3.slots t 11).cast nbuf3_11)) (hstage3_12 ((cfg3.slots t 12).cast nbuf3_12)) (hstage3_13 ((cfg3.slots t 13).cast nbuf3_13))
    (Memref.isWhole_whole _) (Memref.isWhole_whole _)
  rw [coords_val] at h
  exact h

theorem last_iff (t : Fin grid3.N) : k3_cond2 (grid3.coords t) = 1#1 ↔ t.val % 13 = 12 := by
  revert t; decide +kernel

theorem idle_iff (t : Fin grid3.N) : (!(k3_cond2 (grid3.coords t) == 1#1)) = true ↔ ¬k3_cond2 (grid3.coords t) = 1#1 := by
  rw [Bool.not_eq_true', beq_eq_false_iff_ne]

/-- The body at a point: the blocks and weights as they were, the state eight steps on. -/
theorem body_obligation : BodyObligation (dat b V c) (defs₀ (F := F)) 𝒱₀ none Set.univ := fun t => by
  have ht : t.val < 13 := lt_of_lt_of_eq t.isLt N_3
  rw [bigSep_W3, bigSep_W3]
  change iprop(inv V c t.val ∗ _ ∗ _) ⊢ wp frame _ _ (bodyAt3 t : Prog (TpuEff nD τ sig (Elt F) Λ₀ .tc) PUnit) fun _ => iprop(inv V c (t.val + 1) ∗ (dat b V c).owesAt none t.castSucc ∗ _)
  rw [bodyAt_eq]
  unfold inv
  exact point_windows c (bufs t) t.val (by omega) (k3_cond2 (grid3.coords t) = 1#1) (s0f := f0 V) (s0b := b0 V) (fun h => by rw [h]; rfl) (fun h => by rw [h]; rfl)
    (stepF V t) (stepB V t)
    (kept_of (before0 b V c t) rfl) (kept_of (before1 b V c t) rfl) (kept_of (before2 b V c t) (whole2 V t)) (kept_of (before3 b V c t) (whole3 V t))
    (kept_of (before4 b V c t) (whole4 V t)) (kept_of (before5 b V c t) (whole5 V t)) (kept_of (before6 b V c t) (whole6 V t)) (kept_of (before7 b V c t) (whole7 V t))
    (kept_of (before8 b V c t) (whole8 V t)) (kept_of (before9 b V c t) (whole9 V t))
    (result_of (idle_iff t) ((flush3_10 t).trans (last_iff t).symm)) (result_of (idle_iff t) ((flush3_11 t).trans (last_iff t).symm))
    (result_of (idle_iff t) ((flush3_12 t).trans (last_iff t).symm)) (result_of (idle_iff t) ((flush3_13 t).trans (last_iff t).symm))

/-! ## The region -/

theorem enter : (Pipeline.scopedRest (Ix := HIx 2) (Name := ℕ) (U := UU) (Lvl := ℕ) (Val := Elt F) spec3 c : sProp 𝕄) ⊢ inv V c 0 := by
  rw [scopedRest3_split]
  exact enter_scratch c (held_whole c cc3_scratch0) (held_whole c cc3_scratch1) (held_whole c cc3_scratch2) (held_whole c cc3_scratch3) _ _

theorem leaveAll (n : ℕ) (hn : n ≠ 0) (hn' : n < 14) :
    (inv V c n : sProp 𝕄) ⊢ Pipeline.scopedRest (Ix := HIx 2) (Name := ℕ) (U := UU) (Lvl := ℕ) (Val := Elt F) spec3 c := by
  rw [scopedRest3_split]
  exact leave_scratch c (held_whole c cc3_scratch0) (held_whole c cc3_scratch1) (held_whole c cc3_scratch2) (held_whole c cc3_scratch3) n hn hn' _ _

/-- The buffers after the call: its four results at the states after 104 steps, the others as they were. -/
def after : Valuation τ sig (Elt F) := Pipeline.withArrays spec3 c V fun w => (dat b V c).arrAt w cfg3.N

theorem after_arr (w : Fin cfg3.W) : after b V c (Pipeline.arrRef spec3 w) = (dat b V c).arrAt w cfg3.N :=
  (dat b V c).withArrays_arrAt sharedIn3 V (fun _ => rfl) w

theorem after_of_ne (r : Ref sig .tc) (hr : ∀ w, Pipeline.arrRef spec3 w ≠ r) : after b V c r = V r :=
  Pipeline.withArrays_of_ne spec3 c V _ r hr

theorem after_in (w : Fin cfg3.W) (hw : (cfg3.win w).isOut = false) : after b V c (Pipeline.arrRef spec3 w) = V (Pipeline.arrRef spec3 w) :=
  (after_arr b V c w).trans ((dat b V c).arrAt_in w hw _)

theorem after_hf : after b V c main_v39_0 = (sF V 104).h := (after_arr b V c 10).trans (by
  refine (dat b V c).arrAt_eq_of_after_last 10 t3_12 (by decide +kernel) _ fun j => ?_
  rfl)
theorem after_cf : after b V c main_v39_1 = (sF V 104).c := (after_arr b V c 11).trans (by
  refine (dat b V c).arrAt_eq_of_after_last 11 t3_12 (by decide +kernel) _ fun j => ?_
  rfl)
theorem after_hb : after b V c main_v39_2 = (sB V 104).h := (after_arr b V c 12).trans (by
  refine (dat b V c).arrAt_eq_of_after_last 12 t3_12 (by decide +kernel) _ fun j => ?_
  rfl)
theorem after_cb : after b V c main_v39_3 = (sB V 104).c := (after_arr b V c 13).trans (by
  refine (dat b V c).arrAt_eq_of_after_last 13 t3_12 (by decide +kernel) _ fun j => ?_
  rfl)

/-- The proof data of the three pipelines while this one runs. -/
def pdats (W : Dev nD → Valuation τ sig (Elt F)) : (p : Fin 3) → (c : Dev nD) → Dat τ (Elt F) (HIx 2) ℕ UU ℕ (Pipeline.pin (pcfgs (F := F)) adm p) c
  | ⟨0, _⟩ => fun c => junk c
  | ⟨1, _⟩ => fun c => dat b (W c) c
  | ⟨2, _⟩ => fun c => junk c

theorem noTable (c : Dev nD) : (BI.emp : sProp 𝕄) ⊢ Pipeline.prefHeld (pcfgs (F := F) 1).pre c (fun _ => fullShare) (adm (F := F) 1).1 := by
  unfold Pipeline.prefHeld
  rw [show (Finset.univ : Finset (Fin (pcfgs (F := F) 1).pre.K)) = ∅ from rfl, BI.bigSep_empty]

set_option backward.isDefEq.respectTransparency.types false in
/-- The call, from the core's buffers at `W c` to the buffers at `after`. -/
def seg (W : Dev nD → Valuation τ sig (Elt F)) (L : GSem nD τ sig → Finset (HIx 2)) (lv : GSem nD τ sig → HIx 2 → ℕ) :
    Pipeline.RegionSeg (pcfgs (F := F)) adm (pdats b W) none defs₀ 𝒱₀ L lv 1 :=
  region b 1 (pdats b W) winFacts₀3 sharedIn3 block_pos3 arr_whole3 stage_whole3
    (noTable)
    W (fun c => after b (W c) c) (fun _ _ _ => rfl) (fun _ _ => rfl) (fun c w => (after_arr b (W c) c w).symm)
    (fun c r hr => after_of_ne b (W c) c r fun w e => hr (e ▸ Finset.mem_image.mpr ⟨w, Finset.mem_univ _, rfl⟩))
    (fun c => (body_obligation b (W c) c).loose) (fun _ _ => rfl) (fun _ _ => rfl)
    (fun c => enter (W c) c) (fun c => leaveAll (W c) c (Fin.last cfg3.N).val (by rw [Fin.val_last]; show grid3.N ≠ 0; rw [N_3]; decide) (by rw [Fin.val_last]; show grid3.N < 14; rw [N_3]; decide)) L lv

end Cert.Proof.Region3
-- ==== Proof.Region4.lean ====
/- The third TensorCore call: six grid points of eight steps each, the forward direction over the second half of the
   array gathered first and the backward one over its first half, going on from the states the second call left. -/
module

public import proofs.«01_k».proof.Proof.RegionPoint
public import Idealize.ShloMosaic.Lib.Pipeline.FrameSuffix
public import Idealize.ShloMosaic.Lib.Pipeline.ValueKit

@[expose] public section

noncomputable section

namespace Cert.Proof.Region4

open Cert.KernelIdeal Cert.KernelIdeal.Gen Cert.Proof.Stage Cert.Proof

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ Cert.KernelIdeal.sig (HIx 2) (Elt F) ℕ UU ℕ

variable (b : ℕ) (V : Valuation τ sig (Elt F))

/-! ## What the call computes -/

/-- The gathered time steps the call reads. -/
abbrev X : Shape.Idx ⟨3, ![96, 1024, 128]⟩ → Elt F .f32 := V main_v8
/-- The forward weights. -/
abbrev wf : Wts F := ⟨V main_v22, V main_v26⟩
/-- The backward weights. -/
abbrev wb : Wts F := ⟨V main_v32, V main_v36⟩
/-- The states the two directions start from. -/
abbrev f0 : St F := ⟨V main_v39_0, V main_v39_1⟩
abbrev b0 : St F := ⟨V main_v39_2, V main_v39_3⟩
/-- The states after `n` steps. -/
def sF (n : Nat) : St F := (f0 V).run (wf V) (fun k => slab (X V) (48 + k)) n
def sB (n : Nat) : St F := (b0 V).run (wb V) (fun k => slab (X V) (47 - k)) n

/-- The block each of the windows reads at a point. -/
abbrev blkF (t : Fin cfg4.N) : S8x1024x128.Idx → Elt F .f32 := ((cfg4.win 0).blk t).view.read (Elt F) (V main_v8)
abbrev blkB (t : Fin cfg4.N) : S8x1024x128.Idx → Elt F .f32 := ((cfg4.win 1).blk t).view.read (Elt F) (V main_v8)

theorem coords_val (t : Fin grid4.N) : (grid4.coords t 0).val = t.val := by
  revert t; decide +kernel

theorem idxF (t : Fin grid4.N) : cc4_transform_0 (grid4.coords t) = ![6 + t.val, 0, 0] := by
  revert t; decide +kernel

theorem idxB (t : Fin grid4.N) : cc4_transform_1 (grid4.coords t) = ![5 - t.val, 0, 0] := by
  revert t; decide +kernel

theorem blkF_eq (t : Fin cfg4.N) : blkF V t = chunk (X V) (6 + t.val) :=
  have ht : t.val < 6 := lt_of_lt_of_eq t.isLt N_4
  funext fun j => congrArg (V main_v8) (chunk_idx _ j (idxF t) (by omega) fun _ => rfl)

theorem blkB_eq (t : Fin cfg4.N) : blkB V t = chunk (X V) (5 - t.val) :=
  have ht : t.val < 6 := lt_of_lt_of_eq t.isLt N_4
  funext fun j => congrArg (V main_v8) (chunk_idx _ j (idxB t) (by omega) fun _ => rfl)

theorem stepF (t : Fin cfg4.N) : (sF V (8 * t.val)).run (wf V) (upRows (blkF V t)) 8 = sF V (8 * (t.val + 1)) := by
  rw [blkF_eq]
  exact run_up (wf V) (X V) _ (f0 V) t.val (6 + t.val) fun k hk => by
    show slab (X V) (48 + (8 * t.val + k)) = _
    congr 1; omega

theorem stepB (t : Fin cfg4.N) : (sB V (8 * t.val)).run (wb V) (downRows (blkB V t)) 8 = sB V (8 * (t.val + 1)) := by
  have ht : t.val < 6 := lt_of_lt_of_eq t.isLt N_4
  rw [blkB_eq]
  exact run_down (wb V) (X V) _ (b0 V) t.val (5 - t.val) fun k hk => by
    show slab (X V) (47 - (8 * t.val + k)) = _
    congr 1; omega

/-! ## The proof data -/

abbrev bufXF : Memref sig .tc .vmem S1024x256 .bf16 := Memref.whole cc4_scratch0
abbrev bufCF : Memref sig .tc .vmem S1024x128 .f32 := Memref.whole cc4_scratch1
abbrev bufXB : Memref sig .tc .vmem S1024x256 .bf16 := Memref.whole cc4_scratch2
abbrev bufCB : Memref sig .tc .vmem S1024x128 .f32 := Memref.whole cc4_scratch3

/-- The scoped buffers the call has nothing to do with. -/
abbrev other (c : Dev nD) : sProp (MT nD τ Cert.KernelIdeal.sig (HIx 2) (Elt F) ℕ UU ℕ) :=
  Pipeline.scopedRestBut (Ix := HIx 2) (Name := ℕ) (U := UU) (Lvl := ℕ) (Val := Elt F) spec4 c [cc4_scratch0, cc4_scratch1, cc4_scratch2, cc4_scratch3]

/-- Before point `n`: both directions' scratch at the state `8 n` steps on, at anything before the first. -/
def inv (c : Dev nD) (n : ℕ) : sProp (MT nD τ Cert.KernelIdeal.sig (HIx 2) (Elt F) ℕ UU ℕ) :=
  iprop(before c bufXF bufCF n (sF V (8 * n)) ∗ before c bufXB bufCB n (sB V (8 * n)) ∗ other c)

def dat (c : Dev nD) : Dat τ (Elt F) (HIx 2) ℕ UU ℕ cfg4 c where
  A w := V (Pipeline.arrRef spec4 w)
  after w t := match w with
    | ⟨0, _⟩ => ((cfg4.win 0).blk t).view.read (Elt F) (V main_v8)
    | ⟨1, _⟩ => ((cfg4.win 1).blk t).view.read (Elt F) (V main_v8)
    | ⟨2, _⟩ => ((cfg4.win 2).blk t).view.read (Elt F) (V main_v22)
    | ⟨3, _⟩ => ((cfg4.win 3).blk t).view.read (Elt F) (V main_v26)
    | ⟨4, _⟩ => ((cfg4.win 4).blk t).view.read (Elt F) (V main_v32)
    | ⟨5, _⟩ => ((cfg4.win 5).blk t).view.read (Elt F) (V main_v36)
    | ⟨6, _⟩ => ((cfg4.win 6).blk t).view.read (Elt F) (V main_v39_0)
    | ⟨7, _⟩ => ((cfg4.win 7).blk t).view.read (Elt F) (V main_v39_1)
    | ⟨8, _⟩ => ((cfg4.win 8).blk t).view.read (Elt F) (V main_v39_2)
    | ⟨9, _⟩ => ((cfg4.win 9).blk t).view.read (Elt F) (V main_v39_3)
    | ⟨10, _⟩ => (sF V (8 * (t.val + 1))).h
    | ⟨11, _⟩ => (sF V (8 * (t.val + 1))).c
    | ⟨12, _⟩ => (sB V (8 * (t.val + 1))).h
    | ⟨13, _⟩ => (sB V (8 * (t.val + 1))).c
  Φ t := inv V c t.val
  q w := Pipeline.shareOf spec4 w
  owed _ := 0
  recorded _ := recs (F := F) b c

/-! ## What the windows hold when the body runs -/

variable (c : Dev nD) (t : Fin cfg4.N)

theorem before0 (d) : (dat b V c).before 0 t d = blkF V t :=
  (dat b V c).before_in_eq_fetched 0 rfl (fun _ => rfl) (fun _ _ _ => rfl) (fun _ => rfl) t d
theorem before1 (d) : (dat b V c).before 1 t d = blkB V t :=
  (dat b V c).before_in_eq_fetched 1 rfl (fun _ => rfl) (fun _ _ _ => rfl) (fun _ => rfl) t d

/-- A window over a whole array reads the array. -/
theorem whole2 : ((cfg4.win 2).blk t).view.read (Elt F) (V main_v22) = (V main_v22 : S256x512.Idx → Elt F .bf16) :=
  funext fun j => congrArg (V main_v22) (whole_idx _ j rfl rfl)
theorem whole3 : ((cfg4.win 3).blk t).view.read (Elt F) (V main_v26) = (V main_v26 : S1x512.Idx → Elt F .bf16) :=
  funext fun j => congrArg (V main_v26) (whole_idx _ j rfl rfl)
theorem whole4 : ((cfg4.win 4).blk t).view.read (Elt F) (V main_v32) = (V main_v32 : S256x512.Idx → Elt F .bf16) :=
  funext fun j => congrArg (V main_v32) (whole_idx _ j rfl rfl)
theorem whole5 : ((cfg4.win 5).blk t).view.read (Elt F) (V main_v36) = (V main_v36 : S1x512.Idx → Elt F .bf16) :=
  funext fun j => congrArg (V main_v36) (whole_idx _ j rfl rfl)
theorem whole6 : ((cfg4.win 6).blk t).view.read (Elt F) (V main_v39_0) = (V main_v39_0 : S1024x128.Idx → Elt F .f32) :=
  funext fun j => congrArg (V main_v39_0) (whole_idx _ j rfl rfl)
theorem whole7 : ((cfg4.win 7).blk t).view.read (Elt F) (V main_v39_1) = (V main_v39_1 : S1024x128.Idx → Elt F .f32) :=
  funext fun j => congrArg (V main_v39_1) (whole_idx _ j rfl rfl)
theorem whole8 : ((cfg4.win 8).blk t).view.read (Elt F) (V main_v39_2) = (V main_v39_2 : S1024x128.Idx → Elt F .f32) :=
  funext fun j => congrArg (V main_v39_2) (whole_idx _ j rfl rfl)
theorem whole9 : ((cfg4.win 9).blk t).view.read (Elt F) (V main_v39_3) = (V main_v39_3 : S1024x128.Idx → Elt F .f32) :=
  funext fun j => congrArg (V main_v39_3) (whole_idx _ j rfl rfl)

theorem before2 (d) : (dat b V c).before 2 t d = V main_v22 :=
  ((dat b V c).before_in_eq_fetched 2 rfl (fun _ => rfl) (fun _ _ _ => rfl) (fun _ => rfl) t d).trans (whole2 V t)
theorem before3 (d) : (dat b V c).before 3 t d = V main_v26 :=
  ((dat b V c).before_in_eq_fetched 3 rfl (fun _ => rfl) (fun _ _ _ => rfl) (fun _ => rfl) t d).trans (whole3 V t)
theorem before4 (d) : (dat b V c).before 4 t d = V main_v32 :=
  ((dat b V c).before_in_eq_fetched 4 rfl (fun _ => rfl) (fun _ _ _ => rfl) (fun _ => rfl) t d).trans (whole4 V t)
theorem before5 (d) : (dat b V c).before 5 t d = V main_v36 :=
  ((dat b V c).before_in_eq_fetched 5 rfl (fun _ => rfl) (fun _ _ _ => rfl) (fun _ => rfl) t d).trans (whole5 V t)
theorem before6 (d) : (dat b V c).before 6 t d = V main_v39_0 :=
  ((dat b V c).before_in_eq_fetched 6 rfl (fun _ => rfl) (fun _ _ _ => rfl) (fun _ => rfl) t d).trans (whole6 V t)
theorem before7 (d) : (dat b V c).before 7 t d = V main_v39_1 :=
  ((dat b V c).before_in_eq_fetched 7 rfl (fun _ => rfl) (fun _ _ _ => rfl) (fun _ => rfl) t d).trans (whole7 V t)
theorem before8 (d) : (dat b V c).before 8 t d = V main_v39_2 :=
  ((dat b V c).before_in_eq_fetched 8 rfl (fun _ => rfl) (fun _ _ _ => rfl) (fun _ => rfl) t d).trans (whole8 V t)
theorem before9 (d) : (dat b V c).before 9 t d = V main_v39_3 :=
  ((dat b V c).before_in_eq_fetched 9 rfl (fun _ => rfl) (fun _ _ _ => rfl) (fun _ => rfl) t d).trans (whole9 V t)

/-! ## The body at a point -/

/-- The buffers the body is called with at a point. -/
def bufs : Bufs where
  xf := st4_0 t
  xb := st4_1 t
  Wf := st4_2 t
  bf := st4_3 t
  Wb := st4_4 t
  bb := st4_5 t
  hf := st4_6 t
  cf := st4_7 t
  hb := st4_8 t
  cb := st4_9 t
  hf' := st4_10 t
  cf' := st4_11 t
  hb' := st4_12 t
  cb' := st4_13 t
  xhf := bufXF
  hxhf := Memref.isWhole_whole _
  csf := bufCF
  xhb := bufXB
  hxhb := Memref.isWhole_whole _
  csb := bufCB

theorem bodyAt_eq : (bodyAt4 t : Prog (TpuEff nD τ sig (Elt F) Λ₀ .tc) PUnit) = point (bufs t) t.val (k4_cond2 (grid4.coords t) = 1#1) := by
  have h := body4 (F := F) (grid4.coords t) (bufs t) (hstage4_0 ((cfg4.slots t 0).cast nbuf4_0)) (hstage4_1 ((cfg4.slots t 1).cast nbuf4_1))
    (hstage4_2 ((cfg4.slots t 2).cast nbuf4_2)) (hstage4_3 ((cfg4.slots t 3).cast nbuf4_3)) (hstage4_4 ((cfg4.slots t 4).cast nbuf4_4))
    (hstage4_5 ((cfg4.slots t 5).cast nbuf4_5)) (hstage4_6 ((cfg4.slots t 6).cast nbuf4_6)) (hstage4_7 ((cfg4.slots t 7).cast nbuf4_7))
    (hstage4_8 ((cfg4.slots t 8).cast nbuf4_8)) (hstage4_9 ((cfg4.slots t 9).cast nbuf4_9)) (hstage4_10 ((cfg4.slots t 10).cast nbuf4_10))
    (hstage4_11 ((cfg4.slots t 11).cast nbuf4_11)) (hstage4_12 ((cfg4.slots t 12).cast nbuf4_12)) (hstage4_13 ((cfg4.slots t 13).cast nbuf4_13))
    (Memref.isWhole_whole _) (Memref.isWhole_whole _)
  rw [coords_val] at h
  exact h

theorem last_iff (t : Fin grid4.N) : k4_cond2 (grid4.coords t) = 1#1 ↔ t.val % 6 = 5 := by
  revert t; decide +kernel

theorem idle_iff (t : Fin grid4.N) : (!(k4_cond2 (grid4.coords t) == 1#1)) = true ↔ ¬k4_cond2 (grid4.coords t) = 1#1 := by
  rw [Bool.not_eq_true', beq_eq_false_iff_ne]

/-- The body at a point: the blocks and weights as they were, the state eight steps on. -/
theorem body_obligation : BodyObligation (dat b V c) (defs₀ (F := F)) 𝒱₀ none Set.univ := fun t => by
  have ht : t.val < 6 := lt_of_lt_of_eq t.isLt N_4
  rw [bigSep_W4, bigSep_W4]
  change iprop(inv V c t.val ∗ _ ∗ _) ⊢ wp frame _ _ (bodyAt4 t : Prog (TpuEff nD τ sig (Elt F) Λ₀ .tc) PUnit) fun _ => iprop(inv V c (t.val + 1) ∗ (dat b V c).owesAt none t.castSucc ∗ _)
  rw [bodyAt_eq]
  unfold inv
  exact point_windows c (bufs t) t.val (by omega) (k4_cond2 (grid4.coords t) = 1#1) (s0f := f0 V) (s0b := b0 V) (fun h => by rw [h]; rfl) (fun h => by rw [h]; rfl)
    (stepF V t) (stepB V t)
    (kept_of (before0 b V c t) rfl) (kept_of (before1 b V c t) rfl) (kept_of (before2 b V c t) (whole2 V t)) (kept_of (before3 b V c t) (whole3 V t))
    (kept_of (before4 b V c t) (whole4 V t)) (kept_of (before5 b V c t) (whole5 V t)) (kept_of (before6 b V c t) (whole6 V t)) (kept_of (before7 b V c t) (whole7 V t))
    (kept_of (before8 b V c t) (whole8 V t)) (kept_of (before9 b V c t) (whole9 V t))
    (result_of (idle_iff t) ((flush4_10 t).trans (last_iff t).symm)) (result_of (idle_iff t) ((flush4_11 t).trans (last_iff t).symm))
    (result_of (idle_iff t) ((flush4_12 t).trans (last_iff t).symm)) (result_of (idle_iff t) ((flush4_13 t).trans (last_iff t).symm))

/-! ## The region -/

theorem enter : (Pipeline.scopedRest (Ix := HIx 2) (Name := ℕ) (U := UU) (Lvl := ℕ) (Val := Elt F) spec4 c : sProp 𝕄) ⊢ inv V c 0 := by
  rw [scopedRest4_split]
  exact enter_scratch c (held_whole c cc4_scratch0) (held_whole c cc4_scratch1) (held_whole c cc4_scratch2) (held_whole c cc4_scratch3) _ _

theorem leaveAll (n : ℕ) (hn : n ≠ 0) (hn' : n < 14) :
    (inv V c n : sProp 𝕄) ⊢ Pipeline.scopedRest (Ix := HIx 2) (Name := ℕ) (U := UU) (Lvl := ℕ) (Val := Elt F) spec4 c := by
  rw [scopedRest4_split]
  exact leave_scratch c (held_whole c cc4_scratch0) (held_whole c cc4_scratch1) (held_whole c cc4_scratch2) (held_whole c cc4_scratch3) n hn hn' _ _

/-- The buffers after the call: its four results at the states after 48 steps, the others as they were. -/
def after : Valuation τ sig (Elt F) := Pipeline.withArrays spec4 c V fun w => (dat b V c).arrAt w cfg4.N

theorem after_arr (w : Fin cfg4.W) : after b V c (Pipeline.arrRef spec4 w) = (dat b V c).arrAt w cfg4.N :=
  (dat b V c).withArrays_arrAt sharedIn4 V (fun _ => rfl) w

theorem after_of_ne (r : Ref sig .tc) (hr : ∀ w, Pipeline.arrRef spec4 w ≠ r) : after b V c r = V r :=
  Pipeline.withArrays_of_ne spec4 c V _ r hr

theorem after_in (w : Fin cfg4.W) (hw : (cfg4.win w).isOut = false) : after b V c (Pipeline.arrRef spec4 w) = V (Pipeline.arrRef spec4 w) :=
  (after_arr b V c w).trans ((dat b V c).arrAt_in w hw _)

theorem after_hf : after b V c main_v40_0 = (sF V 48).h := (after_arr b V c 10).trans (by
  refine (dat b V c).arrAt_eq_of_after_last 10 t4_5 (by decide +kernel) _ fun j => ?_
  rfl)
theorem after_cf : after b V c main_v40_1 = (sF V 48).c := (after_arr b V c 11).trans (by
  refine (dat b V c).arrAt_eq_of_after_last 11 t4_5 (by decide +kernel) _ fun j => ?_
  rfl)
theorem after_hb : after b V c main_v40_2 = (sB V 48).h := (after_arr b V c 12).trans (by
  refine (dat b V c).arrAt_eq_of_after_last 12 t4_5 (by decide +kernel) _ fun j => ?_
  rfl)
theorem after_cb : after b V c main_v40_3 = (sB V 48).c := (after_arr b V c 13).trans (by
  refine (dat b V c).arrAt_eq_of_after_last 13 t4_5 (by decide +kernel) _ fun j => ?_
  rfl)

/-- The proof data of the three pipelines while this one runs. -/
def pdats (W : Dev nD → Valuation τ sig (Elt F)) : (p : Fin 3) → (c : Dev nD) → Dat τ (Elt F) (HIx 2) ℕ UU ℕ (Pipeline.pin (pcfgs (F := F)) adm p) c
  | ⟨0, _⟩ => fun c => junk c
  | ⟨1, _⟩ => fun c => junk c
  | ⟨2, _⟩ => fun c => dat b (W c) c

theorem noTable (c : Dev nD) : (BI.emp : sProp 𝕄) ⊢ Pipeline.prefHeld (pcfgs (F := F) 2).pre c (fun _ => fullShare) (adm (F := F) 2).1 := by
  unfold Pipeline.prefHeld
  rw [show (Finset.univ : Finset (Fin (pcfgs (F := F) 2).pre.K)) = ∅ from rfl, BI.bigSep_empty]

set_option backward.isDefEq.respectTransparency.types false in
/-- The call, from the core's buffers at `W c` to the buffers at `after`. -/
def seg (W : Dev nD → Valuation τ sig (Elt F)) (L : GSem nD τ sig → Finset (HIx 2)) (lv : GSem nD τ sig → HIx 2 → ℕ) :
    Pipeline.RegionSeg (pcfgs (F := F)) adm (pdats b W) none defs₀ 𝒱₀ L lv 2 :=
  region b 2 (pdats b W) winFacts₀4 sharedIn4 block_pos4 arr_whole4 stage_whole4
    (noTable)
    W (fun c => after b (W c) c) (fun _ _ _ => rfl) (fun _ _ => rfl) (fun c w => (after_arr b (W c) c w).symm)
    (fun c r hr => after_of_ne b (W c) c r fun w e => hr (e ▸ Finset.mem_image.mpr ⟨w, Finset.mem_univ _, rfl⟩))
    (fun c => (body_obligation b (W c) c).loose) (fun _ _ => rfl) (fun _ _ => rfl)
    (fun c => enter (W c) c) (fun c => leaveAll (W c) c (Fin.last cfg4.N).val (by rw [Fin.val_last]; show grid4.N ≠ 0; rw [N_4]; decide) (by rw [Fin.val_last]; show grid4.N < 14; rw [N_4]; decide)) L lv

end Cert.Proof.Region4
-- ==== Proof.Ops.lean ====
/- The host's part of the program: its operations between the calls, as four lists, and the buffers' contents after each
   list and each call. -/
module

public import proofs.«01_k».proof.Proof.Payload
public import proofs.«01_k».proof.Proof.Region2
public import proofs.«01_k».proof.Proof.Region3
public import proofs.«01_k».proof.Proof.Region4
public import Idealize.ShloMosaic.Lib.Pipeline.FrameSuffix

@[expose] public section

noncomputable section

namespace Cert.Proof

open Cert.KernelIdeal Cert.KernelIdeal.Gen
open Idealize.ShloMosaic Idealize.ShloMosaic.TcCoe
open Idealize.SL.Sem
open Idealize.ShloMosaic.StableHlo (after)

variable {F : FTy → Type} [FloatOps F]

/-- The host's operations before the first gather call: the first and last time steps' tokens, as one list for each subcore. -/
def askFirst : List (HloOp τ sig (Elt F)) :=
  [ StableHlo.unary main_arg0 main_v0 ((extractStridedSlice S48x1024 ![0, 0] · slices_S200x1024_S48x1024_0_0) : (⟨S200x1024, .i32⟩ : BufTy).Contents (Elt F) → (⟨S48x1024, .i32⟩ : BufTy).Contents (Elt F)),
    StableHlo.unary main_arg0 main_v1 ((extractStridedSlice S48x1024 ![152, 0] · slices_S200x1024_S48x1024_152_0) : (⟨S200x1024, .i32⟩ : BufTy).Contents (Elt F) → (⟨S48x1024, .i32⟩ : BufTy).Contents (Elt F)),
    StableHlo.binary main_v0 main_v1 main_v2 ((fun a b => concatenate S96x1024 0 [⟨S48x1024, a⟩, ⟨S48x1024, b⟩] concatenates_S48x1024_S48x1024_S96x1024_d0) : (⟨S48x1024, .i32⟩ : BufTy).Contents (Elt F) → (⟨S48x1024, .i32⟩ : BufTy).Contents (Elt F) → (⟨S96x1024, .i32⟩ : BufTy).Contents (Elt F)),
    StableHlo.reshape main_v2 main_v3 rfl shapeCasts_S96x1024_S98304,
    StableHlo.unary main_arg0 main_v4 ((extractStridedSlice S104x1024 ![48, 0] · slices_S200x1024_S104x1024_48_0) : (⟨S200x1024, .i32⟩ : BufTy).Contents (Elt F) → (⟨S104x1024, .i32⟩ : BufTy).Contents (Elt F)),
    StableHlo.reshape main_v4 main_v5 rfl shapeCasts_S104x1024_S106496,
    StableHlo.reshape main_v3 main_v6 rfl shapeCasts_S98304_S32x24x128 ]

/-- Between the gather calls: the first call's rows by time step, and the middle time steps' tokens as lists. -/
def askSecond : List (HloOp τ sig (Elt F)) :=
  [ StableHlo.reshape main_v7 main_v8 rfl shapeCasts_S98304x128_S96x1024x128,
    StableHlo.reshape main_v5 main_v9 rfl shapeCasts_S106496_S32x26x128 ]

/-- After the gather calls: the second call's rows by time step, and the weights and biases, scaled and joined. -/
def prepare : List (HloOp τ sig (Elt F)) :=
  [ StableHlo.reshape main_v10 main_v11 rfl shapeCasts_S106496x128_S104x1024x128,
    StableHlo.nullary main_cst (constant S_ .f32 0x3F000000#32),
    StableHlo.unary main_cst main_v12 (broadcastInDim S1x128 ![] bcast_S_S1x128 : (⟨S_, .f32⟩ : BufTy).Contents (Elt F) → (⟨S1x128, .f32⟩ : BufTy).Contents (Elt F)),
    StableHlo.nullary main_cst_0 (constant S_ .f32 0x3F000000#32),
    StableHlo.unary main_cst_0 main_v13 (broadcastInDim S1x128 ![] bcast_S_S1x128 : (⟨S_, .f32⟩ : BufTy).Contents (Elt F) → (⟨S1x128, .f32⟩ : BufTy).Contents (Elt F)),
    StableHlo.nullary main_cst_1 (constant S_ .f32 0x3F800000#32),
    StableHlo.unary main_cst_1 main_v14 (broadcastInDim S1x128 ![] bcast_S_S1x128 : (⟨S_, .f32⟩ : BufTy).Contents (Elt F) → (⟨S1x128, .f32⟩ : BufTy).Contents (Elt F)),
    StableHlo.nullary main_cst_2 (constant S_ .f32 0x3F000000#32),
    StableHlo.unary main_cst_2 main_v15 (broadcastInDim S1x128 ![] bcast_S_S1x128 : (⟨S_, .f32⟩ : BufTy).Contents (Elt F) → (⟨S1x128, .f32⟩ : BufTy).Contents (Elt F)),
    StableHlo.nary ![main_v12, main_v13, main_v14, main_v15] main_v16 (fun u => (concatenate S1x512 1 [⟨S1x128, (u 0 : (⟨S1x128, .f32⟩ : BufTy).Contents (Elt F))⟩, ⟨S1x128, (u 1 : (⟨S1x128, .f32⟩ : BufTy).Contents (Elt F))⟩, ⟨S1x128, (u 2 : (⟨S1x128, .f32⟩ : BufTy).Contents (Elt F))⟩, ⟨S1x128, (u 3 : (⟨S1x128, .f32⟩ : BufTy).Contents (Elt F))⟩] concatenates_S1x128_S1x128_S1x128_S1x128_S1x512_d1 : (⟨S1x512, .f32⟩ : BufTy).Contents (Elt F))),
    StableHlo.unary main_arg2 main_v17 ((transpose S128x512 [1, 0] · transposes_S512x128_S128x512_1_0) : (⟨S512x128, .f32⟩ : BufTy).Contents (Elt F) → (⟨S128x512, .f32⟩ : BufTy).Contents (Elt F)),
    StableHlo.unary main_arg3 main_v18 ((transpose S128x512 [1, 0] · transposes_S512x128_S128x512_1_0) : (⟨S512x128, .f32⟩ : BufTy).Contents (Elt F) → (⟨S128x512, .f32⟩ : BufTy).Contents (Elt F)),
    StableHlo.binary main_v17 main_v18 main_v19 ((fun a b => concatenate S256x512 0 [⟨S128x512, a⟩, ⟨S128x512, b⟩] concatenates_S128x512_S128x512_S256x512_d0) : (⟨S128x512, .f32⟩ : BufTy).Contents (Elt F) → (⟨S128x512, .f32⟩ : BufTy).Contents (Elt F) → (⟨S256x512, .f32⟩ : BufTy).Contents (Elt F)),
    StableHlo.unary main_v16 main_v20 (broadcastInDim S256x512 ![0, 1] bcast_S1x512_S256x512_0_1 : (⟨S1x512, .f32⟩ : BufTy).Contents (Elt F) → (⟨S256x512, .f32⟩ : BufTy).Contents (Elt F)),
    StableHlo.binary main_v19 main_v20 main_v21 (mulf : (⟨S256x512, .f32⟩ : BufTy).Contents (Elt F) → (⟨S256x512, .f32⟩ : BufTy).Contents (Elt F) → (⟨S256x512, .f32⟩ : BufTy).Contents (Elt F)),
    StableHlo.unary main_v21 main_v22 ((truncf .bf16 · bitsLt_bf16_f32) : (⟨S256x512, .f32⟩ : BufTy).Contents (Elt F) → (⟨S256x512, .bf16⟩ : BufTy).Contents (Elt F)),
    StableHlo.binary main_arg4 main_arg5 main_v23 (addf : (⟨S512, .f32⟩ : BufTy).Contents (Elt F) → (⟨S512, .f32⟩ : BufTy).Contents (Elt F) → (⟨S512, .f32⟩ : BufTy).Contents (Elt F)),
    StableHlo.reshape main_v23 main_v24 rfl shapeCasts_S512_S1x512,
    StableHlo.binary main_v24 main_v16 main_v25 (mulf : (⟨S1x512, .f32⟩ : BufTy).Contents (Elt F) → (⟨S1x512, .f32⟩ : BufTy).Contents (Elt F) → (⟨S1x512, .f32⟩ : BufTy).Contents (Elt F)),
    StableHlo.unary main_v25 main_v26 ((truncf .bf16 · bitsLt_bf16_f32) : (⟨S1x512, .f32⟩ : BufTy).Contents (Elt F) → (⟨S1x512, .bf16⟩ : BufTy).Contents (Elt F)),
    StableHlo.unary main_arg6 main_v27 ((transpose S128x512 [1, 0] · transposes_S512x128_S128x512_1_0) : (⟨S512x128, .f32⟩ : BufTy).Contents (Elt F) → (⟨S128x512, .f32⟩ : BufTy).Contents (Elt F)),
    StableHlo.unary main_arg7 main_v28 ((transpose S128x512 [1, 0] · transposes_S512x128_S128x512_1_0) : (⟨S512x128, .f32⟩ : BufTy).Contents (Elt F) → (⟨S128x512, .f32⟩ : BufTy).Contents (Elt F)),
    StableHlo.binary main_v27 main_v28 main_v29 ((fun a b => concatenate S256x512 0 [⟨S128x512, a⟩, ⟨S128x512, b⟩] concatenates_S128x512_S128x512_S256x512_d0) : (⟨S128x512, .f32⟩ : BufTy).Contents (Elt F) → (⟨S128x512, .f32⟩ : BufTy).Contents (Elt F) → (⟨S256x512, .f32⟩ : BufTy).Contents (Elt F)),
    StableHlo.unary main_v16 main_v30 (broadcastInDim S256x512 ![0, 1] bcast_S1x512_S256x512_0_1 : (⟨S1x512, .f32⟩ : BufTy).Contents (Elt F) → (⟨S256x512, .f32⟩ : BufTy).Contents (Elt F)),
    StableHlo.binary main_v29 main_v30 main_v31 (mulf : (⟨S256x512, .f32⟩ : BufTy).Contents (Elt F) → (⟨S256x512, .f32⟩ : BufTy).Contents (Elt F) → (⟨S256x512, .f32⟩ : BufTy).Contents (Elt F)),
    StableHlo.unary main_v31 main_v32 ((truncf .bf16 · bitsLt_bf16_f32) : (⟨S256x512, .f32⟩ : BufTy).Contents (Elt F) → (⟨S256x512, .bf16⟩ : BufTy).Contents (Elt F)),
    StableHlo.binary main_arg8 main_arg9 main_v33 (addf : (⟨S512, .f32⟩ : BufTy).Contents (Elt F) → (⟨S512, .f32⟩ : BufTy).Contents (Elt F) → (⟨S512, .f32⟩ : BufTy).Contents (Elt F)),
    StableHlo.reshape main_v33 main_v34 rfl shapeCasts_S512_S1x512,
    StableHlo.binary main_v34 main_v16 main_v35 (mulf : (⟨S1x512, .f32⟩ : BufTy).Contents (Elt F) → (⟨S1x512, .f32⟩ : BufTy).Contents (Elt F) → (⟨S1x512, .f32⟩ : BufTy).Contents (Elt F)),
    StableHlo.unary main_v35 main_v36 ((truncf .bf16 · bitsLt_bf16_f32) : (⟨S1x512, .f32⟩ : BufTy).Contents (Elt F) → (⟨S1x512, .bf16⟩ : BufTy).Contents (Elt F)),
    StableHlo.nullary main_cst_3 (constant S_ .f32 0x00000000#32),
    StableHlo.unary main_cst_3 main_v37 (broadcastInDim S1024x128 ![] bcast_S_S1024x128 : (⟨S_, .f32⟩ : BufTy).Contents (Elt F) → (⟨S1024x128, .f32⟩ : BufTy).Contents (Elt F)) ]

/-- After the last stage: the two final hidden states side by side. -/
def join : List (HloOp τ sig (Elt F)) :=
  [ StableHlo.binary main_v40_0 main_v40_2 main_v41 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)) ]

/-- Every operation of the four lists stays on the TensorCore's buffers. -/
theorem askFirst_sub : (askFirst (F := F)).Forall fun op => op.bufs ⊆ StableHlo.tcRefs τ sig :=
  ⟨StableHlo.unary_bufs_sub .., StableHlo.unary_bufs_sub .., StableHlo.binary_bufs_sub .., StableHlo.reshape_bufs_sub .., StableHlo.unary_bufs_sub .., StableHlo.reshape_bufs_sub .., StableHlo.reshape_bufs_sub ..⟩
theorem askSecond_sub : (askSecond (F := F)).Forall fun op => op.bufs ⊆ StableHlo.tcRefs τ sig :=
  ⟨StableHlo.reshape_bufs_sub .., StableHlo.reshape_bufs_sub ..⟩
theorem prepare_sub : (prepare (F := F)).Forall fun op => op.bufs ⊆ StableHlo.tcRefs τ sig :=
  ⟨StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.reshape_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.reshape_bufs_sub .., StableHlo.binary_bufs_sub .., StableHlo.unary_bufs_sub .., StableHlo.nullary_bufs_sub .., StableHlo.unary_bufs_sub ..⟩
theorem join_sub : (join (F := F)).Forall fun op => op.bufs ⊆ StableHlo.tcRefs τ sig := StableHlo.binary_bufs_sub ..

/-- None allocates a buffer. -/
theorem askFirst_fresh : (askFirst (F := F)).Forall fun op => op.fresh = ∅ := StableHlo.forall_fresh_of_map rfl
theorem askSecond_fresh : (askSecond (F := F)).Forall fun op => op.fresh = ∅ := StableHlo.forall_fresh_of_map rfl
theorem prepare_fresh : (prepare (F := F)).Forall fun op => op.fresh = ∅ := StableHlo.forall_fresh_of_map rfl
theorem join_fresh : (join (F := F)).Forall fun op => op.fresh = ∅ := StableHlo.forall_fresh_of_map rfl

/-- The main program: the lists and the calls, in order. -/
theorem main_eq (d : Dev nD) : main (F := F) d = (StableHlo.seq askFirst >>= fun _ => sc.run d 0 >>= fun _ => StableHlo.seq askSecond >>= fun _ => sc.run d 1 >>= fun _ =>
    StableHlo.seq prepare >>= fun _ => Prog.lift (.customCall (SparseCore.inner (Pipeline.entry 0)) ()) >>= fun _ => Prog.lift (.customCall (SparseCore.inner (Pipeline.entry 1)) ()) >>= fun _ =>
    Prog.lift (.customCall (SparseCore.inner (Pipeline.entry 2)) ()) >>= fun _ => StableHlo.seq join >>= fun _ => pure ⟨⟩) := by
  simp only [StableHlo.seq_bind_seqK]
  rfl

/-! ## The buffers' contents along the program -/

/-- The level below which the TensorCore's waits lie once both gather calls are over. -/
abbrev lvl : ℕ := 16

variable (m : (ℓ : Loc nD τ sig) → Buf (Elt F) ℓ) (d : Dev nD)

/-- Before the first gather call. -/
def W1 : Valuation τ sig (Elt F) := after askFirst (StableHlo.launchContents m d)
/-- After it: the rows that its lists name. -/
def W2 : Valuation τ sig (Elt F) := Function.update (W1 m d) main_v7 (Gather.got (m := 24) (R := 98304) (W1 m d main_arg1) (W1 m d main_v6))
/-- Before the second. -/
def W3 : Valuation τ sig (Elt F) := after askSecond (W2 m d)
/-- After it. -/
def W4 : Valuation τ sig (Elt F) := Function.update (W3 m d) main_v10 (Gather.got (m := 26) (R := 106496) (W1 m d main_arg1) (W3 m d main_v9))
/-- Before the first stage, after each stage, and at the end. -/
def W5 : Valuation τ sig (Elt F) := after prepare (W4 m d)
def W6 : Valuation τ sig (Elt F) := Region2.after lvl (W5 m d) d
def W7 : Valuation τ sig (Elt F) := Region3.after lvl (W6 m d) d
def W8 : Valuation τ sig (Elt F) := Region4.after lvl (W7 m d) d
def W9 : Valuation τ sig (Elt F) := after join (W8 m d)

/-- What the gather calls are given. -/
def given : Gather.Given F where
  t d := W1 m d main_arg1
  x0 d := W1 m d main_v6
  x1 d := W3 m d main_v9
  o0 d := W1 m d main_v7
  o1 d := W3 m d main_v10

end Cert.Proof
-- ==== Proof.Main.lean ====
/- The main program's run: the host's operations, the two gather calls and the three stages, one after the other, from the
   launch to the end, every buffer's contents known along the way. -/
module

public import proofs.«01_k».proof.Proof.Ops

@[expose] public section

noncomputable section

namespace Cert.Proof

open Cert.KernelIdeal Cert.KernelIdeal.Gen
open Idealize.ShloMosaic Idealize.ShloMosaic.TcCoe
open Idealize.ShloMosaic.SparseCore (S V)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Tactic
open Idealize.ShloMosaic.StableHlo (after held)

variable {F : FTy → Type} [FloatOps F]

local notation "𝕄" => MT nD τ Cert.KernelIdeal.sig (HIx 2) (Elt F) ℕ UU ℕ

variable (m : (ℓ : Loc nD τ sig) → Buf (Elt F) ℓ) (ρ : Dev nD → PrngReg)

abbrev uc : Finset (DevRef τ sig) := Pipeline.ucRefs τ sig

/-! ## One step of the main program -/

section Steps

/-- The continuation's weakest precondition. -/
abbrev goOn (d : Dev nD) {α : Type} (p : Prog (TpuEff nD τ sig (Elt F) (SparseCore.Sig (ΛP (F := F)) 2) .tc) α)
    (Φ : α → sProp (MT nD τ Cert.KernelIdeal.sig (HIx 2) (Elt F) ℕ UU ℕ)) : sProp (MT nD τ Cert.KernelIdeal.sig (HIx 2) (Elt F) ℕ UU ℕ) :=
  wp frame (wpE ((K (F := F)).defs (D (F := F))) 𝒱 (SparseCore.T d) none) Set.univ p Φ

variable (d : Dev nD) {α : Type} (k : PUnit → Prog (TpuEff nD τ sig (Elt F) (SparseCore.Sig (ΛP (F := F)) 2) .tc) α)
  (Φ : α → sProp (MT nD τ Cert.KernelIdeal.sig (HIx 2) (Elt F) ℕ UU ℕ))

/-- A list of host operations. -/
theorem host_step (ops : List (HloOp τ sig (Elt F))) (hs : ops.Forall fun op => op.bufs ⊆ StableHlo.tcRefs τ sig)
    (hf : ops.Forall fun op => op.fresh = ∅) (V : Valuation τ sig (Elt F)) :
    (iprop(boundary (SparseCore.T d) ∗ held (SparseCore.T d) uc V
      ∗ ((boundary (SparseCore.T d) ∗ held (SparseCore.T d) uc (after ops V)) -∗ goOn d (k ⟨⟩) Φ)) : sProp 𝕄)
      ⊢ goOn d (StableHlo.seq ops >>= k) Φ := by
  iintro ⟨Hb, Hh, Hk⟩
  iapply (StableHlo.wp_seq 𝒱 none Set.univ d uc k ops (fun op h => Pipeline.sub_ucRefs op ((List.forall_iff_forall_mem.mp hs) op h))
    (fun op h => (List.forall_iff_forall_mem.mp hf) op h) V) $$ [Hb Hh]
  · isplitl [Hb] <;> iassumption
  iexact Hk

/-- Three buffers out of all. -/
theorem held_three (r₁ r₂ r₃ : Ref sig .tc) (h₁ : r₁.isScoped = false) (h₂ : r₂.isScoped = false) (h₃ : r₃.isScoped = false)
    (h₁₂ : (Proc.devRef .tc r₁ : DevRef τ sig) ≠ Proc.devRef .tc r₂) (h₁₃ : (Proc.devRef .tc r₁ : DevRef τ sig) ≠ Proc.devRef .tc r₃)
    (h₂₃ : (Proc.devRef .tc r₂ : DevRef τ sig) ≠ Proc.devRef .tc r₃) (V : Valuation τ sig (Elt F)) :
    (held (SparseCore.T d) uc V : sProp 𝕄)
      = iprop((((SparseCore.T d).loc r₁ ↦{fullShare} V r₁) ∗ ((SparseCore.T d).loc r₂ ↦{fullShare} V r₂) ∗ ((SparseCore.T d).loc r₃ ↦{fullShare} V r₃))
        ∗ held (SparseCore.T d) (uc \ {(r₁ : DevRef τ sig), (r₂ : DevRef τ sig), (r₃ : DevRef τ sig)}) V) := by
  rw [StableHlo.held_sub_split (T := {(r₁ : DevRef τ sig), (r₂ : DevRef τ sig), (r₃ : DevRef τ sig)}) (SparseCore.T d) (by
    intro b hb
    simp only [Finset.mem_insert, Finset.mem_singleton] at hb
    rcases hb with rfl | rfl | rfl
    · exact Pipeline.devRef_mem_ucRefs h₁
    · exact Pipeline.devRef_mem_ucRefs h₂
    · exact Pipeline.devRef_mem_ucRefs h₃) V]
  congr 1
  unfold held
  rw [SparseCore.bigSep_insert' (by simp only [Finset.mem_insert, Finset.mem_singleton, not_or]; exact ⟨h₁₂, h₁₃⟩),
    SparseCore.bigSep_insert' (by simp only [Finset.mem_singleton]; exact h₂₃), bigSep_singleton]

end Steps

/-! ## The gather calls -/

/-- The points-to of three buffers. -/
abbrev three (d : Dev nD) (r₁ r₂ r₃ : Ref sig .tc) (V : Valuation τ sig (Elt F)) : sProp (MT nD τ Cert.KernelIdeal.sig (HIx 2) (Elt F) ℕ UU ℕ) :=
  iprop(((SparseCore.T d).loc r₁ ↦{fullShare} V r₁) ∗ ((SparseCore.T d).loc r₂ ↦{fullShare} V r₂) ∗ ((SparseCore.T d).loc r₃ ↦{fullShare} V r₃))

theorem st0 (d : Dev nD) : (bigSep Finset.univ fun c : Fin ((K (F := F)).nCore 0) => (Gather.P (given m)).st 0 d c)
    = three d main_v6 main_arg1 main_v7 (W1 m d) :=
  (Gather.parcels0 (given m) d (W1 m d main_v7)).symm
theorem dn0 (d : Dev nD) : (bigSep Finset.univ fun c : Fin ((K (F := F)).nCore 0) => (Gather.P (given m)).dn 0 d c)
    = three d main_v6 main_arg1 main_v7 (W2 m d) := by
  unfold three
  rw [show W2 m d main_v7 = _ from Function.update_self _ _ _, show W2 m d main_v6 = W1 m d main_v6 from Function.update_of_ne (by decide) _ _,
    show W2 m d main_arg1 = W1 m d main_arg1 from Function.update_of_ne (by decide) _ _]
  exact (Gather.parcels0 (given m) d _).symm

theorem W3_arg1 (d : Dev nD) : W3 m d main_arg1 = W1 m d main_arg1 :=
  (StableHlo.after_of_writes_sub (W := [main_v8, main_v9]) askSecond _ (StableHlo.forall_writes_sub_of_map rfl) (by decide)).trans
    (Function.update_of_ne (fun h => absurd (Proc.devRef_injective _ h) (by decide)) _ _)

theorem st1 (d : Dev nD) : (bigSep Finset.univ fun c : Fin ((K (F := F)).nCore 1) => (Gather.P (given m)).st 1 d c)
    = three d main_v9 main_arg1 main_v10 (W3 m d) := by
  unfold three
  rw [W3_arg1]
  exact (Gather.parcels1 (given m) d (W3 m d main_v10)).symm
theorem dn1 (d : Dev nD) : (bigSep Finset.univ fun c : Fin ((K (F := F)).nCore 1) => (Gather.P (given m)).dn 1 d c)
    = three d main_v9 main_arg1 main_v10 (W4 m d) := by
  unfold three
  rw [show W4 m d main_v10 = _ from Function.update_self _ _ _, show W4 m d main_v9 = W3 m d main_v9 from Function.update_of_ne (by decide) _ _,
    show W4 m d main_arg1 = W3 m d main_arg1 from Function.update_of_ne (by decide) _ _, W3_arg1]
  exact (Gather.parcels1 (given m) d _).symm

section Calls

variable (d : Dev nD) {α : Type} (k : PUnit → Prog (TpuEff nD τ sig (Elt F) (SparseCore.Sig (ΛP (F := F)) 2) .tc) α)
  (Φ : α → sProp (MT nD τ Cert.KernelIdeal.sig (HIx 2) (Elt F) ℕ UU ℕ)) (κ : GSem nD τ sig → ℕ)

/-- A gather call, on its list, its table and its output: everything else stays as it was. -/
theorem gather_step (q : Fin 2) (r₁ r₂ r₃ : Ref sig .tc) (h₁ : r₁.isScoped = false) (h₂ : r₂.isScoped = false) (h₃ : r₃.isScoped = false)
    (h₁₂ : (Proc.devRef .tc r₁ : DevRef τ sig) ≠ Proc.devRef .tc r₂) (h₁₃ : (Proc.devRef .tc r₁ : DevRef τ sig) ≠ Proc.devRef .tc r₃)
    (h₂₃ : (Proc.devRef .tc r₂ : DevRef τ sig) ≠ Proc.devRef .tc r₃) (V V' : Valuation τ sig (Elt F))
    (hV : ∀ r : DevRef τ sig, r ≠ (r₃ : DevRef τ sig) → V' r = V r)
    (hst : (bigSep Finset.univ fun c : Fin ((K (F := F)).nCore q) => (Gather.P (given m)).st q d c) = three d r₁ r₂ r₃ V)
    (hdn : (bigSep Finset.univ fun c : Fin ((K (F := F)).nCore q) => (Gather.P (given m)).dn q d c) = three d r₁ r₂ r₃ V') :
    (iprop((K (F := F)).ctx EH (Gather.P (given m)) κ ∗ (K (F := F)).tcSt EH d q.val ∗ held (SparseCore.T d) uc V
      ∗ (((K (F := F)).tcSt EH d (q.val + 1) ∗ held (SparseCore.T d) uc V') -∗ goOn d (k ⟨⟩) Φ)) : sProp 𝕄)
      ⊢ goOn d (sc.run d q >>= k) Φ := by
  rw [held_three d r₁ r₂ r₃ h₁ h₂ h₃ h₁₂ h₁₃ h₂₃ V, held_three d r₁ r₂ r₃ h₁ h₂ h₃ h₁₂ h₁₃ h₂₃ V']
  unfold goOn
  rw [wp_bind]
  iintro ⟨#Hctx, Hst, ⟨H3, Hrest⟩, Hk⟩
  iapply ((K (F := F)).wp_run (D (F := F)) 𝒱 (EH := EH) (P := Gather.P (given m)) κ d q) $$ [Hst H3 Hrest Hk]
  isplitr; · iexact Hctx
  isplitl [Hst]; · iexact Hst
  isplitl [H3]
  · rw [hst]; iexact H3
  iintro ⟨Hst, Hdn⟩
  ihave H3 := (Entails.of_eq hdn) $$ Hdn
  iapply Hk
  isplitl [Hst]; · iexact Hst
  isplitl [H3]; · iexact H3
  rw [StableHlo.held_congr (V' := V) (SparseCore.T d) fun b hb => hV b fun e => by
    subst e
    simp only [Finset.mem_sdiff, Finset.mem_insert, Finset.mem_singleton, _root_.or_true, not_true_eq_false, _root_.and_false] at hb]
  iexact Hrest

/-- Once both gather calls are over, the TensorCore owes nothing: it can lend that record and take it back. -/
theorem lend (d : Dev nD) : ((K (F := F)).tcSt EH d 2 : sProp 𝕄)
    ⊢ iprop((∃ W, ⌜(K (F := F)).WBelow (SparseCore.T d) W lvl⌝ ∗ owes (SparseCore.T d) 0 W)
      ∗ ((∃ W, ⌜(K (F := F)).WBelow (SparseCore.T d) W lvl⌝ ∗ owes (SparseCore.T d) 0 W) -∗ (K (F := F)).tcSt EH d 2)) := by
  unfold SparseCore.Cfg.tcSt
  rw [(K (F := F)).Otc_end d (le_refl 2)]
  iintro ⟨H, Hr⟩
  isplitl [H]; · iexact H
  iintro H
  isplitl [H]; · iexact H
  iexact Hr

/-- A stage: a pipelined region entered from the main program. -/
theorem stage_step {p : Fin 3} {pdats : (p : Fin 3) → (c : Dev nD) → Pipeline.Dat τ (Elt F) (HIx 2) ℕ UU ℕ (Pipeline.pin (pcfgs (F := F)) adm p) c}
    (R : Pipeline.RegionSeg (pcfgs (F := F)) adm pdats none defs₀ 𝒱₀ (K (F := F)).L (K (F := F)).lev p)
    (V V' : Valuation τ sig (Elt F)) (hpre : R.pre d = state lvl d V) (hpost : R.post d = state lvl d V') :
    (iprop((K (F := F)).ctx EH (Gather.P (given m)) κ ∗ boundary (SparseCore.T d) ∗ (K (F := F)).tcSt EH d 2 ∗ held (SparseCore.T d) uc V
      ∗ (Pipeline.cellsGhost (Pipeline.pin (pcfgs (F := F)) adm) EP p d ∗ Pipeline.toksInit (Pipeline.pin (pcfgs (F := F)) adm) EP p d)
      ∗ ((boundary (SparseCore.T d) ∗ (K (F := F)).tcSt EH d 2 ∗ held (SparseCore.T d) uc V') -∗ goOn d (k ⟨⟩) Φ)) : sProp 𝕄)
      ⊢ goOn d (Prog.lift (.customCall (SparseCore.inner (Pipeline.entry p)) ()) >>= k) Φ := by
  unfold goOn
  rw [wp_bind]
  refine BI.Entails.trans ?_ ((K (F := F)).wp_liftProg (D (F := F)) 𝒱 (SparseCore.T d) Set.univ none (.op (.customCall (Pipeline.entry p) ()) .ret) _)
  refine BI.Entails.trans ?_ (Pipeline.RegionSeg.wp (pcfgs (F := F)) adm pdats none cellOf_inj EP defs₀ 𝒱₀ _ _ R d none (fun u h => nomatch h) _ _)
  show (iprop(_ ∗ _) : sProp 𝕄) ⊢ iprop(_ ∗ _)
  rw [hpre, hpost]
  unfold state
  rw [Pipeline.unscopedBufs_held, Pipeline.unscopedBufs_held]
  iintro ⟨#Hctx, Hb, Hst, Hh, ⟨Hc, Ht⟩, Hk⟩
  ihave Hlev := (SparseCore.Cfg.ctx_levAts κ) $$ Hctx
  ihave Hst' := (lend d) $$ Hst
  icases Hst' with ⟨HW, Hst⟩
  isplitl [Hst Hk]
  · iintro ⟨Hb, Hh, HW⟩
    rw [wp_ret]
    imodintro
    iapply Hk
    isplitl [Hb]; · iexact Hb
    isplitl [Hst HW]
    · iapply Hst $$ [HW]
      iexact HW
    iexact Hh
  isplitl [Hb]; · iexact Hb
  isplitl [Hh HW]
  · isplitl [Hh] <;> iassumption
  isplitl [Hlev]; · iexact Hlev
  isplitl [Hc] <;> iassumption

end Calls

/-! ## The whole program -/

/-- The pipelines' ghost state on one device. -/
def G (d : Dev nD) : sProp (MT nD τ Cert.KernelIdeal.sig (HIx 2) (Elt F) ℕ UU ℕ) :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem G_three (d : Dev nD) : (G (F := F) d) ⊢ iprop(
      (Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d)
    ∗ (Pipeline.cellsGhost (Pipeline.pin (pcfgs (F := F)) adm) EP 2 d ∗ Pipeline.toksInit (Pipeline.pin (pcfgs (F := F)) adm) EP 2 d)) := by
  unfold G
  rw [show (Finset.univ : Finset (Fin 3)) = {0, 1, 2} by decide]
  rw [SparseCore.bigSep_insert' (by decide), SparseCore.bigSep_insert' (by decide), bigSep_singleton,
    SparseCore.bigSep_insert' (by decide), SparseCore.bigSep_insert' (by decide), bigSep_singleton]
  iintro ⟨⟨H0, H1, H2⟩, ⟨T0, T1, T2⟩⟩
  isplitl [H0 T0]; · isplitl [H0] <;> iassumption
  isplitl [H1 T1]; · isplitl [H1] <;> iassumption
  isplitl [H2] <;> iassumption

/-- What the main program leaves: every buffer at its last contents. -/
abbrev FIN (d : Dev nD) : sProp (MT nD τ Cert.KernelIdeal.sig (HIx 2) (Elt F) ℕ UU ℕ) := held (SparseCore.T d) uc (W9 m d)

theorem hmain (κ : GSem nD τ sig → ℕ) (d : Dev nD) :
    iprop((K (F := F)).ctx EH (Gather.P (given m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  rw [main_eq]
  unfold SparseCore.Cfg.tcRes SparseCore.Cfg.tcEnd
  rw [show (unscopedBufs d (fun b => m ((SparseCore.T d).loc b)) : sProp 𝕄) = held (SparseCore.T d) uc (StableHlo.launchContents m d) from
    Pipeline.unscopedBufs_held d (StableHlo.launchContents m d)]
  iintro ⟨#Hctx, Hst, ⟨Hb, Hh, Hts, -⟩, HG⟩
  ihave HG' := (G_three d) $$ HG
  icases HG' with ⟨G0, G1, G2⟩
  iapply (host_step d _ _ askFirst askFirst_sub askFirst_fresh (StableHlo.launchContents m d))
  isplitl [Hb]; · iexact Hb
  isplitl [Hh]; · iexact Hh
  iintro ⟨Hb, Hh⟩
  iapply (gather_step m d _ _ κ 0 main_v6 main_arg1 main_v7 rfl rfl rfl (by decide) (by decide) (by decide) (W1 m d) (W2 m d)
    (fun r hr => Function.update_of_ne hr _ _) (st0 m d) (dn0 m d))
  isplitr; · iexact Hctx
  isplitl [Hst]; · iexact Hst
  isplitl [Hh]; · iexact Hh
  iintro ⟨Hst, Hh⟩
  iapply (host_step d _ _ askSecond askSecond_sub askSecond_fresh (W2 m d))
  isplitl [Hb]; · iexact Hb
  isplitl [Hh]; · iexact Hh
  iintro ⟨Hb, Hh⟩
  iapply (gather_step m d _ _ κ 1 main_v9 main_arg1 main_v10 rfl rfl rfl (by decide) (by decide) (by decide) (W3 m d) (W4 m d)
    (fun r hr => Function.update_of_ne hr _ _) (st1 m d) (dn1 m d))
  isplitr; · iexact Hctx
  isplitl [Hst]; · iexact Hst
  isplitl [Hh]; · iexact Hh
  iintro ⟨Hst, Hh⟩
  iapply (host_step d _ _ prepare prepare_sub prepare_fresh (W4 m d))
  isplitl [Hb]; · iexact Hb
  isplitl [Hh]; · iexact Hh
  iintro ⟨Hb, Hh⟩
  iapply (stage_step m d _ _ κ (Region2.seg lvl (fun d => W5 m d) _ _) (W5 m d) (W6 m d) rfl rfl)
  isplitr; · iexact Hctx
  isplitl [Hb]; · iexact Hb
  isplitl [Hst]; · iexact Hst
  isplitl [Hh]; · iexact Hh
  isplitl [G0]; · iexact G0
  iintro ⟨Hb, Hst, Hh⟩
  iapply (stage_step m d _ _ κ (Region3.seg lvl (fun d => W6 m d) _ _) (W6 m d) (W7 m d) rfl rfl)
  isplitr; · iexact Hctx
  isplitl [Hb]; · iexact Hb
  isplitl [Hst]; · iexact Hst
  isplitl [Hh]; · iexact Hh
  isplitl [G1]; · iexact G1
  iintro ⟨Hb, Hst, Hh⟩
  iapply (stage_step m d _ _ κ (Region4.seg lvl (fun d => W7 m d) _ _) (W7 m d) (W8 m d) rfl rfl)
  isplitr; · iexact Hctx
  isplitl [Hb]; · iexact Hb
  isplitl [Hst]; · iexact Hst
  isplitl [Hh]; · iexact Hh
  isplitl [G2]; · iexact G2
  iintro ⟨Hb, Hst, Hh⟩
  iapply (host_step d _ _ join join_sub join_fresh (W8 m d))
  isplitl [Hb]; · iexact Hb
  isplitl [Hh]; · iexact Hh
  iintro ⟨Hb, Hh⟩
  unfold goOn
  rw [show (pure ⟨⟩ : Prog (TpuEff nD τ sig (Elt F) (SparseCore.Sig (ΛP (F := F)) 2) .tc) PUnit) = .ret ⟨⟩ from rfl, wp_ret]
  imodintro
  isplitl [Hst]; · iexact Hst
  isplitl [Hh]; · iexact Hh
  isplitl [Hb] <;> iassumption

/-- The launch's ghost element. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d => G (F := F) d)
        ∗ bigSep Finset.univ fun thr : Thread nD τ => bigSep Finset.univ fun q : Fin 2 => (Gather.P (given m)).x q thr) := by
  unfold u₀
  iintro Hu
  ihave H := (ownU_pair _ _) $$ Hu
  icases H with ⟨HH, HR⟩
  ihave H := (own_pair_emb embR _ _) $$ HR
  icases H with ⟨HP, -⟩
  ihave HP := (Entails.of_eq (show (BI.own (((Emb.inl : Emb UP (UP × Counters)).trans embR) _) : sProp 𝕄) = BI.own ((EP (F := F)) _) from rfl)) $$ HP
  imod (Pipeline.fund_ghost (Pipeline.pin (pcfgs (F := F)) adm) EP cellOf_inj) $$ HP with ⟨Hc, Ht⟩
  imodintro
  isplitl [HH]; · iexact HH
  isplitl [Hc Ht]
  · unfold G
    rw [bigSep_sep']
    isplitl [Hc] <;> iassumption
  exact Entails.of_eq (((bigSep_congr fun _ _ => bigSep_emp_const _).trans (bigSep_emp_const _)).symm)

/-- Every buffer at the end, on one device. -/
def fq (d : Dev nD) (s' : Phys nD τ sig (Elt F)) : Prop :=
  ∀ r : Ref sig .tc, r.isScoped = false → s'.mem.mem ((SparseCore.T d).loc r) = W9 m d r

theorem hfin (d : Dev nD) (s' : Phys nD τ sig (Elt F)) : iprop(FIN m d ∗ SI s') ⊢ (⌜fq m d s'⌝ : sProp 𝕄) := by
  refine (Laws.forall_intro fun r => (Laws.forall_intro fun hr => ?_ : _ ⊢ ∀ _, _).trans Laws.pure_forall.2).trans Laws.pure_forall.2
  unfold FIN held
  rw [SparseCore.bigSep_erase' (Pipeline.devRef_mem_ucRefs hr)]
  iintro ⟨⟨Hx, -⟩, HSI⟩
  ihave H := (SI_pointsTo_agree (st := s') (ℓ := (SparseCore.T d).loc r) (I := Finset.univ) (q := fullShare) (f := W9 m d r)) $$ [HSI Hx]
  · isplitl [HSI] <;> iassumption
  icases H with %hx
  ipureintro; exact funext fun i => hx i (Finset.mem_univ i)

/-- The program's run from words in range: every buffer ends at its last contents, and every counter at zero. -/
theorem run_main [∀ e, Nonempty (Elt F e)] (ok : (given m).Ok) : θ_run (Cert.KernelIdeal.defs (F := F)) (Cert.KernelIdeal.threads (F := F)) ⟨m, fun _ => 0, ρ⟩
    fun r => (∀ (d : Dev nD) (b : Ref sig .tc), b.isScoped = false → r.2.mem ((SparseCore.T d).loc b) = W9 m d b) ∧ r.2.sem = fun _ => 0 :=
  SparseCore.Cfg.θ_run_sc_quiescent (K := K (F := F)) (D := D (F := F)) (𝒱 := 𝒱) (EH := EH) (P := Gather.P (given m)) (A := ∅) facts v₀
    (fun q hq => match q with | 0 => nomatch hq | 1 => nomatch hq)
    (fun q _ => match q with | 0 => Gather.tileObl0 _ ok | 1 => Gather.tileObl1 _ ok)
    (fun q _ => SparseCore.Cfg.VecSplit.of_plain (Gather.vecSplit _ q))
    m ρ main G (FIN m) (u₀ (F := F)) (sep_elim_left.trans (hu₀ m)) (hmain m ρ) (fq m) (hfin m) _ (fun _ h hz => ⟨h, hz⟩)

end Cert.Proof
-- ==== Proof.Contents.lean ====
/- What the host's operations leave in the buffers that the calls read: the token lists, the gathered rows by time step, the
   weights and biases; and the buffers that no operation writes. -/
module

public import proofs.«01_k».proof.Proof.Ops

@[expose] public section

noncomputable section

namespace Cert.Proof

open Cert.KernelIdeal Cert.KernelIdeal.Gen
open Idealize.ShloMosaic Idealize.ShloMosaic.TcCoe
open Idealize.SL.Sem
open Idealize.ShloMosaic.StableHlo (after)

variable {F : FTy → Type} [FloatOps F]

/-! ## The tokens by time step -/

section Tokens

variable {α : Type} (X : S200x1024.Idx → α)

/-- The first and the last 48 time steps. -/
def outer : S96x1024.Idx → α := concatenate S96x1024 0 [⟨S48x1024, extractStridedSlice S48x1024 ![0, 0] X slices_S200x1024_S48x1024_0_0⟩,
  ⟨S48x1024, extractStridedSlice S48x1024 ![152, 0] X slices_S200x1024_S48x1024_152_0⟩] concatenates_S48x1024_S48x1024_S96x1024_d0

/-- The 104 time steps between. -/
def inner : S104x1024.Idx → α := extractStridedSlice S104x1024 ![48, 0] X slices_S200x1024_S104x1024_48_0

/-- The time step at place `t` of the outer ones. -/
def outerStep (t : Fin 96) : Fin 200 := ⟨if t.val < 48 then t.val else t.val + 104, by split <;> omega⟩

/-- The time step at place `t` of the inner ones. -/
def innerStep (t : Fin 104) : Fin 200 := ⟨t.val + 48, by omega⟩

theorem outer_at (t : Fin 96) (b : Fin 1024) : outer X (ix2 t b) = X (ix2 (outerStep t) b) := by
  unfold outer
  by_cases h : t.val < 48
  · rw [concatenate_pair_apply_left 0 _ _ concatenates_S48x1024_S48x1024_S96x1024_d0 (ix2 t b) rfl (ix2 ⟨t.val, h⟩ b)
      (fun a => by fin_cases a <;> rfl)]
    refine extractStridedSlice_apply _ X _ _ _ fun a => ?_
    match a with
    | ⟨0, _⟩ => show (if t.val < 48 then t.val else t.val + 104) = 0 + t.val; rw [if_pos h, zero_add]
    | ⟨1, _⟩ => show b.val = 0 + b.val; rw [zero_add]
  · have ht := t.isLt
    rw [concatenate_pair_apply_right 0 _ _ concatenates_S48x1024_S48x1024_S96x1024_d0 (ix2 t b) rfl rfl (ix2 ⟨t.val - 48, by omega⟩ b)
      (fun a ha => by fin_cases a; exact absurd rfl ha; rfl) (by show t.val - 48 + 48 = t.val; omega)]
    refine extractStridedSlice_apply _ X _ _ _ fun a => ?_
    match a with
    | ⟨0, _⟩ => show (if t.val < 48 then t.val else t.val + 104) = 152 + (t.val - 48); rw [if_neg h]; omega
    | ⟨1, _⟩ => show b.val = 0 + b.val; rw [zero_add]

theorem inner_at (t : Fin 104) (b : Fin 1024) : inner X (ix2 t b) = X (ix2 (innerStep t) b) := by
  refine extractStridedSlice_apply _ X _ _ _ fun a => ?_
  match a with
  | ⟨0, _⟩ => show t.val + 48 = 48 + t.val; rw [add_comm]
  | ⟨1, _⟩ => show b.val = 0 + b.val; rw [zero_add]

end Tokens

/-! ## Lists and rows -/

section Lists

variable {T m R : ℕ} [NeZero m]

/-- The list of all tokens by time step, cut into the workers' lists, holds at worker `k`, chunk `n`, place `y` the token of
    that place in row-major order. -/
theorem list_at {α : Type} (x : Shape.Idx ⟨2, ![T, 1024]⟩ → α) (h1 : Shape.ShapeCasts ⟨2, ![T, 1024]⟩ ⟨1, ![R]⟩)
    (h2 : Shape.ShapeCasts ⟨1, ![R]⟩ ⟨3, ![32, m, 128]⟩) (t : Fin T) (b : Fin 1024) (k : Fin 32) (n : Fin m) (y : Fin 128)
    (hR : R = T * 1024) (e : t.val * 1024 + b.val = (k.val * m + n.val) * 128 + y.val) :
    shapeCast (⟨3, ![32, m, 128]⟩ : Shape) (shapeCast (⟨1, ![R]⟩ : Shape) x h1) h2 (ix3 k n y) = x (ix2 t b) := by
  have hlt : t.val * 1024 + b.val < R := by have := t.isLt; have := b.isLt; omega
  rw [shapeCast_apply _ h2 (ix3 k n y) (ix1 ⟨t.val * 1024 + b.val, hlt⟩)
      (by rw [Shape.rowMajor_val_one, Shape.rowMajor_val_three]; exact e),
    shapeCast_apply x h1 _ (ix2 t b) (by rw [Shape.rowMajor_val_one, Shape.rowMajor_val_two]; rfl)]

/-- The gathered rows by time step: the table's rows that the tokens of the time step name. -/
theorem rows_at (tab : S100000x128.Idx → Elt F .f32) (x : Shape.Idx ⟨2, ![T, 1024]⟩ → BitVec 32)
    (h1 : Shape.ShapeCasts ⟨2, ![T, 1024]⟩ ⟨1, ![R]⟩) (h2 : Shape.ShapeCasts ⟨1, ![R]⟩ ⟨3, ![32, m, 128]⟩)
    (h3 : Shape.ShapeCasts ⟨2, ![R, 128]⟩ ⟨3, ![T, 1024, 128]⟩) (t : Fin T) (b : Fin 1024) (y : Fin 128) (hR : R = T * 1024) (hm : R = 32 * m * 128) :
    shapeCast (⟨3, ![T, 1024, 128]⟩ : Shape) (Gather.got (F := F) (m := m) (R := R) tab (shapeCast (⟨3, ![32, m, 128]⟩ : Shape) (shapeCast (⟨1, ![R]⟩ : Shape) x h1) h2)) h3 (ix3 t b y)
      = tab (ix2 (Gather.rowOf (x (ix2 t b))) y) := by
  have hlt : t.val * 1024 + b.val < R := by have := t.isLt; have := b.isLt; omega
  obtain ⟨r, hr⟩ : ∃ r, r = t.val * 1024 + b.val := ⟨_, rfl⟩
  have hmp : 0 < m := Nat.pos_of_ne_zero (NeZero.ne m)
  have hq : r / 128 < 32 * m := by omega
  have hk : r / 128 / m < 32 := Nat.div_lt_of_lt_mul (by rw [mul_comm]; exact hq)
  have hn : r / 128 % m < m := Nat.mod_lt _ hmp
  have hy : r % 128 < 128 := Nat.mod_lt _ (by norm_num)
  have e0 := Nat.div_add_mod r 128
  have e1 := Nat.div_add_mod (r / 128) m
  rw [shapeCast_apply _ h3 (ix3 t b y) (ix2 ⟨t.val * 1024 + b.val, hlt⟩ y)
      (by rw [Shape.rowMajor_val_two, Shape.rowMajor_val_three]; rfl),
    Gather.got_at tab _ _ (k := r / 128 / m) (n := r / 128 % m) (y := r % 128) hn hy
      (by show t.val * 1024 + b.val = _; rw [← hr, mul_assoc, ← mul_add, e1, e0])]
  have ek : Fin.ofNat 32 (r / 128 / m) = ⟨r / 128 / m, hk⟩ := Fin.ext (Nat.mod_eq_of_lt hk)
  have en : Fin.ofNat m (r / 128 % m) = ⟨r / 128 % m, hn⟩ := Fin.ext (Nat.mod_eq_of_lt hn)
  have ey : Fin.ofNat 128 (r % 128) = ⟨r % 128, hy⟩ := Fin.ext (Nat.mod_eq_of_lt hy)
  rw [ek, en, ey, list_at x h1 h2 t b ⟨r / 128 / m, hk⟩ ⟨r / 128 % m, hn⟩ ⟨r % 128, hy⟩ hR
    (by show t.val * 1024 + b.val = (r / 128 / m * m + r / 128 % m) * 128 + r % 128
        rw [mul_comm (r / 128 / m) m, e1, mul_comm (r / 128) 128, e0, hr])]
  rfl

end Lists

/-! ## The calls' operands -/

variable (m : (ℓ : Loc nD τ sig) → Buf (Elt F) ℓ) (d : Dev nD)

/-- The tokens. -/
abbrev tokens : S200x1024.Idx → BitVec 32 := m ((SparseCore.T d).loc main_arg0)
/-- The table. -/
abbrev table : S100000x128.Idx → Elt F .f32 := m ((SparseCore.T d).loc main_arg1)

theorem W1_v6 : (W1 m d main_v6 : S32x24x128.Idx → BitVec 32)
    = shapeCast S32x24x128 (shapeCast S98304 (outer (tokens m d)) shapeCasts_S96x1024_S98304) shapeCasts_S98304_S32x24x128 := by
  unfold W1 askFirst
  after_results
  rfl

theorem W1_v5 : (W1 m d main_v5 : S106496.Idx → BitVec 32) = shapeCast S106496 (inner (tokens m d)) shapeCasts_S104x1024_S106496 := by
  unfold W1 askFirst
  after_results
  rfl

/-- Everything that the program writes or a stage takes. -/
def touched1 : List (Ref sig .tc) := [main_v0, main_v1, main_v2, main_v3, main_v4, main_v5, main_v6]
def touched5 : List (Ref sig .tc) := [main_v11, main_cst, main_v12, main_cst_0, main_v13, main_cst_1, main_v14, main_cst_2, main_v15, main_v16, main_v17,
  main_v18, main_v19, main_v20, main_v21, main_v22, main_v23, main_v24, main_v25, main_v26, main_v27, main_v28, main_v29, main_v30, main_v31, main_v32,
  main_v33, main_v34, main_v35, main_v36, main_cst_3, main_v37]

theorem W1_of (b : Ref sig .tc) (h : b ∉ touched1) : W1 m d b = m ((SparseCore.T d).loc b) :=
  StableHlo.after_of_writes_sub (W := touched1) askFirst _ (StableHlo.forall_writes_sub_of_map rfl) h

theorem W2_of (b : Ref sig .tc) (h : b ≠ main_v7) : W2 m d b = W1 m d b :=
  Function.update_of_ne (fun e => h (Proc.devRef_injective _ e)) _ _

theorem W3_of (b : Ref sig .tc) (h : b ∉ [main_v8, main_v9]) : W3 m d b = W2 m d b :=
  StableHlo.after_of_writes_sub (W := [main_v8, main_v9]) askSecond _ (StableHlo.forall_writes_sub_of_map rfl) h

theorem W4_of (b : Ref sig .tc) (h : b ≠ main_v10) : W4 m d b = W3 m d b :=
  Function.update_of_ne (fun e => h (Proc.devRef_injective _ e)) _ _

theorem W5_of (b : Ref sig .tc) (h : b ∉ touched5) : W5 m d b = W4 m d b :=
  StableHlo.after_of_writes_sub (W := touched5) prepare _ (StableHlo.forall_writes_sub_of_map rfl) h

theorem W9_of (b : Ref sig .tc) (h : b ≠ main_v41) : W9 m d b = W8 m d b :=
  StableHlo.after_of_writes_sub (W := [main_v41]) join _ (StableHlo.forall_writes_sub_of_map rfl) (List.mem_singleton.not.mpr h)

/-- What no operation before the stages writes is as launched. -/
theorem W4_kept (b : Ref sig .tc) (h1 : b ∉ touched1) (h7 : b ≠ main_v7) (h8 : b ∉ [main_v8, main_v9]) (h10 : b ≠ main_v10) :
    W4 m d b = m ((SparseCore.T d).loc b) :=
  (W4_of m d b h10).trans <| (W3_of m d b h8).trans <| (W2_of m d b h7).trans (W1_of m d b h1)

/-- What no operation writes and no stage takes is as launched. -/
theorem W9_kept (b : Ref sig .tc) (h1 : b ∉ touched1) (h7 : b ≠ main_v7) (h8 : b ∉ [main_v8, main_v9]) (h10 : b ≠ main_v10) (h5 : b ∉ touched5)
    (h41 : b ≠ main_v41) (s2 : ∀ w, Pipeline.arrRef spec2 w ≠ b) (s3 : ∀ w, Pipeline.arrRef spec3 w ≠ b) (s4 : ∀ w, Pipeline.arrRef spec4 w ≠ b) :
    W9 m d b = m ((SparseCore.T d).loc b) :=
  (W9_of m d b h41).trans <| (Region4.after_of_ne lvl _ d b s4).trans <| (Region3.after_of_ne lvl _ d b s3).trans <|
    (Region2.after_of_ne lvl _ d b s2).trans <| (W5_of m d b h5).trans (W4_kept m d b h1 h7 h8 h10)

theorem W3_v9 : (W3 m d main_v9 : S32x26x128.Idx → BitVec 32)
    = shapeCast S32x26x128 (shapeCast S106496 (inner (tokens m d)) shapeCasts_S104x1024_S106496) shapeCasts_S106496_S32x26x128 := by
  have e : (W3 m d main_v9 : S32x26x128.Idx → BitVec 32) = shapeCast S32x26x128 (W2 m d main_v5) shapeCasts_S106496_S32x26x128 := by
    unfold W3 askSecond
    after_results
    rfl
  rw [e, W2_of m d main_v5 (by decide), W1_v5]

theorem W3_v8 : (W3 m d main_v8 : S96x1024x128.Idx → Elt F .f32)
    = shapeCast S96x1024x128 (Gather.got (F := F) (m := 24) (R := 98304) (table m d) (shapeCast S32x24x128 (shapeCast S98304 (outer (tokens m d)) shapeCasts_S96x1024_S98304) shapeCasts_S98304_S32x24x128))
        shapeCasts_S98304x128_S96x1024x128 := by
  have e : (W3 m d main_v8 : S96x1024x128.Idx → Elt F .f32) = shapeCast S96x1024x128 (W2 m d main_v7) shapeCasts_S98304x128_S96x1024x128 := by
    unfold W3 askSecond
    after_results
    rfl
  rw [e, show W2 m d main_v7 = _ from Function.update_self _ _ _, W1_v6, W1_of m d main_arg1 (by decide)]

theorem W5_v11 : (W5 m d main_v11 : S104x1024x128.Idx → Elt F .f32)
    = shapeCast S104x1024x128 (Gather.got (F := F) (m := 26) (R := 106496) (table m d) (shapeCast S32x26x128 (shapeCast S106496 (inner (tokens m d)) shapeCasts_S104x1024_S106496) shapeCasts_S106496_S32x26x128))
        shapeCasts_S106496x128_S104x1024x128 := by
  have e : (W5 m d main_v11 : S104x1024x128.Idx → Elt F .f32) = shapeCast S104x1024x128 (W4 m d main_v10) shapeCasts_S106496x128_S104x1024x128 := by
    unfold W5 prepare
    after_results
    rfl
  rw [e, show W4 m d main_v10 = _ from Function.update_self _ _ _, W3_v9, W1_of m d main_arg1 (by decide)]

theorem W5_v8 : W5 m d main_v8 = W3 m d main_v8 := (W5_of m d main_v8 (by decide)).trans (W4_of m d main_v8 (by decide))

/-! ## Weights, biases and the zero state -/

/-- What the pre-activations' 512 columns are multiplied by: one half at the three logistic gates, one at the cell candidate. -/
def gateScale : FVec F S1x512 .f32 :=
  concatenate S1x512 1 [⟨S1x128, broadcastInDim S1x128 ![] bcast_S_S1x128 (constant S_ .f32 0x3F000000#32 : FVec F S_ .f32)⟩,
    ⟨S1x128, broadcastInDim S1x128 ![] bcast_S_S1x128 (constant S_ .f32 0x3F000000#32 : FVec F S_ .f32)⟩,
    ⟨S1x128, broadcastInDim S1x128 ![] bcast_S_S1x128 (constant S_ .f32 0x3F800000#32 : FVec F S_ .f32)⟩,
    ⟨S1x128, broadcastInDim S1x128 ![] bcast_S_S1x128 (constant S_ .f32 0x3F000000#32 : FVec F S_ .f32)⟩] concatenates_S1x128_S1x128_S1x128_S1x128_S1x512_d1

/-- Both matrices, transposed, one above the other. -/
def stacked (Wi Wh : FVec F S512x128 .f32) : FVec F S256x512 .f32 :=
  concatenate S256x512 0 [⟨S128x512, transpose S128x512 [1, 0] Wi transposes_S512x128_S128x512_1_0⟩,
    ⟨S128x512, transpose S128x512 [1, 0] Wh transposes_S512x128_S128x512_1_0⟩] concatenates_S128x512_S128x512_S256x512_d0

/-- One direction's weights as a stage takes them. -/
def weights (Wi Wh : FVec F S512x128 .f32) (bi bh : FVec F S512 .f32) : Stage.Wts F where
  W := truncf .bf16 (mulf (stacked Wi Wh) (broadcastInDim S256x512 ![0, 1] bcast_S1x512_S256x512_0_1 gateScale)) bitsLt_bf16_f32
  b := truncf .bf16 (mulf (shapeCast S1x512 (addf bi bh) shapeCasts_S512_S1x512) gateScale) bitsLt_bf16_f32

/-- The state both directions start from. -/
def zeroState : FVec F S1024x128 .f32 := broadcastInDim S1024x128 ![] bcast_S_S1024x128 (constant S_ .f32 0x00000000#32 : FVec F S_ .f32)

variable (V : Valuation τ sig (Elt F))

theorem prepare_v22 : (after prepare V main_v22 : FVec F S256x512 .bf16) = (weights (V main_arg2) (V main_arg3) (V main_arg4) (V main_arg5)).W := by
  unfold prepare
  after_results
  rfl
theorem prepare_v26 : (after prepare V main_v26 : FVec F S1x512 .bf16) = (weights (V main_arg2) (V main_arg3) (V main_arg4) (V main_arg5)).b := by
  unfold prepare
  after_results
  rfl
theorem prepare_v32 : (after prepare V main_v32 : FVec F S256x512 .bf16) = (weights (V main_arg6) (V main_arg7) (V main_arg8) (V main_arg9)).W := by
  unfold prepare
  after_results
  rfl
theorem prepare_v36 : (after prepare V main_v36 : FVec F S1x512 .bf16) = (weights (V main_arg6) (V main_arg7) (V main_arg8) (V main_arg9)).b := by
  unfold prepare
  after_results
  rfl
theorem prepare_v37 : (after prepare V main_v37 : FVec F S1024x128 .f32) = zeroState := by
  unfold prepare
  after_results
  rfl

end Cert.Proof
end
-- ==== Proof.Words.lean ====
/- The precondition and what it gives: every token is a row of the table, so every word of the gather calls' lists is. With it
   the run of the whole program, its arguments as launched at the end. -/
module

public import proofs.«01_k».proof.Proof.Main
public import proofs.«01_k».proof.Proof.Contents
public import proofs.«01_k».proof.Proof.Gen.Pre_tokens_in_vocab
public import Idealize.ShloMosaic.Lib.ReduceAll

@[expose] public section

noncomputable section

namespace Cert.Proof

open Cert.KernelIdeal Cert.KernelIdeal.Gen
open Idealize.ShloMosaic Idealize.ShloMosaic.TcCoe
open Idealize.SL.Sem

variable {F : FTy → Type} [FloatOps F]

/-! ## The precondition -/

theorem ofBool_and (p q : Bool) : IntOp.andi (BitVec.ofBool p) (BitVec.ofBool q) = BitVec.ofBool (p && q) := by
  cases p <;> cases q <;> decide

theorem ofBool_one (p : Bool) : BitVec.ofBool p = 1#1 ↔ p = true := by cases p <;> decide

/-- A word that passes both comparisons is below the vocabulary's size. -/
theorem word_lt (v : BitVec 32) (e : IntOp.andi (IntOp.cmpi .sge v 0#32) (IntOp.cmpi .slt v 100000#32) = 1#1) : v.toNat < 100000 := by
  simp only [IntOp.cmpi, ofBool_and, ofBool_one, Bool.and_eq_true, BitVec.sle_eq_decide, BitVec.slt_eq_decide, decide_eq_true_eq,
    BitVec.toInt_eq_toNat_cond, BitVec.toNat_ofNat, Nat.reducePow, Nat.reduceMod] at e
  omega

/-- Where the precondition holds, every token is below the vocabulary's size. -/
theorem words_of_pre (a0 : S200x1024.Idx → BitVec 32) (a1 : FVec F S100000x128 .f32) (a2 a3 : FVec F S512x128 .f32) (a4 a5 : FVec F S512 .f32)
    (a6 a7 : FVec F S512x128 .f32) (a8 a9 : FVec F S512 .f32)
    (h : Cert.Pre_tokens_in_vocab.fn (F := F) a0 a1 a2 a3 a4 a5 a6 a7 a8 a9 = fun _ => 1#1) (j : S200x1024.Idx) : (a0 j).toNat < 100000 :=
  haveI : Subsingleton Cert.Pre_tokens_in_vocab.S_.Idx := ⟨fun _ _ => funext fun a => a.elim0⟩
  word_lt _ (Host.reduce_andi_all _ _ _ _ (Shape.Idx.first Cert.Pre_tokens_in_vocab.Gen.h_S_) (congrFun h _) j)

/-! ## The lists' words -/

variable (m : (ℓ : Loc nD τ sig) → Buf (Elt F) ℓ) (ρ : Dev nD → PrngReg)

theorem given_ok (hw : ∀ d j, (tokens m d j).toNat < 100000) : (given m).Ok where
  x0 d j := by
    show ((W1 m d main_v6 : S32x24x128.Idx → BitVec 32) j).toNat < 100000
    rw [W1_v6]
    have key : ∀ i, (outer (tokens m d) i).toNat < 100000 := fun i => by rw [eq_ix2 i]; exact lt_of_eq_of_lt (congrArg BitVec.toNat (outer_at (tokens m d) (i 0) (i 1))) (hw d _)
    exact key _
  x1 d j := by
    show ((W3 m d main_v9 : S32x26x128.Idx → BitVec 32) j).toNat < 100000
    rw [W3_v9]
    have key : ∀ i, (inner (tokens m d) i).toNat < 100000 := fun i => by rw [eq_ix2 i]; exact lt_of_eq_of_lt (congrArg BitVec.toNat (inner_at (tokens m d) (i 0) (i 1))) (hw d _)
    exact key _

/-- The run: the result's contents, the arguments as launched, every semaphore at zero. -/
theorem run_all [∀ e, Nonempty (Elt F e)] (hw : ∀ d j, (tokens m d j).toNat < 100000) :
    θ_run (Cert.KernelIdeal.defs (F := F)) (Cert.KernelIdeal.threads (F := F)) ⟨m, fun _ => 0, ρ⟩ fun r =>
      (∀ d : Dev nD, r.2.mem ((SparseCore.T d).loc main_v41) = W9 m d main_v41
        ∧ r.2.mem ((SparseCore.T d).loc main_arg0) = m ((SparseCore.T d).loc main_arg0) ∧ r.2.mem ((SparseCore.T d).loc main_arg1) = m ((SparseCore.T d).loc main_arg1)
        ∧ r.2.mem ((SparseCore.T d).loc main_arg2) = m ((SparseCore.T d).loc main_arg2) ∧ r.2.mem ((SparseCore.T d).loc main_arg3) = m ((SparseCore.T d).loc main_arg3)
        ∧ r.2.mem ((SparseCore.T d).loc main_arg4) = m ((SparseCore.T d).loc main_arg4) ∧ r.2.mem ((SparseCore.T d).loc main_arg5) = m ((SparseCore.T d).loc main_arg5)
        ∧ r.2.mem ((SparseCore.T d).loc main_arg6) = m ((SparseCore.T d).loc main_arg6) ∧ r.2.mem ((SparseCore.T d).loc main_arg7) = m ((SparseCore.T d).loc main_arg7)
        ∧ r.2.mem ((SparseCore.T d).loc main_arg8) = m ((SparseCore.T d).loc main_arg8) ∧ r.2.mem ((SparseCore.T d).loc main_arg9) = m ((SparseCore.T d).loc main_arg9))
      ∧ r.2.sem = fun _ => 0 := by
  refine (θ_run _ _ _).mono (fun r h => ⟨fun d => ?_, h.2⟩) (run_main m ρ (given_ok m hw))
  have arg : ∀ b ∈ [main_arg0, main_arg1, main_arg2, main_arg3, main_arg4, main_arg5, main_arg6, main_arg7, main_arg8, main_arg9],
      b.isScoped = false ∧ b ∉ touched1 ∧ b ≠ main_v7 ∧ b ∉ [main_v8, main_v9] ∧ b ≠ main_v10 ∧ b ∉ touched5 ∧ b ≠ main_v41
        ∧ (∀ w, Pipeline.arrRef spec2 w ≠ b) ∧ (∀ w, Pipeline.arrRef spec3 w ≠ b) ∧ (∀ w, Pipeline.arrRef spec4 w ≠ b) := by decide
  have keep : ∀ b ∈ [main_arg0, main_arg1, main_arg2, main_arg3, main_arg4, main_arg5, main_arg6, main_arg7, main_arg8, main_arg9],
      r.2.mem ((SparseCore.T d).loc b) = m ((SparseCore.T d).loc b) := fun b hb => by
    obtain ⟨hs, h1, h7, h8, h10, h5, h41, s2, s3, s4⟩ := arg b hb
    exact (h.1 d b hs).trans (W9_kept m d b h1 h7 h8 h10 h5 h41 s2 s3 s4)
  exact ⟨h.1 d main_v41 rfl, keep _ (by decide), keep _ (by decide), keep _ (by decide), keep _ (by decide), keep _ (by decide), keep _ (by decide),
    keep _ (by decide), keep _ (by decide), keep _ (by decide), keep _ (by decide)⟩

end Cert.Proof
end
-- ==== Proof.Frames.lean ====
/- The frames: each program runs, leaves its arguments as they were and every semaphore at zero. -/
module

public import proofs.«01_k».proof.Defs
public import proofs.«01_k».proof.Proof.Words
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.ShloMosaic.TcCoe
open Idealize.SL.Sem

theorem words_Kernel (m : (ℓ : Loc Cert.Kernel.nD Cert.Kernel.τ Cert.Kernel.sig) → Buf (Elt Bits) ℓ) (h : Cert.Pre_Kernel m) (d : Dev Cert.KernelIdeal.nD)
    (j : Cert.KernelIdeal.S200x1024.Idx) : (tokens (F := Bits) m d j).toNat < 100000 :=
  words_of_pre (F := Bits) _ _ _ _ _ _ _ _ _ _ (h d) j

theorem words_KernelIdeal (m : (ℓ : Loc Cert.KernelIdeal.nD Cert.KernelIdeal.τ Cert.KernelIdeal.sig) → Buf (Elt Ideal) ℓ) (h : Cert.Pre_KernelIdeal m) (d : Dev Cert.KernelIdeal.nD)
    (j : Cert.KernelIdeal.S200x1024.Idx) : (tokens (F := Ideal) m d j).toNat < 100000 :=
  words_of_pre (F := Ideal) _ _ _ _ _ _ _ _ _ _ (h d) j

open Cert.KernelIdeal in
/-- The kernel's frame, stated of the idealized program's text read at the machine's own floats. -/
def quietBits : Prop := ∀ (m : (ℓ : Loc nD τ sig) → Buf (Elt Bits) ℓ) (g : Dev nD → PrngReg), Cert.Pre_Kernel m →
    θ_run (Cert.KernelIdeal.defs (F := Bits)) (Cert.KernelIdeal.threads (F := Bits)) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
      ∧ r.2.sem = fun _ => 0

/-- The two programs have one text, so that is the claim about the kernel itself. -/
theorem quietBits_eq : quietBits = Cert.quiescent_Kernel := by sl_kernel_rfl

theorem frame_bits : quietBits := fun m ρ h =>
  (θ_run (Cert.KernelIdeal.defs (F := Bits)) _ _).mono (fun _ r => ⟨fun c => (r.1 c).2, r.2⟩) (run_all (F := Bits) m ρ (words_Kernel m h))

theorem frame_Kernel : Cert.quiescent_Kernel := quietBits_eq ▸ frame_bits

theorem frame_KernelIdeal : Cert.quiescent_KernelIdeal := fun m ρ h =>
  (θ_run (Cert.KernelIdeal.defs (F := Ideal)) _ _).mono (fun _ r => ⟨fun c => (r.1 c).2, r.2⟩) (run_all (F := Ideal) m ρ (words_KernelIdeal m h))

theorem frame_ReferenceIdeal : Cert.quiescent_ReferenceIdeal := fun m ρ _ =>
  (θ_run Cert.ReferenceIdeal.defs _ _).mono (fun _ r => ⟨fun c => (r c).2, sem_eq_zero_of_no_sems rfl _⟩) (Cert.ReferenceIdeal.Value.run m ρ)

theorem frame_ReferenceIdeal_pre : Cert.quiescent_ReferenceIdeal_pre_tokens_in_vocab := fun m ρ _ =>
  (θ_run Cert.ReferenceIdeal.defs _ _).mono (fun _ r => ⟨fun c => (r c).2, sem_eq_zero_of_no_sems rfl _⟩) (Cert.ReferenceIdeal.Value.run m ρ)

end Cert.Proof
end
-- ==== Proof.Chain.lean ====
/- The three stages in a row are one run of 200 steps in each direction, over the embedded tokens in their order. -/
module

public import proofs.«01_k».proof.Proof.Contents

@[expose] public section

noncomputable section

namespace Cert.Proof

open Cert.KernelIdeal Cert.KernelIdeal.Gen
open Idealize.ShloMosaic Idealize.ShloMosaic.TcCoe
open Idealize.SL.Sem
open Idealize.ShloMosaic.StableHlo (after)
open Cert.Proof.Stage

variable {F : FTy → Type} [FloatOps F]

/-- Time step `n`'s embedded tokens. -/
def embAt (tab : S100000x128.Idx → Elt F .f32) (tok : S200x1024.Idx → BitVec 32) (n : Nat) : Vec F S1x1024x128 .f32 :=
  fun j => tab (ix2 (Gather.rowOf (tok (ix2 (Fin.ofNat 200 n) (j 1)))) (j 2))

variable (m : (ℓ : Loc nD τ sig) → Buf (Elt F) ℓ) (d : Dev nD)

/-- The outer time steps as gathered. -/
theorem slab_outer (n : Nat) (hn : n < 96) :
    slab (F := F) (T := 96) (W5 m d main_v8) n = embAt (table m d) (tokens m d) (if n < 48 then n else n + 104) := by
  funext j
  have e : Fin.ofNat 96 n = ⟨n, hn⟩ := Fin.ext (Nat.mod_eq_of_lt hn)
  have h200 : (if n < 48 then n else n + 104) < 200 := by split <;> omega
  have e' : Fin.ofNat 200 (if n < 48 then n else n + 104) = outerStep ⟨n, hn⟩ := Fin.ext (Nat.mod_eq_of_lt h200)
  unfold slab embAt
  rw [e, e', W5_v8, W3_v8]
  refine (rows_at (m := 24) (table m d) (outer (tokens m d)) _ _ _ ⟨n, hn⟩ (j 1) (j 2) (by norm_num) (by norm_num)).trans ?_
  exact congrArg (fun v => table m d (ix2 (Gather.rowOf v) (j 2))) (outer_at (tokens m d) ⟨n, hn⟩ (j 1))

/-- The inner time steps as gathered. -/
theorem slab_inner (n : Nat) (hn : n < 104) :
    slab (F := F) (T := 104) (W5 m d main_v11) n = embAt (table m d) (tokens m d) (n + 48) := by
  funext j
  have e : Fin.ofNat 104 n = ⟨n, hn⟩ := Fin.ext (Nat.mod_eq_of_lt hn)
  have e' : Fin.ofNat 200 (n + 48) = innerStep ⟨n, hn⟩ := Fin.ext (Nat.mod_eq_of_lt (by omega))
  unfold slab embAt
  rw [e, e', W5_v11]
  refine (rows_at (m := 26) (table m d) (inner (tokens m d)) _ _ _ ⟨n, hn⟩ (j 1) (j 2) (by norm_num) (by norm_num)).trans ?_
  exact congrArg (fun v => table m d (ix2 (Gather.rowOf v) (j 2))) (inner_at (tokens m d) ⟨n, hn⟩ (j 1))

/-- An argument as launched. -/
abbrev arg (b : Ref sig .tc) : Buf (Elt F) ((SparseCore.T d : Thread nD τ).loc b) := m ((SparseCore.T d).loc b)

/-- The two directions' weights. -/
def wtsF : Wts F := weights (arg m d main_arg2) (arg m d main_arg3) (arg m d main_arg4) (arg m d main_arg5)
def wtsB : Wts F := weights (arg m d main_arg6) (arg m d main_arg7) (arg m d main_arg8) (arg m d main_arg9)

theorem arg4 (b : Ref sig .tc) (h1 : b ∉ touched1) (h7 : b ≠ main_v7) (h8 : b ∉ [main_v8, main_v9]) (h10 : b ≠ main_v10) : W4 m d b = arg m d b :=
  W4_kept m d b h1 h7 h8 h10

theorem wf5 : Region2.wf (W5 m d) = wtsF m d := by
  refine (congrArg₂ Wts.mk (prepare_v22 (W4 m d)) (prepare_v26 (W4 m d))).trans ?_
  rw [arg4 m d main_arg2 (by decide) (by decide) (by decide) (by decide), arg4 m d main_arg3 (by decide) (by decide) (by decide) (by decide),
    arg4 m d main_arg4 (by decide) (by decide) (by decide) (by decide), arg4 m d main_arg5 (by decide) (by decide) (by decide) (by decide)]
  rfl

theorem wb5 : Region2.wb (W5 m d) = wtsB m d := by
  refine (congrArg₂ Wts.mk (prepare_v32 (W4 m d)) (prepare_v36 (W4 m d))).trans ?_
  rw [arg4 m d main_arg6 (by decide) (by decide) (by decide) (by decide), arg4 m d main_arg7 (by decide) (by decide) (by decide) (by decide),
    arg4 m d main_arg8 (by decide) (by decide) (by decide) (by decide), arg4 m d main_arg9 (by decide) (by decide) (by decide) (by decide)]
  rfl

/-- The stages leave the weights alone. -/
theorem wf6 : Region3.wf (W6 m d) = wtsF m d :=
  (congrArg₂ Wts.mk (Region2.after_in lvl (W5 m d) d 2 rfl) (Region2.after_in lvl (W5 m d) d 3 rfl)).trans (wf5 m d)
theorem wb6 : Region3.wb (W6 m d) = wtsB m d :=
  (congrArg₂ Wts.mk (Region2.after_in lvl (W5 m d) d 4 rfl) (Region2.after_in lvl (W5 m d) d 5 rfl)).trans (wb5 m d)
theorem wf7 : Region4.wf (W7 m d) = wtsF m d :=
  (congrArg₂ Wts.mk (Region3.after_in lvl (W6 m d) d 2 rfl) (Region3.after_in lvl (W6 m d) d 3 rfl)).trans (wf6 m d)
theorem wb7 : Region4.wb (W7 m d) = wtsB m d :=
  (congrArg₂ Wts.mk (Region3.after_in lvl (W6 m d) d 4 rfl) (Region3.after_in lvl (W6 m d) d 5 rfl)).trans (wb6 m d)

/-- And the gathered rows. -/
theorem X6 : W6 m d main_v11 = W5 m d main_v11 := Region2.after_of_ne lvl (W5 m d) d main_v11 (by decide)
theorem X7 : W7 m d main_v8 = W5 m d main_v8 :=
  (Region3.after_of_ne lvl (W6 m d) d main_v8 (by decide)).trans (Region2.after_in lvl (W5 m d) d 0 rfl)

/-- The state both directions start from. -/
def start : St F := ⟨zeroState, zeroState⟩

/-- The two directions' states after `n` steps. -/
def fwd (n : Nat) : St F := start.run (wtsF m d) (embAt (table m d) (tokens m d)) n
def bwd (n : Nat) : St F := start.run (wtsB m d) (fun k => embAt (table m d) (tokens m d) (199 - k)) n

theorem sF2 : Region2.sF (W5 m d) 48 = fwd m d 48 := by
  unfold Region2.sF fwd
  rw [wf5, show Region2.f0 (W5 m d) = start from congrArg₂ St.mk (prepare_v37 (W4 m d)) (prepare_v37 (W4 m d))]
  exact St.run_congr _ _ _ fun k hk => (slab_outer m d k (by omega)).trans (by rw [if_pos hk])
theorem sB2 : Region2.sB (W5 m d) 48 = bwd m d 48 := by
  unfold Region2.sB bwd
  rw [wb5, show Region2.b0 (W5 m d) = start from congrArg₂ St.mk (prepare_v37 (W4 m d)) (prepare_v37 (W4 m d))]
  exact St.run_congr _ _ _ fun k hk => (slab_outer m d (95 - k) (by omega)).trans
    (by rw [if_neg (by omega), show 95 - k + 104 = 199 - k by omega])

theorem sF3 : Region3.sF (W6 m d) 104 = fwd m d 152 := by
  unfold Region3.sF
  rw [wf6, show Region3.f0 (W6 m d) = fwd m d 48 from (congrArg₂ St.mk (Region2.after_hf lvl (W5 m d) d) (Region2.after_cf lvl (W5 m d) d)).trans (sF2 m d)]
  refine Eq.trans ?_ (St.run_add _ _ _ 48 104).symm
  refine St.run_congr _ _ _ fun k hk => ?_
  show slab (F := F) (T := 104) (W6 m d main_v11) k = _
  rw [X6, slab_inner m d k hk, add_comm]
theorem sB3 : Region3.sB (W6 m d) 104 = bwd m d 152 := by
  unfold Region3.sB
  rw [wb6, show Region3.b0 (W6 m d) = bwd m d 48 from (congrArg₂ St.mk (Region2.after_hb lvl (W5 m d) d) (Region2.after_cb lvl (W5 m d) d)).trans (sB2 m d)]
  refine Eq.trans ?_ (St.run_add _ _ _ 48 104).symm
  refine St.run_congr _ _ _ fun k hk => ?_
  show slab (F := F) (T := 104) (W6 m d main_v11) (103 - k) = _
  rw [X6, slab_inner m d (103 - k) (by omega), show 103 - k + 48 = 199 - (48 + k) by omega]

theorem sF4 : Region4.sF (W7 m d) 48 = fwd m d 200 := by
  unfold Region4.sF
  rw [wf7, show Region4.f0 (W7 m d) = fwd m d 152 from (congrArg₂ St.mk (Region3.after_hf lvl (W6 m d) d) (Region3.after_cf lvl (W6 m d) d)).trans (sF3 m d)]
  refine Eq.trans ?_ (St.run_add _ _ _ 152 48).symm
  refine St.run_congr _ _ _ fun k hk => ?_
  show slab (F := F) (T := 96) (W7 m d main_v8) (48 + k) = _
  rw [X7, slab_outer m d (48 + k) (by omega), if_neg (by omega), show 48 + k + 104 = 152 + k by omega]
theorem sB4 : Region4.sB (W7 m d) 48 = bwd m d 200 := by
  unfold Region4.sB
  rw [wb7, show Region4.b0 (W7 m d) = bwd m d 152 from (congrArg₂ St.mk (Region3.after_hb lvl (W6 m d) d) (Region3.after_cb lvl (W6 m d) d)).trans (sB3 m d)]
  refine Eq.trans ?_ (St.run_add _ _ _ 152 48).symm
  refine St.run_congr _ _ _ fun k hk => ?_
  show slab (F := F) (T := 96) (W7 m d main_v8) (47 - k) = _
  rw [X7, slab_outer m d (47 - k) (by omega), if_pos (by omega), show 47 - k = 199 - (152 + k) by omega]

/-- The result: both directions' last hidden states, side by side. -/
theorem W9_v41 : (W9 m d main_v41 : S1024x256.Idx → Elt F .f32)
    = concatenate S1024x256 1 [⟨S1024x128, (fwd m d 200).h⟩, ⟨S1024x128, (bwd m d 200).h⟩] concatenates_S1024x128_S1024x128_S1024x256_d1 := by
  have e : (W9 m d main_v41 : S1024x256.Idx → Elt F .f32)
      = concatenate S1024x256 1 [⟨S1024x128, (W8 m d main_v40_0 : S1024x128.Idx → Elt F .f32)⟩, ⟨S1024x128, (W8 m d main_v40_2 : S1024x128.Idx → Elt F .f32)⟩] concatenates_S1024x128_S1024x128_S1024x256_d1 := by
    unfold W9 join
    after_results
  have ef : (W8 m d main_v40_0 : S1024x128.Idx → Elt F .f32) = (fwd m d 200).h := (Region4.after_hf lvl (W7 m d) d).trans (congrArg St.h (sF4 m d))
  have eb : (W8 m d main_v40_2 : S1024x128.Idx → Elt F .f32) = (bwd m d 200).h := (Region4.after_hb lvl (W7 m d) d).trans (congrArg St.h (sB4 m d))
  rw [e, ef, eb]

end Cert.Proof
end
-- ==== Proof.Logistic.lean ====
/-
# Facts of the extended reals

The logistic function is half of one plus the hyperbolic tangent of half the argument, at the infinities too; and a finite
positive factor goes through sums of extended reals.
-/
module

public import Idealize.ShloMosaic.Lib.IdealHost

@[expose] public section

noncomputable section

namespace Cert.Proof

open Idealize.ShloMosaic
open scoped BigOperators

/-- One half, as an extended real. -/
def oneHalf : EReal := ((1 / 2 : ℝ) : EReal)

theorem half_f32 : Ideal.ofBits .f32 0x3F000000#32 = oneHalf := by
  simp [oneHalf, Ideal.ofBits, Ideal.ieee, -EReal.coe_mul]
  norm_num
theorem half_bf16 : Ideal.ofBits .bf16 0x3F00#16 = oneHalf := by
  simp [oneHalf, Ideal.ofBits, Ideal.ieee, -EReal.coe_mul]
  norm_num

/-- The logistic function, as the reference writes it. -/
def sgm (a : EReal) : EReal := Ideal.div 1 (1 + Ideal.exp (-a))

theorem real_sig (r : ℝ) : 1 / 2 * Real.tanh (r * (1 / 2)) + 1 / 2 = (1 + Real.exp (-r))⁻¹ := by
  have e : Real.exp (-r) = Real.exp (-(r * (1 / 2))) * Real.exp (-(r * (1 / 2))) := by
    rw [← Real.exp_add]
    congr 1
    ring
  have u := Real.exp_pos (r * (1 / 2))
  have v := Real.exp_pos (-(r * (1 / 2)))
  have uv : Real.exp (r * (1 / 2)) * Real.exp (-(r * (1 / 2))) = 1 := by rw [← Real.exp_add]; simp
  rw [Real.tanh_eq_sinh_div_cosh, Real.sinh_eq, Real.cosh_eq, e]
  generalize Real.exp (r * (1 / 2)) = p at u uv ⊢
  generalize Real.exp (-(r * (1 / 2))) = q at v uv ⊢
  have : p + q ≠ 0 := by positivity
  have : 1 + q * q ≠ 0 := by positivity
  field_simp
  nlinarith

/-- Half the hyperbolic tangent of half of `a`, plus one half, is the logistic function of `a`. -/
theorem half_tanh (a : EReal) : oneHalf * Ideal.tanh (a * oneHalf) + oneHalf = sgm a := by
  show _ = Ideal.logistic a
  induction a with
  | bot =>
    rw [oneHalf, EReal.bot_mul_coe_of_pos (by norm_num), Ideal.tanh_bot, Ideal.logistic_bot]
    rw [show (-1 : EReal) = ((-1 : ℝ) : EReal) from rfl, ← EReal.coe_mul, ← EReal.coe_add]
    norm_num
  | top =>
    rw [oneHalf, EReal.top_mul_coe_of_pos (by norm_num), Ideal.tanh_top, Ideal.logistic_top, mul_one, ← EReal.coe_add]
    norm_num
  | coe r =>
    rw [oneHalf, ← EReal.coe_mul, Ideal.tanh_coe, Ideal.logistic_coe, ← EReal.coe_mul, ← EReal.coe_add, real_sig]

/-- A finite positive factor goes through a sum of two. -/
theorem add_mul_pos {s : ℝ} (hs : 0 ≤ s) (x y : EReal) : (x + y) * (s : EReal) = x * s + y * s := by
  rw [mul_comm, EReal.left_distrib_of_nonneg_of_ne_top (EReal.coe_nonneg.mpr hs) (EReal.coe_ne_top s), mul_comm x, mul_comm y]

/-- A finite positive factor of every term of a sum of products comes out. -/
theorem sum_mul_pos {ι : Type} (S : Finset ι) {s : ℝ} (hs : 0 ≤ s) (x w : ι → EReal) :
    ∑ k ∈ S, x k * (w k * (s : EReal)) = (∑ k ∈ S, x k * w k) * (s : EReal) := by
  classical
  induction S using Finset.induction_on with
  | empty => simp
  | insert a S ha ih => rw [Finset.sum_insert ha, Finset.sum_insert ha, ih, add_mul_pos hs, mul_assoc]

end Cert.Proof

end
-- ==== Proof.Cell.lean ====
/-
# One LSTM step over the extended reals

`cellC` and `cellH` are the textbook step, entry by entry. The kernel's step, with the weights' columns scaled beforehand and
both products taken as one, is that step (`step_eq`).
-/
module

public import proofs.«01_k».proof.Proof.Chain
public import proofs.«01_k».proof.Proof.Logistic
public import Idealize.ShloMosaic.Lib.MatmulPlain
public import Idealize.ShloMosaic.Lib.ValueLayout

@[expose] public section

noncomputable section

namespace Cert.Proof

open Cert.KernelIdeal Cert.KernelIdeal.Gen
open Idealize.ShloMosaic hiding ix1 ix2 ix3 eq_ix2
open Idealize.ShloMosaic.TcCoe
open Idealize.ShloMosaic.ValueIdx
open Cert.Proof.Stage
open scoped BigOperators

/-- Entry `y` of gate `g` (input, forget, candidate, output) among the 512 columns. -/
def col (g : Fin 4) (y : Fin 128) : Fin 512 := ⟨128 * g.val + y.val, by omega⟩

/-- The two matrices and the two biases of one direction. -/
structure Params where
  Wi : S512x128.Idx → EReal
  Wh : S512x128.Idx → EReal
  bi : S512.Idx → EReal
  bh : S512.Idx → EReal

/-- A hidden and a cell state. -/
structure Pair where
  h : S1024x128.Idx → EReal
  c : S1024x128.Idx → EReal

variable (p : Params) (x : S1024x128.Idx → EReal) (s : Pair)

/-- The pre-activation of column `q` for batch entry `r`. -/
def preact (r : Fin 1024) (q : Fin 512) : EReal :=
  ((∑ k : Fin 128, x (ix2 r k) * p.Wi (ix2 q k)) + ∑ k : Fin 128, s.h (ix2 r k) * p.Wh (ix2 q k)) + p.bi (ix1 q) + p.bh (ix1 q)

/-- The next cell state. -/
def cellC : S1024x128.Idx → EReal := fun j =>
  sgm (preact p x s (j 0) (col 1 (j 1))) * s.c j + sgm (preact p x s (j 0) (col 0 (j 1))) * Ideal.tanh (preact p x s (j 0) (col 2 (j 1)))
/-- The next hidden state. -/
def cellH : S1024x128.Idx → EReal := fun j => sgm (preact p x s (j 0) (col 3 (j 1))) * Ideal.tanh (cellC p x s j)
/-- The next state. -/
def cell : Pair := ⟨cellH p x s, cellC p x s⟩

/-! ## The scaled weights -/

/-- What gate `g`'s columns are scaled by. -/
def scaleOf (g : Fin 4) : ℝ := if g = 2 then 1 else 1 / 2

theorem scaleOf_nonneg (g : Fin 4) : 0 ≤ scaleOf g := by
  unfold scaleOf
  split <;> norm_num
theorem scaleOf_half {g : Fin 4} (h : g ≠ 2) : ((scaleOf g : ℝ) : EReal) = oneHalf := by rw [scaleOf, if_neg h]; rfl

/-- One gate's columns of the scale. -/
abbrev splat (w : BitVec 32) : S1x128.Idx → EReal := broadcastInDim S1x128 ![] bcast_S_S1x128 (constant S_ .f32 w : FVec Ideal S_ .f32)
/-- The four gates' columns. -/
abbrev splats : List ((s : Shape) × (s.Idx → EReal)) :=
  [⟨S1x128, splat 0x3F000000#32⟩, ⟨S1x128, splat 0x3F000000#32⟩, ⟨S1x128, splat 0x3F800000#32⟩, ⟨S1x128, splat 0x3F000000#32⟩]

theorem gateScale_piece (g : Fin 4) (y : Fin 128) (w : BitVec 32) (hw : splats[g.val]'g.isLt = ⟨S1x128, splat w⟩)
    (hpre : (((splats.take g.val).map (·.1)).map fun s => if h : s.rank = S1x512.rank then s.size ((1 : Fin S1x512.rank).cast h.symm) else 0).sum = 128 * g.val) :
    (gateScale (F := Ideal)) (ix2 (0 : Fin 1) (col g y)) = Ideal.ofBits .f32 w :=
  concatenate_apply_piece (1 : Fin S1x512.rank) splats concatenates_S1x128_S1x128_S1x128_S1x128_S1x512_d1 (ix2 (0 : Fin 1) (col g y))
    g.val g.isLt S1x128 (splat w) hw rfl (128 * g.val) hpre (ix2 (0 : Fin 1) y)
    (fun b hb => by
      match b with
      | ⟨0, _⟩ => rfl
      | ⟨1, _⟩ => exact absurd rfl hb) rfl

theorem gateScale_at (g : Fin 4) (y : Fin 128) : (gateScale (F := Ideal)) (ix2 (0 : Fin 1) (col g y)) = (scaleOf g : EReal) := by
  match g with
  | 0 => exact (gateScale_piece 0 y 0x3F000000#32 rfl rfl).trans (half_f32.trans (scaleOf_half (by decide)).symm)
  | 1 => exact (gateScale_piece 1 y 0x3F000000#32 rfl rfl).trans (half_f32.trans (scaleOf_half (by decide)).symm)
  | 2 => exact (gateScale_piece 2 y 0x3F800000#32 rfl rfl).trans (Ideal.ofBits_one_f32.trans (by simp [scaleOf]))
  | 3 => exact (gateScale_piece 3 y 0x3F000000#32 rfl rfl).trans (half_f32.trans (scaleOf_half (by decide)).symm)

/-- The direction's weights as the stages take them. -/
abbrev wts : Wts Ideal := weights (F := Ideal) p.Wi p.Wh p.bi p.bh

theorem spread_at (g : Fin 4) (k : Fin 256) (y : Fin 128) :
    broadcastInDim S256x512 ![0, 1] bcast_S1x512_S256x512_0_1 (gateScale (F := Ideal)) (ix2 k (col g y)) = (scaleOf g : EReal) :=
  (broadcastInDim_apply _ _ _ _ (ix2 (0 : Fin 1) (col g y)) fun a => by
    match a with
    | ⟨0, _⟩ => rfl
    | ⟨1, _⟩ => rfl).trans (gateScale_at g y)

/-- The upper half's weights. -/
theorem W_upper (g : Fin 4) (k : Fin 128) (y : Fin 128) :
    (wts p).W (ix2 (Fin.castAdd 128 k) (col g y)) = p.Wi (ix2 (col g y) k) * (scaleOf g : EReal) := by
  refine congrArg₂ (· * ·) ?_ (spread_at g (Fin.castAdd 128 k) y)
  unfold stacked
  exact (concatenate_pair_apply_left (s₁ := S128x512) (0 : Fin S256x512.rank) _ _ _ _ rfl (ix2 k (col g y)) fun b => by
    match b with
    | ⟨0, _⟩ => rfl
    | ⟨1, _⟩ => rfl).trans (transpose_ix2_apply p.Wi _ k (col g y))

/-- The lower half's weights. -/
theorem W_lower (g : Fin 4) (k : Fin 128) (y : Fin 128) :
    (wts p).W (ix2 (Fin.natAdd 128 k) (col g y)) = p.Wh (ix2 (col g y) k) * (scaleOf g : EReal) := by
  refine congrArg₂ (· * ·) ?_ (spread_at g (Fin.natAdd 128 k) y)
  unfold stacked
  exact (concatenate_pair_apply_right (s₁ := S128x512) (s₂ := S128x512) (0 : Fin S256x512.rank) _ _ _ (ix2 (Fin.natAdd 128 k) (col g y)) rfl rfl (ix2 k (col g y)) (fun b hb => by
    match b with
    | ⟨0, _⟩ => exact absurd rfl hb
    | ⟨1, _⟩ => rfl) (Nat.add_comm _ _)).trans (transpose_ix2_apply p.Wh _ k (col g y))

theorem b_at (g : Fin 4) (y : Fin 128) :
    (wts p).b (ix2 (0 : Fin 1) (col g y)) = (p.bi (ix1 (col g y)) + p.bh (ix1 (col g y))) * (scaleOf g : EReal) :=
  congrArg₂ (· * ·) (shapeCast_a_1a_apply (addf (F := Ideal) (φ := .f32) p.bi p.bh) shapeCasts_S512_S1x512 0 (col g y)) (gateScale_at g y)

/-! ## The pre-activations -/

/-- A time step's embedded tokens without the unit axis. -/
def flat (X : Vec Ideal S1x1024x128 .f32) : S1024x128.Idx → EReal := fun j => X (ix3 (0 : Fin 1) (j 0) (j 1))

theorem lowX_at (X : Vec Ideal S1x1024x128 .f32) (j : S1024x128.Idx) : lowX X j = flat X j := by
  unfold lowX
  rw [shapeCast_self, eq_ix2 j]
  exact shapeCast_1ab_ab_apply X shapeCasts_S1x1024x128_S1024x128 (j 0) (j 1)

variable (X : Vec Ideal S1x1024x128 .f32)

theorem seen_upper (r : Fin 1024) (k : Fin 128) : seen X s.h (ix2 r (Fin.castAdd 128 k)) = flat X (ix2 r k) :=
  (dif_pos k.isLt).trans (lowX_at X _)
theorem seen_lower (r : Fin 1024) (k : Fin 128) : seen X s.h (ix2 r (Fin.natAdd 128 k)) = s.h (ix2 r k) := by
  refine (dif_neg (show ¬ (128 + k.val < 128) by omega)).trans ?_
  rw [lowS_eq]
  exact congrArg s.h (congrArg (ix2 r) (Fin.ext (Nat.add_sub_cancel_left 128 k.val)))

/-- The kernel's pre-activations are the step's, scaled. -/
theorem pre_at (g : Fin 4) (r : Fin 1024) (y : Fin 128) :
    pre (F := Ideal) (wts p).W (wts p).b (seen X s.h) (ix2 r (col g y)) = preact p (flat X) s r (col g y) * (scaleOf g : EReal) := by
  have hs := scaleOf_nonneg g
  have hmul : matmul (φ₁ := .bf16) (φ₂ := .bf16) dot_S1024x256_S256x512_S1024x512_1_0_0_1_n_n none (seen X s.h) (wts p).W (constant S1024x512 .f32 0x00000000#32) (ix2 r (col g y))
      = ((∑ k : Fin 128, flat X (ix2 r k) * p.Wi (ix2 (col g y) k)) + ∑ k : Fin 128, s.h (ix2 r k) * p.Wh (ix2 (col g y) k)) * (scaleOf g : EReal) := by
    refine (Ideal.matmul_plain_apply (M := 1024) (K := 256) (N := 512) none (seen X s.h) (wts p).W _ r (col g y)).trans ?_
    refine (congrArg (· + _) Ideal.ofBits_zero_f32).trans ((zero_add _).trans ?_)
    refine (Fin.sum_univ_add (a := 128) (b := 128) fun k => seen X s.h (ix2 r k) * (wts p).W (ix2 k (col g y))).trans ?_
    rw [add_mul_pos hs, ← sum_mul_pos _ hs, ← sum_mul_pos _ hs]
    refine congrArg₂ (· + ·) (Finset.sum_congr rfl fun k _ => ?_) (Finset.sum_congr rfl fun k _ => ?_)
    · rw [seen_upper, W_upper]
    · rw [seen_lower, W_lower]
  have hb : broadcastTo S1024x512 (wts p).b broadcasts_S1x512_S1024x512 (ix2 r (col g y)) = (wts p).b (ix2 (0 : Fin 1) (col g y)) :=
    broadcastTo_apply _ _ _ _ fun a => by
      match a with
      | ⟨0, _⟩ => rfl
      | ⟨1, _⟩ => rfl
  unfold pre
  rw [shapeCast_self, shapeCast_self]
  refine (congrArg₂ (· + ·) hmul (hb.trans (b_at p g y))).trans ?_
  rw [← add_mul_pos hs, preact, add_assoc _ (p.bi _) (p.bh _)]

/-! ## The gates -/

theorem cut_at (g : Fin 4) (z : FVec Ideal S1024x512 .bf16) (h : S1024x512.Slices ![0, 128 * g.val] S1024x128) (j : S1024x128.Idx) :
    extractStridedSlice S1024x128 ![0, 128 * g.val] z h j = z (ix2 (j 0) (col g (j 1))) := by
  conv_lhs => rw [eq_ix2 j]
  exact slice2_axis1_apply (n0 := 1024) (n1 := 512) (m := 128) (128 * g.val) z h (j 0) (j 1) (col g (j 1)) rfl

/-- A logistic gate. -/
theorem logis_at {g : Fin 4} (hg : g ≠ 2) (h : S1024x512.Slices ![0, 128 * g.val] S1024x128) (j : S1024x128.Idx) :
    logis (F := Ideal) (extractStridedSlice S1024x128 ![0, 128 * g.val] (pre (wts p).W (wts p).b (seen X s.h)) h) j
      = sgm (preact p (flat X) s (j 0) (col g (j 1))) := by
  have e := (cut_at g _ h j).trans (pre_at p s X g (j 0) (j 1))
  rw [scaleOf_half hg] at e
  rw [← half_tanh, ← e, ← half_bf16]
  rfl

/-- The candidate. -/
theorem cand_at (j : S1024x128.Idx) :
    gateG (F := Ideal) (pre (wts p).W (wts p).b (seen X s.h)) j = Ideal.tanh (preact p (flat X) s (j 0) (col 2 (j 1))) := by
  have e := (cut_at 2 _ slices_S1024x512_o0_256_S1024x128 j).trans (pre_at p s X 2 (j 0) (j 1))
  rw [show scaleOf 2 = 1 from if_pos rfl, EReal.coe_one, mul_one] at e
  exact congrArg Ideal.tanh e

theorem nextC_eq : nextC (F := Ideal) (wts p).W (wts p).b X s.h s.c = cellC p (flat X) s := by
  funext j
  exact congrArg₂ (· + ·) (congrArg (· * s.c j) (logis_at p s X (g := 1) (by decide) slices_S1024x512_o0_128_S1024x128 j))
    (congrArg₂ (· * ·) (logis_at p s X (g := 0) (by decide) slices_S1024x512_o0_0_S1024x128 j) (cand_at p s X j))

theorem nextH_eq : nextH (F := Ideal) (wts p).W (wts p).b X s.h s.c = cellH p (flat X) s := by
  funext j
  exact congrArg₂ (· * ·) (logis_at p s X (g := 3) (by decide) slices_S1024x512_o0_384_S1024x128 j)
    (congrArg Ideal.tanh (congrFun (nextC_eq p s X) j))

/-- The kernel's step is the textbook step. -/
theorem step_eq : St.step (F := Ideal) (wts p) X ⟨s.h, s.c⟩ = ⟨(cell p (flat X) s).h, (cell p (flat X) s).c⟩ := by
  unfold St.step
  rw [nextH_eq p s X, nextC_eq p s X]
  rfl

end Cert.Proof

end
-- ==== Proof.RefTake.lean ====
/-
# The reference's lookup

What the reference's host operations before its scan leave: where every token is a row of the table, the embedded tokens are
the table's rows at the tokens, and the scan starts from them, from them in reverse order of time, and from zero states.
-/
module

public import proofs.«01_k».proof.Proof.Gen.ReferenceIdeal.Run
public import proofs.«01_k».proof.Proof.Rows
public import Idealize.ShloMosaic.Lib.ReduceAll
public import Idealize.ShloMosaic.Lib.ValueIdxCore
public import Idealize.ShloMosaic.Lib.Pipeline.Value

@[expose] public section

noncomputable section

namespace Cert.Proof.Ref

open Cert.ReferenceIdeal Cert.ReferenceIdeal.Gen
open Idealize.ShloMosaic hiding ix1 ix2 ix3 eq_ix2 eq_ix3
open Idealize.ShloMosaic.TcCoe
open Idealize.ShloMosaic.ValueIdx

variable {α : Type}

/-! ## The gather -/

abbrev takeD := gather_S100000x128_S200x1024x1_S200x1024x128_2_0_n_n_0_2_1128

/-- Entry `(t, b, y)` of the gather is the table's entry `y` of the row the index at `(t, b)` names. -/
theorem gather_at (tab : S100000x128.Idx → α) (idx : IVec S200x1024x1 32) (t : Fin 200) (b : Fin 1024) (y : Fin 128)
    (h : (idx (ix3 t b (0 : Fin 1))).toNat < 100000) :
    Host.gather takeD tab idx (ix3 t b y) = tab (ix2 (Gather.rowOf (idx (ix3 t b (0 : Fin 1)))) y) := by
  unfold Host.gather
  refine congrArg tab (funext fun a => Fin.ext ?_)
  show takeD.start (ix3 t b y) idx a + takeD.batchCoord (ix3 t b y) a + takeD.offCoord (ix3 t b y) a = _
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (⟨0, by decide⟩ : Fin 2) ∈ takeD.startIndexMap from List.mem_singleton.mpr rfl)]
    have hsi : takeD.siIdx (ix3 t b y) ⟨List.idxOf (⟨0, by decide⟩ : Fin 2) takeD.startIndexMap,
        List.idxOf_lt_length_iff.2 (List.mem_singleton.mpr rfl)⟩ = ix3 t b (0 : Fin 1) := by
      funext e; refine Fin.ext ?_
      match e with
      | ⟨0, _⟩ => rfl
      | ⟨1, _⟩ => rfl
      | ⟨2, _⟩ => rfl
    rw [hsi]
    show min (idx (ix3 t b (0 : Fin 1))).toInt.toNat 99999 + 0 + 0 = (idx (ix3 t b (0 : Fin 1))).toNat % 100000
    have e := BitVec.toInt_eq_toNat_cond (idx (ix3 t b (0 : Fin 1)))
    split at e <;> omega
  | ⟨1, _⟩ =>
    rw [GatherDims.batchCoord_eq_zero _ _ _ List.not_mem_nil]
    unfold GatherDims.start GatherDims.offCoord
    rw [dif_neg (show (⟨1, by decide⟩ : Fin 2) ∉ takeD.startIndexMap by decide), dif_pos (show (⟨1, by decide⟩ : Fin 2) ∈ takeD.sKept by decide)]
    exact Nat.zero_add _

/-- A choice by a bit that is 1. -/
theorem select_one {s : Shape} (c : IVec s 1) (a b : s.Idx → α) (j : s.Idx) (h : c j = 1#1) : select c a b j = a j := if_pos h

/-! ## The lookup -/

variable {F : FTy → Type} [FloatOps F] (tab : S100000x128.Idx → Elt F .f32) (tok : S200x1024.Idx → BitVec 32)

/-- The tokens with the negative ones counted from the table's end. -/
def wrapped : S200x1024.Idx → BitVec 32 :=
  select (cmpi .slt tok (broadcastInDim S200x1024 ![] bcast_S_S200x1024 (constantI S_ 32 0#32)))
    (addi tok (broadcastInDim S200x1024 ![] bcast_S_S200x1024 (constantI S_ 32 100000#32))) tok
/-- The gather's indices. -/
def places : S200x1024x1.Idx → BitVec 32 := broadcastInDim S200x1024x1 ![0, 1] bcast_S200x1024_S200x1024x1_0_1 (wrapped tok)
/-- Which indices are rows of the table. -/
def inside : S200x1024x1.Idx → BitVec 1 :=
  andi (cmpi .sge (places tok) (broadcastInDim S200x1024x1 ![] bcast_S_S200x1024x1 (constantI S_ 32 0#32)))
    (cmpi .sle (places tok) (broadcastInDim S200x1024x1 ![0, 1, 2] bcast_S1x1x1_S200x1024x1_0_1_2
      (broadcastInDim S1x1x1 ![2] bcast_S1_S1x1x1_2 (constantI S1 32 99999#32))))
/-- The embedded tokens. -/
def taken : S200x1024x128.Idx → Elt F .f32 :=
  select (broadcastInDim S200x1024x128 ![0, 1] bcast_S200x1024_S200x1024x128_0_1
      (Host.reduce IntOp.andi (inside tok) (constantI S_ 1 1#1) reducesTo_S200x1024x1_S200x1024_d2 h_S_))
    (Host.gather takeD tab (places tok))
    (broadcastInDim S200x1024x128 ![] bcast_S_S200x1024x128 (constant S_ .f32 0x7FC00000#32 : FVec F S_ .f32))

variable (hw : ∀ j, (tok j).toNat < 100000)
include hw

theorem wrapped_eq : wrapped tok = tok := by
  funext j
  have h := hw j
  have e := BitVec.toInt_eq_toNat_cond (tok j)
  have hlt : (tok j).slt 0#32 = false := by
    rw [BitVec.slt_eq_decide, BitVec.toInt_zero]
    refine decide_eq_false ?_
    split at e <;> omega
  show (if BitVec.ofBool ((tok j).slt 0#32) = 1 then _ else tok j) = tok j
  rw [hlt]
  rfl

theorem places_at (t : Fin 200) (b : Fin 1024) (u : Fin 1) : places tok (ix3 t b u) = tok (ix2 t b) := by
  unfold places
  rw [wrapped_eq tok hw]
  exact broadcastInDim_apply _ _ _ _ _ fun a => by
    match a with
    | ⟨0, _⟩ => rfl
    | ⟨1, _⟩ => rfl

theorem inside_one (i : S200x1024x1.Idx) : inside tok i = 1#1 := by
  have hp : (places tok i).toNat < 100000 := by
    have e : i = ix3 (i 0) (i 1) (i 2) := eq_ix3 i
    rw [e]
    exact lt_of_eq_of_lt (congrArg BitVec.toNat (places_at tok hw (i 0) (i 1) (i 2))) (hw _)
  have e := BitVec.toInt_eq_toNat_cond (places tok i)
  have h1 : (0#32).sle (places tok i) = true := by
    rw [BitVec.sle_eq_decide, BitVec.toInt_zero]
    refine decide_eq_true ?_
    split at e <;> omega
  have h2 : (places tok i).sle 99999#32 = true := by
    rw [BitVec.sle_eq_decide, show (99999#32).toInt = 99999 by decide]
    refine decide_eq_true ?_
    split at e <;> omega
  show IntOp.andi (BitVec.ofBool ((0#32).sle (places tok i))) (BitVec.ofBool ((places tok i).sle 99999#32)) = 1#1
  rw [h1, h2]
  rfl

/-- Where every token is a row of the table, the embedded tokens are the table's rows at the tokens. -/
theorem taken_at (t : Fin 200) (b : Fin 1024) (y : Fin 128) :
    taken tab tok (ix3 t b y) = tab (ix2 (Gather.rowOf (tok (ix2 t b))) y) := by
  have one : (broadcastInDim S200x1024x128 ![0, 1] bcast_S200x1024_S200x1024x128_0_1
      (Host.reduce IntOp.andi (inside tok) (constantI S_ 1 1#1) reducesTo_S200x1024x1_S200x1024_d2 h_S_)) (ix3 t b y) = 1#1 :=
    Host.reduce_andi_one (inside tok) _ _ _ _ rfl (inside_one tok hw)
  unfold taken
  refine (select_one _ _ _ _ one).trans ?_
  refine (gather_at tab (places tok) t b y ?_).trans ?_
  · rw [places_at tok hw]; exact hw _
  · rw [places_at tok hw]

end Cert.Proof.Ref

end
-- ==== Proof.RefCell.lean ====
/-
# The reference's step

One trip of the reference's scan, over the extended reals: the products, the biases and the gates are the
textbook step's, entry by entry (`nextC_eq`, `nextH_eq`), on the slice of the embedded tokens at the counter (`sliceAt_eq`).
-/
module

public import proofs.«01_k».proof.Proof.Cell
public import proofs.«01_k».proof.Proof.RefTake
public import Idealize.ShloMosaic.Lib.StackMember
public import Idealize.ShloMosaic.Lib.DynamicIndex

@[expose] public section

noncomputable section

namespace Cert.Proof.Ref

open Cert.ReferenceIdeal Cert.ReferenceIdeal.Gen
open Idealize.ShloMosaic hiding ix1 ix2 ix3 eq_ix2 eq_ix3
open Idealize.ShloMosaic.TcCoe
open Idealize.ShloMosaic.ValueIdx
open scoped BigOperators

/-! ## The terms of one step -/

/-- The embedded tokens at the counter's time step. -/
def sliceAt (E : S200x1024x128.Idx → EReal) (n : S_.Idx → BitVec 32) : S1024x128.Idx → EReal :=
  shapeCast S1024x128 (Host.dynamicSlice S1x1024x128 E
    (fun k => ((![n, constantI S_ 32 0#32, constantI S_ 32 0#32] : Fin 3 → S_.Idx → BitVec 32) k (Shape.Idx.first h_S_)).toInt)
    sliceFits_S200x1024x128_S1x1024x128) shapeCasts_S1x1024x128_S1024x128

/-- The product with a transposed matrix. -/
def prod (a : S1024x128.Idx → EReal) (w : S512x128.Idx → EReal) : S1024x512.Idx → EReal :=
  Host.dotGeneral (F := Ideal) (φ₁ := .f32) (φ₂ := .f32) dot_S1024x128_S128x512_S1024x512_1_0_0_1_n_n none a
    (transpose S128x512 [1, 0] w transposes_S512x128_S128x512_1_0)

/-- A bias for every batch entry. -/
def rows (b : S512.Idx → EReal) : S1024x512.Idx → EReal :=
  broadcastInDim S1024x512 ![0, 1] bcast_S1x512_S1024x512_0_1 (broadcastInDim S1x512 ![1] bcast_S512_S1x512_1 b)

/-- The pre-activations. -/
def pre (p : Params) (x : S1024x128.Idx → EReal) (h : S1024x128.Idx → EReal) : FVec Ideal S1024x512 .f32 :=
  addf (F := Ideal) (φ := .f32) (addf (F := Ideal) (φ := .f32) (addf (F := Ideal) (φ := .f32) (prod x p.Wi) (prod h p.Wh)) (rows p.bi)) (rows p.bh)

/-- One everywhere. -/
def ones : FVec Ideal S1024x128 .f32 := broadcastInDim S1024x128 ![] bcast_S_S1024x128 (constant S_ .f32 0x3F800000#32 : FVec Ideal S_ .f32)

/-- The logistic function. -/
def logi (z : FVec Ideal S1024x128 .f32) : FVec Ideal S1024x128 .f32 := Host.divf ones (addf ones (Host.exp (Host.negf z)))

/-- The next cell state. -/
def nextC (z : FVec Ideal S1024x512 .f32) (c : FVec Ideal S1024x128 .f32) : FVec Ideal S1024x128 .f32 :=
  addf (mulf (logi (extractStridedSlice S1024x128 ![0, 128] z slices_S1024x512_S1024x128_0_128)) c)
    (mulf (logi (extractStridedSlice S1024x128 ![0, 0] z slices_S1024x512_S1024x128_0_0))
      (Host.tanh (extractStridedSlice S1024x128 ![0, 256] z slices_S1024x512_S1024x128_0_256)))

/-- The next hidden state. -/
def nextH (z : FVec Ideal S1024x512 .f32) (c' : FVec Ideal S1024x128 .f32) : FVec Ideal S1024x128 .f32 :=
  mulf (logi (extractStridedSlice S1024x128 ![0, 384] z slices_S1024x512_S1024x128_0_384)) (Host.tanh c')

/-! ## Entry by entry -/

theorem prod_at (a : S1024x128.Idx → EReal) (w : S512x128.Idx → EReal) (r : Fin 1024) (q : Fin 512) :
    prod a w (ix2 r q) = ∑ k : Fin 128, a (ix2 r k) * w (ix2 q k) := by
  refine (StackMember.dotGeneral_plain_apply (m := 1024) (k := 128) (n := 512) none a
    (transpose S128x512 [1, 0] w transposes_S512x128_S128x512_1_0) r q).trans (Finset.sum_congr rfl fun k _ => ?_)
  exact congrArg (a (ix2 r k) * ·) (transpose_ix2_apply w _ k q)

theorem rows_at (b : S512.Idx → EReal) (r : Fin 1024) (q : Fin 512) : rows b (ix2 r q) = b (ix1 q) :=
  (broadcastInDim_apply _ _ _ _ (ix2 (0 : Fin 1) q) fun a => by
    match a with
    | ⟨0, _⟩ => rfl
    | ⟨1, _⟩ => rfl).trans (broadcastInDim_apply _ _ _ _ (ix1 q) fun a => by
    match a with
    | ⟨0, _⟩ => rfl)

variable (p : Params) (x : S1024x128.Idx → EReal) (s : Pair)

theorem pre_at (r : Fin 1024) (q : Fin 512) : pre p x s.h (ix2 r q) = preact p x s r q :=
  congrArg₂ (· + ·) (congrArg₂ (· + ·) (congrArg₂ (· + ·) (prod_at x p.Wi r q) (prod_at s.h p.Wh r q)) (rows_at p.bi r q)) (rows_at p.bh r q)

theorem cut_at (g : Fin 4) (h : S1024x512.Slices ![0, 128 * g.val] S1024x128) (j : S1024x128.Idx) :
    extractStridedSlice S1024x128 ![0, 128 * g.val] (pre p x s.h) h j = preact p x s (j 0) (col g (j 1)) := by
  refine Eq.trans ?_ (pre_at p x s (j 0) (col g (j 1)))
  conv_lhs => rw [eq_ix2 j]
  exact slice2_axis1_apply (n0 := 1024) (n1 := 512) (m := 128) (128 * g.val) (pre p x s.h) h (j 0) (j 1) (col g (j 1)) rfl

theorem logi_at (z : FVec Ideal S1024x128 .f32) (j : S1024x128.Idx) : logi z j = sgm (z j) := by
  have e : ones j = (1 : EReal) := Ideal.ofBits_one_f32
  show Ideal.div (ones j) (ones j + Ideal.exp (-(z j))) = _
  rw [e]
  rfl

theorem gate_at (g : Fin 4) (h : S1024x512.Slices ![0, 128 * g.val] S1024x128) (j : S1024x128.Idx) :
    logi (extractStridedSlice S1024x128 ![0, 128 * g.val] (pre p x s.h) h) j = sgm (preact p x s (j 0) (col g (j 1))) :=
  (logi_at _ j).trans (congrArg sgm (cut_at p x s g h j))

theorem nextC_eq : nextC (pre p x s.h) s.c = cellC p x s := by
  funext j
  exact congrArg₂ (· + ·) (congrArg (· * s.c j) (gate_at p x s 1 slices_S1024x512_S1024x128_0_128 j))
    (congrArg₂ (· * ·) (gate_at p x s 0 slices_S1024x512_S1024x128_0_0 j)
      (congrArg Ideal.tanh (cut_at p x s 2 slices_S1024x512_S1024x128_0_256 j)))

theorem nextH_eq : nextH (pre p x s.h) (nextC (pre p x s.h) s.c) = cellH p x s := by
  funext j
  exact congrArg₂ (· * ·) (gate_at p x s 3 slices_S1024x512_S1024x128_0_384 j) (congrArg Ideal.tanh (congrFun (nextC_eq p x s) j))

/-- The slice at time step `k`. -/
theorem sliceAt_eq (E : S200x1024x128.Idx → EReal) (k : Nat) (hk : k < 200) :
    sliceAt E (fun _ => BitVec.ofNat 32 k) = fun j => E (ix3 (⟨k, hk⟩ : Fin 200) (j 0) (j 1)) := by
  have hs : S200x1024x128.Slices (![k, 0, 0] : Fin 3 → Nat) S1x1024x128 := ⟨rfl, fun a => by
    match a with
    | ⟨0, _⟩ => exact hk
    | ⟨1, _⟩ => exact le_refl 1024
    | ⟨2, _⟩ => exact le_refl 128⟩
  unfold sliceAt
  rw [Host.dynamicSlice_eq_extractStridedSlice S1x1024x128 E _ (![k, 0, 0] : Fin 3 → Nat) _ hs (fun a => by
    match a with
    | ⟨0, _⟩ => exact toInt_ofNat_of_lt (by omega)
    | ⟨1, _⟩ => rfl
    | ⟨2, _⟩ => rfl)]
  funext j
  conv_lhs => rw [eq_ix2 j]
  refine (shapeCast_1ab_ab_apply _ shapeCasts_S1x1024x128_S1024x128 (j 0) (j 1)).trans ?_
  exact extractStridedSlice_apply _ _ _ _ _ fun a => by
    match a with
    | ⟨0, _⟩ => rfl
    | ⟨1, _⟩ => exact (Nat.zero_add _).symm
    | ⟨2, _⟩ => exact (Nat.zero_add _).symm

end Cert.Proof.Ref

end
-- ==== Proof.RefRun.lean ====
/-
# The reference's scan

After `k` trips the two carried states are those of `k` textbook steps over the table's rows at the tokens, in the order of
time for the one direction and from the last step back for the other (`after_trips`).
-/
module

public import proofs.«01_k».proof.Proof.RefCell

@[expose] public section

noncomputable section

namespace Cert.Proof

open Idealize.ShloMosaic

/-- The states from zero over a sequence of time steps. -/
def states (p : Params) (xs : Nat → Cert.KernelIdeal.S1024x128.Idx → EReal) : Nat → Pair
  | 0 => ⟨zeroState (F := Ideal), zeroState (F := Ideal)⟩
  | n + 1 => cell p (xs n) (states p xs n)

/-- Time step `n`'s embedded tokens. -/
def emb (tab : Cert.KernelIdeal.S100000x128.Idx → EReal) (tok : Cert.KernelIdeal.S200x1024.Idx → BitVec 32) (n : Nat) :
    Cert.KernelIdeal.S1024x128.Idx → EReal := flat (embAt (F := Ideal) tab tok n)

namespace Ref

open Cert.ReferenceIdeal Cert.ReferenceIdeal.Gen Cert.ReferenceIdeal.Value
open Idealize.ShloMosaic.TcCoe
open Idealize.ShloMosaic.StableHlo

variable (m : (ℓ : Loc nD τ sig) → Buf (Elt Ideal) ℓ) (c : Dev nD)

/-- An argument as launched. -/
abbrev given (b : Ref sig .tc) : Buf (Elt Ideal) ((c.tc : Thread nD τ).loc b) := m ((c.tc : Thread nD τ).loc b)

/-- The tokens and the table. -/
abbrev tok : S200x1024.Idx → BitVec 32 := given m c main_arg0
abbrev tab : S100000x128.Idx → EReal := given m c main_arg1
/-- The two directions' weights and biases. -/
abbrev parF : Params := ⟨given m c main_arg2, given m c main_arg3, given m c main_arg4, given m c main_arg5⟩
abbrev parB : Params := ⟨given m c main_arg6, given m c main_arg7, given m c main_arg8, given m c main_arg9⟩

/-! ## What the scan starts from -/

theorem after_lookup (V : Valuation τ sig (Elt Ideal)) :
    (after hostOps0 V (Proc.devRef .tc main_v0) : S200x1024x128.Idx → EReal)
      = taken (F := Ideal) (V (Proc.devRef .tc main_arg1)) (V (Proc.devRef .tc main_arg0)) := by
  unfold taken inside places wrapped
  after_results_simp
  simp -implicitDefEqProofs only [TRef.toBuf, TRef.ofBuf, cast_cast, cast_eq]

/-- The buffers before the second stretch. -/
abbrev mid : Valuation τ sig (Elt Ideal) := after hostOps0 (fun b => m (c, b))

theorem entry_eq : entryContents preI m c = after hostOps0_1 (mid m c) := by
  simp only [entryContents, afterL_cons, afterL_nil]

theorem mid_arg (b : Ref sig .tc) (h : b ∉ hostOps0_W) : mid m c (Proc.devRef .tc b) = given m c b :=
  after_of_writes_sub (W := hostOps0_W) hostOps0 _ (forall_writes_sub_of_map rfl) h

section Second

variable (V : Valuation τ sig (Elt Ideal))

theorem second_0 : after hostOps0_1 V (Proc.devRef .tc main_v3_0) = V (Proc.devRef .tc main_v0) := by after_results; rfl
theorem second_1 : after hostOps0_1 V (Proc.devRef .tc main_v3_1) = Host.reverse (s := S200x1024x128) [0] (V (Proc.devRef .tc main_v0)) := by after_results; rfl
theorem second_2 : after hostOps0_1 V (Proc.devRef .tc main_v3_2) = V (Proc.devRef .tc main_arg2) := by after_results; rfl
theorem second_3 : after hostOps0_1 V (Proc.devRef .tc main_v3_3) = V (Proc.devRef .tc main_arg3) := by after_results; rfl
theorem second_4 : after hostOps0_1 V (Proc.devRef .tc main_v3_4) = V (Proc.devRef .tc main_arg4) := by after_results; rfl
theorem second_5 : after hostOps0_1 V (Proc.devRef .tc main_v3_5) = V (Proc.devRef .tc main_arg5) := by after_results; rfl
theorem second_6 : after hostOps0_1 V (Proc.devRef .tc main_v3_6) = V (Proc.devRef .tc main_arg6) := by after_results; rfl
theorem second_7 : after hostOps0_1 V (Proc.devRef .tc main_v3_7) = V (Proc.devRef .tc main_arg7) := by after_results; rfl
theorem second_8 : after hostOps0_1 V (Proc.devRef .tc main_v3_8) = V (Proc.devRef .tc main_arg8) := by after_results; rfl
theorem second_9 : after hostOps0_1 V (Proc.devRef .tc main_v3_9) = V (Proc.devRef .tc main_arg9) := by after_results; rfl
theorem second_11 : (after hostOps0_1 V (Proc.devRef .tc main_v3_11) : S1024x128.Idx → EReal) = zeroState (F := Ideal) := by after_results; rfl
theorem second_12 : (after hostOps0_1 V (Proc.devRef .tc main_v3_12) : S1024x128.Idx → EReal) = zeroState (F := Ideal) := by after_results; rfl
theorem second_13 : (after hostOps0_1 V (Proc.devRef .tc main_v3_13) : S1024x128.Idx → EReal) = zeroState (F := Ideal) := by after_results; rfl
theorem second_14 : (after hostOps0_1 V (Proc.devRef .tc main_v3_14) : S1024x128.Idx → EReal) = zeroState (F := Ideal) := by after_results; rfl

end Second

/-! ## The scan -/

/-- The embedded tokens, as the lookup leaves them. -/
abbrev looked : S200x1024x128.Idx → EReal := taken (F := Ideal) (tab m c) (tok m c)

/-- What the carried buffers hold after `k` trips. -/
structure Carried (k : Nat) (V : Valuation τ sig (Elt Ideal)) : Prop where
  v0 : (V (Proc.devRef .tc main_v3_0) : S200x1024x128.Idx → EReal) = looked m c
  v1 : (V (Proc.devRef .tc main_v3_1) : S200x1024x128.Idx → EReal) = Host.reverse [0] (looked m c)
  v2 : V (Proc.devRef .tc main_v3_2) = given m c main_arg2
  v3 : V (Proc.devRef .tc main_v3_3) = given m c main_arg3
  v4 : V (Proc.devRef .tc main_v3_4) = given m c main_arg4
  v5 : V (Proc.devRef .tc main_v3_5) = given m c main_arg5
  v6 : V (Proc.devRef .tc main_v3_6) = given m c main_arg6
  v7 : V (Proc.devRef .tc main_v3_7) = given m c main_arg7
  v8 : V (Proc.devRef .tc main_v3_8) = given m c main_arg8
  v9 : V (Proc.devRef .tc main_v3_9) = given m c main_arg9
  v10 : (V (Proc.devRef .tc main_v3_10) : S_.Idx → BitVec 32) = fun _ => BitVec.ofNat 32 k
  v11 : V (Proc.devRef .tc main_v3_11) = (states (parF m c) (emb (tab m c) (tok m c)) k).h
  v12 : V (Proc.devRef .tc main_v3_12) = (states (parF m c) (emb (tab m c) (tok m c)) k).c
  v13 : V (Proc.devRef .tc main_v3_13) = (states (parB m c) (fun n => emb (tab m c) (tok m c) (199 - n)) k).h
  v14 : V (Proc.devRef .tc main_v3_14) = (states (parB m c) (fun n => emb (tab m c) (tok m c) (199 - n)) k).c

theorem carried_zero : Carried m c 0 (entryContents preI m c) where
  v0 := by rw [entry_eq, second_0]; exact after_lookup _
  v1 := by rw [entry_eq, second_1]; exact congrArg (Host.reverse (s := S200x1024x128) [0]) (after_lookup _)
  v2 := by rw [entry_eq, second_2]; exact mid_arg m c main_arg2 (by decide)
  v3 := by rw [entry_eq, second_3]; exact mid_arg m c main_arg3 (by decide)
  v4 := by rw [entry_eq, second_4]; exact mid_arg m c main_arg4 (by decide)
  v5 := by rw [entry_eq, second_5]; exact mid_arg m c main_arg5 (by decide)
  v6 := by rw [entry_eq, second_6]; exact mid_arg m c main_arg6 (by decide)
  v7 := by rw [entry_eq, second_7]; exact mid_arg m c main_arg7 (by decide)
  v8 := by rw [entry_eq, second_8]; exact mid_arg m c main_arg8 (by decide)
  v9 := by rw [entry_eq, second_9]; exact mid_arg m c main_arg9 (by decide)
  v10 := ctr_entry m c
  v11 := by rw [entry_eq]; exact second_11 _
  v12 := by rw [entry_eq]; exact second_12 _
  v13 := by rw [entry_eq]; exact second_13 _
  v14 := by rw [entry_eq]; exact second_14 _

section Step

variable (V : Valuation τ sig (Elt Ideal))

/-- The forward pre-activations are the step's. -/
theorem pre_fwd : res_main_while0b_v17 V
    = pre ⟨V (Proc.devRef .tc main_v3_2), V (Proc.devRef .tc main_v3_3), V (Proc.devRef .tc main_v3_4), V (Proc.devRef .tc main_v3_5)⟩
        (sliceAt (V (Proc.devRef .tc main_v3_0)) (V (Proc.devRef .tc main_v3_10))) (V (Proc.devRef .tc main_v3_11)) := rfl
/-- The backward pre-activations are the step's. -/
theorem pre_bwd : res_main_while0b_v56 V
    = pre ⟨V (Proc.devRef .tc main_v3_6), V (Proc.devRef .tc main_v3_7), V (Proc.devRef .tc main_v3_8), V (Proc.devRef .tc main_v3_9)⟩
        (sliceAt (V (Proc.devRef .tc main_v3_1)) (V (Proc.devRef .tc main_v3_10))) (V (Proc.devRef .tc main_v3_13)) := rfl

theorem next_12 : STEP V (Proc.devRef .tc main_v3_12) = nextC (res_main_while0b_v17 V) (V (Proc.devRef .tc main_v3_12)) := by rw [STEP_main_v3_12]; rfl
theorem next_14 : STEP V (Proc.devRef .tc main_v3_14) = nextC (res_main_while0b_v56 V) (V (Proc.devRef .tc main_v3_14)) := by rw [STEP_main_v3_14]; rfl
theorem next_11 : STEP V (Proc.devRef .tc main_v3_11)
    = nextH (res_main_while0b_v17 V) (nextC (res_main_while0b_v17 V) (V (Proc.devRef .tc main_v3_12))) := by rw [STEP_main_v3_11]; rfl
theorem next_13 : STEP V (Proc.devRef .tc main_v3_13)
    = nextH (res_main_while0b_v56 V) (nextC (res_main_while0b_v56 V) (V (Proc.devRef .tc main_v3_14))) := by rw [STEP_main_v3_13]; rfl

end Step

variable (hw : ∀ j, (tok m c j).toNat < 100000)
include hw

/-- The slice of the embedded tokens at step `k`. -/
theorem slice_fwd (k : Nat) (hk : k < 200) : sliceAt (looked m c) (fun _ => BitVec.ofNat 32 k) = emb (tab m c) (tok m c) k := by
  rw [sliceAt_eq _ k hk]
  funext j
  have e : Fin.ofNat 200 k = ⟨k, hk⟩ := Fin.ext (Nat.mod_eq_of_lt hk)
  refine (taken_at (F := Ideal) (tab m c) (tok m c) hw ⟨k, hk⟩ (j 0) (j 1)).trans ?_
  rw [← e]
  rfl

/-- The slice of the reversed embedded tokens at step `k`. -/
theorem slice_bwd (k : Nat) (hk : k < 200) :
    sliceAt (Host.reverse [0] (looked m c)) (fun _ => BitVec.ofNat 32 k) = emb (tab m c) (tok m c) (199 - k) := by
  rw [← slice_fwd m c hw (199 - k) (by omega), sliceAt_eq _ k hk, sliceAt_eq _ (199 - k) (by omega)]
  funext j
  refine congrArg (looked m c) (funext fun a => Fin.ext ?_)
  match a with
  | ⟨0, _⟩ => exact (show 200 - (k + 1) = 199 - k by omega)
  | ⟨1, _⟩ => rfl
  | ⟨2, _⟩ => rfl

theorem carried_succ (k : Nat) (hk : k < 200) (V : Valuation τ sig (Elt Ideal)) (h : Carried m c k V) : Carried m c (k + 1) (STEP V) := by
  have zf : res_main_while0b_v17 V = pre (parF m c) (emb (tab m c) (tok m c) k) (states (parF m c) (emb (tab m c) (tok m c)) k).h := by
    rw [pre_fwd, h.v2, h.v3, h.v4, h.v5, h.v0, h.v10, h.v11]
    exact congrArg (fun x => pre (parF m c) x _) (slice_fwd m c hw k hk)
  have zb : res_main_while0b_v56 V = pre (parB m c) (emb (tab m c) (tok m c) (199 - k))
      (states (parB m c) (fun n => emb (tab m c) (tok m c) (199 - n)) k).h := by
    rw [pre_bwd, h.v6, h.v7, h.v8, h.v9, h.v1, h.v10, h.v13]
    exact congrArg (fun x => pre (parB m c) x _) (slice_bwd m c hw k hk)
  exact {
    v0 := (STEP_main_v3_0 V).trans h.v0
    v1 := (STEP_main_v3_1 V).trans h.v1
    v2 := (STEP_main_v3_2 V).trans h.v2
    v3 := (STEP_main_v3_3 V).trans h.v3
    v4 := (STEP_main_v3_4 V).trans h.v4
    v5 := (STEP_main_v3_5 V).trans h.v5
    v6 := (STEP_main_v3_6 V).trans h.v6
    v7 := (STEP_main_v3_7 V).trans h.v7
    v8 := (STEP_main_v3_8 V).trans h.v8
    v9 := (STEP_main_v3_9 V).trans h.v9
    v10 := by
      refine (STEP_main_v3_10 V).trans ?_
      show addi (V (Proc.devRef .tc main_v3_10) : S_.Idx → BitVec 32) (constantI S_ 32 1#32) = _
      rw [h.v10]
      funext _
      exact (BitVec.ofNat_add k 1).symm
    v11 := by rw [next_11, zf, h.v12]; exact nextH_eq (parF m c) _ _
    v12 := by rw [next_12, zf, h.v12]; exact nextC_eq (parF m c) _ _
    v13 := by rw [next_13, zb, h.v14]; exact nextH_eq (parB m c) _ _
    v14 := by rw [next_14, zb, h.v14]; exact nextC_eq (parB m c) _ _ }

/-- After `k` trips. -/
theorem after_trips : ∀ k, k ≤ 200 → Carried m c k (STEP^[k] (entryContents preI m c))
  | 0, _ => carried_zero m c
  | k + 1, hk => by
    rw [Function.iterate_succ_apply']
    exact carried_succ m c hw k hk _ (after_trips k (by omega))

/-- The reference's result: both directions' last hidden states, side by side. -/
theorem out_eq : (out_main_v4 (STEP^[200] (entryContents preI m c)) : S1024x256.Idx → EReal)
    = concatenate S1024x256 1 [⟨S1024x128, (states (parF m c) (emb (tab m c) (tok m c)) 200).h⟩,
        ⟨S1024x128, (states (parB m c) (fun n => emb (tab m c) (tok m c) (199 - n)) 200).h⟩] concatenates_S1024x128_S1024x128_S1024x256_d1 := by
  have h := after_trips m c hw 200 (le_refl _)
  unfold out_main_v4
  rw [h.v11, h.v13]

end Ref
end Cert.Proof

end
-- ==== Proof.Algebraic.lean ====
/-
# The two results are one

The kernel's result is both directions' last hidden states after 200 of its steps (`W9_v41`), each of which is the textbook step
over the extended reals (`step_eq`); the reference's is the same of 200 textbook steps (`Ref.out_eq`).
-/
module

public import proofs.«01_k».proof.Proof.Frames
public import proofs.«01_k».proof.Proof.RefRun

@[expose] public section

noncomputable section

namespace Cert.Proof

open Idealize.ShloMosaic Idealize.ShloMosaic.TcCoe
open Idealize.SL.Sem
open Stage

/-- Over the extended reals the kernel's steps are the textbook's. -/
theorem run_states (p : Params) (X : Nat → Vec Ideal Cert.KernelIdeal.S1x1024x128 .f32) : ∀ n,
    St.run (F := Ideal) (wts p) X start n = ⟨(states p (fun k => flat (X k)) n).h, (states p (fun k => flat (X k)) n).c⟩
  | 0 => rfl
  | n + 1 => by
    show St.step (wts p) (X n) (St.run (wts p) X start n) = _
    rw [run_states p X n]
    exact step_eq p _ _

section Result

open Cert.KernelIdeal Cert.KernelIdeal.Gen

variable (m : (ℓ : Loc nD τ sig) → Buf (Elt Ideal) ℓ) (d : Dev nD)

/-- The kernel's two directions' parameters. -/
abbrev kerF : Params := ⟨arg m d main_arg2, arg m d main_arg3, arg m d main_arg4, arg m d main_arg5⟩
abbrev kerB : Params := ⟨arg m d main_arg6, arg m d main_arg7, arg m d main_arg8, arg m d main_arg9⟩

/-- The kernel's result, by textbook steps. -/
theorem result_eq : (W9 (F := Ideal) m d main_v41 : S1024x256.Idx → EReal)
    = concatenate S1024x256 1 [⟨S1024x128, (states (kerF m d) (emb (arg m d main_arg1) (arg m d main_arg0)) 200).h⟩,
        ⟨S1024x128, (states (kerB m d) (fun n => emb (arg m d main_arg1) (arg m d main_arg0) (199 - n)) 200).h⟩]
        concatenates_S1024x128_S1024x128_S1024x256_d1 := by
  have f : (fwd (F := Ideal) m d 200).h = (states (kerF m d) (emb (arg m d main_arg1) (arg m d main_arg0)) 200).h :=
    congrArg St.h (run_states (kerF m d) _ 200)
  have b : (bwd (F := Ideal) m d 200).h = (states (kerB m d) (fun n => emb (arg m d main_arg1) (arg m d main_arg0) (199 - n)) 200).h :=
    congrArg St.h (run_states (kerB m d) _ 200)
  rw [W9_v41, f, b]

end Result

/-- From memories that agree on the arguments, the two programs' results agree. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hw : ∀ j, (tokens (F := Ideal) m c j).toNat < 100000)
    (h0 : Ref.given m' c Cert.ReferenceIdeal.main_arg0 = arg m c Cert.KernelIdeal.main_arg0) (h1 : Ref.given m' c Cert.ReferenceIdeal.main_arg1 = arg m c Cert.KernelIdeal.main_arg1)
    (h2 : Ref.given m' c Cert.ReferenceIdeal.main_arg2 = arg m c Cert.KernelIdeal.main_arg2) (h3 : Ref.given m' c Cert.ReferenceIdeal.main_arg3 = arg m c Cert.KernelIdeal.main_arg3)
    (h4 : Ref.given m' c Cert.ReferenceIdeal.main_arg4 = arg m c Cert.KernelIdeal.main_arg4) (h5 : Ref.given m' c Cert.ReferenceIdeal.main_arg5 = arg m c Cert.KernelIdeal.main_arg5)
    (h6 : Ref.given m' c Cert.ReferenceIdeal.main_arg6 = arg m c Cert.KernelIdeal.main_arg6) (h7 : Ref.given m' c Cert.ReferenceIdeal.main_arg7 = arg m c Cert.KernelIdeal.main_arg7)
    (h8 : Ref.given m' c Cert.ReferenceIdeal.main_arg8 = arg m c Cert.KernelIdeal.main_arg8) (h9 : Ref.given m' c Cert.ReferenceIdeal.main_arg9 = arg m c Cert.KernelIdeal.main_arg9) :
    (Cert.ReferenceIdeal.Value.out_main_v4 (Cert.ReferenceIdeal.Value.STEP^[200] (StableHlo.entryContents Cert.ReferenceIdeal.Value.preI m' c)) : Cert.KernelIdeal.S1024x256.Idx → EReal)
      = W9 (F := Ideal) m c Cert.KernelIdeal.main_v41 := by
  have t : Ref.tok m' c = tokens (F := Ideal) m c := h0
  have hw' : ∀ j, (Ref.tok m' c j).toNat < 100000 := fun j => by rw [t]; exact hw j
  have e0 : Ref.tok m' c = arg m c Cert.KernelIdeal.main_arg0 := h0
  have e1 : Ref.tab m' c = arg m c Cert.KernelIdeal.main_arg1 := h1
  have eF : Ref.parF m' c = kerF m c := by
    show Params.mk _ _ _ _ = Params.mk _ _ _ _
    rw [h2, h3, h4, h5]
  have eB : Ref.parB m' c = kerB m c := by
    show Params.mk _ _ _ _ = Params.mk _ _ _ _
    rw [h6, h7, h8, h9]
  refine (Ref.out_eq m' c hw').trans (Eq.trans ?_ (result_eq m c).symm)
  rw [eF, eB, e0, e1]

theorem algebraic : Cert.algebraic_KernelIdeal_ReferenceIdeal := fun m g m' g' hp ha =>
  ⟨fun c => W9 (F := Ideal) m c Cert.KernelIdeal.main_v41,
    (θ_run (Cert.KernelIdeal.defs (F := Ideal)) _ _).mono (fun _ r c => r.1 c) (run_all (F := Ideal) m g (words_KernelIdeal m hp)),
    (θ_run (Cert.ReferenceIdeal.defs (F := Ideal)) _ _).mono (fun _ r c => ⟨(r c).1.trans (by
      obtain ⟨h0, h1, h2, h3, h4, h5, h6, h7, h8, h9⟩ := ha c
      exact results_agree m m' c (words_KernelIdeal m hp c) h0 h1 h2 h3 h4 h5 h6 h7 h8 h9), (r c).2⟩)
      (Cert.ReferenceIdeal.Value.run m' g')⟩

end Cert.Proof
end
-- ==== Proof.lean ====
/-
The proof of `Cert.Claim` (Defs.lean). Every piece is in a module of its own:

- the SparseCore gathers: Gather, GatherRun, GatherLoop, Tasks, Tile, Rows, Payload;
- the three recurrence stages: Stage, StagePoint, StageRun, Region, RegionPoint, Region2, Region3, Region4;
- the main program's run and what every buffer holds at its end: Setup, Ops, Main, Contents, Chain, Words;
- the frames: Frames;
- the kernel's step over the extended reals is the textbook's: Logistic, Cell;
- the reference, its lookup, step and scan: RefTake, RefCell, RefRun;
- the two results are one: Algebraic.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_tokens_in_vocab
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_tokens_in_vocab.Gen.facts,
  frame_Kernel, frame_KernelIdeal, frame_ReferenceIdeal, frame_ReferenceIdeal_pre, trivial, algebraic⟩

end Cert.Proof

end
